-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Pinv (m : (ℓ : Loc Cert.Pinv.nD Cert.Pinv.τ Cert.Pinv.sig) → Buf (Elt Bits) ℓ) : Prop :=
  True

def Pre_PinvIdeal (m : (ℓ : Loc Cert.PinvIdeal.nD Cert.PinvIdeal.τ Cert.PinvIdeal.sig) → Buf (Elt Ideal) ℓ) : Prop :=
  True

def Pre_PinvIdeal_nonnegative [hPre_nonnegative : Cert.Pre_nonnegative.Facts] (m : (ℓ : Loc Cert.PinvIdeal.nD Cert.PinvIdeal.τ Cert.PinvIdeal.sig) → Buf (Elt Ideal) ℓ) : Prop :=
  ∀ c : Dev Cert.PinvIdeal.nD,
    (Cert.Pre_nonnegative.fn (F := Ideal) (m ((c.tc : Thread Cert.PinvIdeal.nD Cert.PinvIdeal.τ).loc Cert.PinvIdeal.main_arg0)) (m ((c.tc : Thread Cert.PinvIdeal.nD Cert.PinvIdeal.τ).loc Cert.PinvIdeal.main_arg1))) = (fun _ => 1#1)

def Pre_PinvReferenceIdeal (m : (ℓ : Loc Cert.PinvReferenceIdeal.nD Cert.PinvReferenceIdeal.τ Cert.PinvReferenceIdeal.sig) → Buf (Elt Ideal) ℓ) : Prop :=
  True

def Pre_PinvReferenceIdeal_nonnegative [hPre_nonnegative : Cert.Pre_nonnegative.Facts] (m : (ℓ : Loc Cert.PinvReferenceIdeal.nD Cert.PinvReferenceIdeal.τ Cert.PinvReferenceIdeal.sig) → Buf (Elt Ideal) ℓ) : Prop :=
  ∀ c : Dev Cert.PinvReferenceIdeal.nD,
    (Cert.Pre_nonnegative.fn (F := Ideal) (m ((c.tc : Thread Cert.PinvReferenceIdeal.nD Cert.PinvReferenceIdeal.τ).loc Cert.PinvReferenceIdeal.main_arg0)) (m ((c.tc : Thread Cert.PinvReferenceIdeal.nD Cert.PinvReferenceIdeal.τ).loc Cert.PinvReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Pinv [hPinv : Cert.Pinv.Facts] : Prop :=
  ∀ (m : (ℓ : Loc Cert.Pinv.nD Cert.Pinv.τ Cert.Pinv.sig) → Buf (Elt Bits) ℓ) (g : Dev Cert.Pinv.nD → PrngReg), Pre_Pinv m →
    θ_run (Cert.Pinv.defs (F := Bits)) (onTc (τ := Cert.Pinv.τ) (Cert.Pinv.main (F := Bits))) ⟨m, fun _ => 0, g⟩ (fun r => (∀ c : Dev Cert.Pinv.nD,
      r.2.mem ((c.tc : Thread Cert.Pinv.nD Cert.Pinv.τ).loc Cert.Pinv.main_arg0) = m ((c.tc : Thread Cert.Pinv.nD Cert.Pinv.τ).loc Cert.Pinv.main_arg0)
      ∧ r.2.mem ((c.tc : Thread Cert.Pinv.nD Cert.Pinv.τ).loc Cert.Pinv.main_arg1) = m ((c.tc : Thread Cert.Pinv.nD Cert.Pinv.τ).loc Cert.Pinv.main_arg1))
      ∧ r.2.sem = fun _ => 0)

def quiescent_PinvIdeal [hPinvIdeal : Cert.PinvIdeal.Facts] : Prop :=
  ∀ (m : (ℓ : Loc Cert.PinvIdeal.nD Cert.PinvIdeal.τ Cert.PinvIdeal.sig) → Buf (Elt Ideal) ℓ) (g : Dev Cert.PinvIdeal.nD → PrngReg), Pre_PinvIdeal m →
    θ_run (Cert.PinvIdeal.defs (F := Ideal)) (onTc (τ := Cert.PinvIdeal.τ) (Cert.PinvIdeal.main (F := Ideal))) ⟨m, fun _ => 0, g⟩ (fun r => (∀ c : Dev Cert.PinvIdeal.nD,
      r.2.mem ((c.tc : Thread Cert.PinvIdeal.nD Cert.PinvIdeal.τ).loc Cert.PinvIdeal.main_arg0) = m ((c.tc : Thread Cert.PinvIdeal.nD Cert.PinvIdeal.τ).loc Cert.PinvIdeal.main_arg0)
      ∧ r.2.mem ((c.tc : Thread Cert.PinvIdeal.nD Cert.PinvIdeal.τ).loc Cert.PinvIdeal.main_arg1) = m ((c.tc : Thread Cert.PinvIdeal.nD Cert.PinvIdeal.τ).loc Cert.PinvIdeal.main_arg1))
      ∧ r.2.sem = fun _ => 0)

def quiescent_PinvIdeal_pre_nonnegative [hPinvIdeal : Cert.PinvIdeal.Facts] [hPre_nonnegative : Cert.Pre_nonnegative.Facts] : Prop :=
  ∀ (m : (ℓ : Loc Cert.PinvIdeal.nD Cert.PinvIdeal.τ Cert.PinvIdeal.sig) → Buf (Elt Ideal) ℓ) (g : Dev Cert.PinvIdeal.nD → PrngReg), Pre_PinvIdeal_nonnegative m →
    θ_run (Cert.PinvIdeal.defs (F := Ideal)) (onTc (τ := Cert.PinvIdeal.τ) (Cert.PinvIdeal.main (F := Ideal))) ⟨m, fun _ => 0, g⟩ (fun r => (∀ c : Dev Cert.PinvIdeal.nD,
      r.2.mem ((c.tc : Thread Cert.PinvIdeal.nD Cert.PinvIdeal.τ).loc Cert.PinvIdeal.main_arg0) = m ((c.tc : Thread Cert.PinvIdeal.nD Cert.PinvIdeal.τ).loc Cert.PinvIdeal.main_arg0)
      ∧ r.2.mem ((c.tc : Thread Cert.PinvIdeal.nD Cert.PinvIdeal.τ).loc Cert.PinvIdeal.main_arg1) = m ((c.tc : Thread Cert.PinvIdeal.nD Cert.PinvIdeal.τ).loc Cert.PinvIdeal.main_arg1))
      ∧ r.2.sem = fun _ => 0)

def quiescent_PinvReferenceIdeal [hPinvReferenceIdeal : Cert.PinvReferenceIdeal.Facts] : Prop :=
  ∀ (m : (ℓ : Loc Cert.PinvReferenceIdeal.nD Cert.PinvReferenceIdeal.τ Cert.PinvReferenceIdeal.sig) → Buf (Elt Ideal) ℓ) (g : Dev Cert.PinvReferenceIdeal.nD → PrngReg), Pre_PinvReferenceIdeal m →
    θ_run (Cert.PinvReferenceIdeal.defs (F := Ideal)) (onTc (τ := Cert.PinvReferenceIdeal.τ) (Cert.PinvReferenceIdeal.main (F := Ideal))) ⟨m, fun _ => 0, g⟩ (fun r => (∀ c : Dev Cert.PinvReferenceIdeal.nD,
      r.2.mem ((c.tc : Thread Cert.PinvReferenceIdeal.nD Cert.PinvReferenceIdeal.τ).loc Cert.PinvReferenceIdeal.main_arg0) = m ((c.tc : Thread Cert.PinvReferenceIdeal.nD Cert.PinvReferenceIdeal.τ).loc Cert.PinvReferenceIdeal.main_arg0)
      ∧ r.2.mem ((c.tc : Thread Cert.PinvReferenceIdeal.nD Cert.PinvReferenceIdeal.τ).loc Cert.PinvReferenceIdeal.main_arg1) = m ((c.tc : Thread Cert.PinvReferenceIdeal.nD Cert.PinvReferenceIdeal.τ).loc Cert.PinvReferenceIdeal.main_arg1))
      ∧ r.2.sem = fun _ => 0)

def quiescent_PinvReferenceIdeal_pre_nonnegative [hPinvReferenceIdeal : Cert.PinvReferenceIdeal.Facts] [hPre_nonnegative : Cert.Pre_nonnegative.Facts] : Prop :=
  ∀ (m : (ℓ : Loc Cert.PinvReferenceIdeal.nD Cert.PinvReferenceIdeal.τ Cert.PinvReferenceIdeal.sig) → Buf (Elt Ideal) ℓ) (g : Dev Cert.PinvReferenceIdeal.nD → PrngReg), Pre_PinvReferenceIdeal_nonnegative m →
    θ_run (Cert.PinvReferenceIdeal.defs (F := Ideal)) (onTc (τ := Cert.PinvReferenceIdeal.τ) (Cert.PinvReferenceIdeal.main (F := Ideal))) ⟨m, fun _ => 0, g⟩ (fun r => (∀ c : Dev Cert.PinvReferenceIdeal.nD,
      r.2.mem ((c.tc : Thread Cert.PinvReferenceIdeal.nD Cert.PinvReferenceIdeal.τ).loc Cert.PinvReferenceIdeal.main_arg0) = m ((c.tc : Thread Cert.PinvReferenceIdeal.nD Cert.PinvReferenceIdeal.τ).loc Cert.PinvReferenceIdeal.main_arg0)
      ∧ r.2.mem ((c.tc : Thread Cert.PinvReferenceIdeal.nD Cert.PinvReferenceIdeal.τ).loc Cert.PinvReferenceIdeal.main_arg1) = m ((c.tc : Thread Cert.PinvReferenceIdeal.nD Cert.PinvReferenceIdeal.τ).loc Cert.PinvReferenceIdeal.main_arg1))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Pinv_PinvIdeal : Prop :=
  True

def algebraic_PinvIdeal_PinvReferenceIdeal_pre_nonnegative [hPinvIdeal : Cert.PinvIdeal.Facts] [hPinvReferenceIdeal : Cert.PinvReferenceIdeal.Facts] [hPre_nonnegative : Cert.Pre_nonnegative.Facts] : Prop :=
  ∀ (m : (ℓ : Loc Cert.PinvIdeal.nD Cert.PinvIdeal.τ Cert.PinvIdeal.sig) → Buf (Elt Ideal) ℓ) (g : Dev Cert.PinvIdeal.nD → PrngReg)
    (m' : (ℓ : Loc Cert.PinvReferenceIdeal.nD Cert.PinvReferenceIdeal.τ Cert.PinvReferenceIdeal.sig) → Buf (Elt Ideal) ℓ) (g' : Dev Cert.PinvReferenceIdeal.nD → PrngReg), Pre_PinvIdeal_nonnegative m →
    (∀ c : Dev Cert.PinvIdeal.nD,
      m' ((c.tc : Thread Cert.PinvReferenceIdeal.nD Cert.PinvReferenceIdeal.τ).loc Cert.PinvReferenceIdeal.main_arg0) = m ((c.tc : Thread Cert.PinvIdeal.nD Cert.PinvIdeal.τ).loc Cert.PinvIdeal.main_arg0)
      ∧ m' ((c.tc : Thread Cert.PinvReferenceIdeal.nD Cert.PinvReferenceIdeal.τ).loc Cert.PinvReferenceIdeal.main_arg1) = m ((c.tc : Thread Cert.PinvIdeal.nD Cert.PinvIdeal.τ).loc Cert.PinvIdeal.main_arg1)) →
    ∃ (v0 : (c : Dev Cert.PinvIdeal.nD) → Buf (Elt Ideal) ((c.tc : Thread Cert.PinvIdeal.nD Cert.PinvIdeal.τ).loc Cert.PinvIdeal.main_v0_0)) (v1 : (c : Dev Cert.PinvIdeal.nD) → Buf (Elt Ideal) ((c.tc : Thread Cert.PinvIdeal.nD Cert.PinvIdeal.τ).loc Cert.PinvIdeal.main_v0_1)),
      θ_run (Cert.PinvIdeal.defs (F := Ideal)) (onTc (τ := Cert.PinvIdeal.τ) (Cert.PinvIdeal.main (F := Ideal))) ⟨m, fun _ => 0, g⟩ (fun r => ∀ c : Dev Cert.PinvIdeal.nD,
          r.2.mem ((c.tc : Thread Cert.PinvIdeal.nD Cert.PinvIdeal.τ).loc Cert.PinvIdeal.main_v0_0) = v0 c
          ∧ r.2.mem ((c.tc : Thread Cert.PinvIdeal.nD Cert.PinvIdeal.τ).loc Cert.PinvIdeal.main_v0_1) = v1 c
          ∧ r.2.mem ((c.tc : Thread Cert.PinvIdeal.nD Cert.PinvIdeal.τ).loc Cert.PinvIdeal.main_arg0) = m ((c.tc : Thread Cert.PinvIdeal.nD Cert.PinvIdeal.τ).loc Cert.PinvIdeal.main_arg0)
          ∧ r.2.mem ((c.tc : Thread Cert.PinvIdeal.nD Cert.PinvIdeal.τ).loc Cert.PinvIdeal.main_arg1) = m ((c.tc : Thread Cert.PinvIdeal.nD Cert.PinvIdeal.τ).loc Cert.PinvIdeal.main_arg1))
      ∧ θ_run (Cert.PinvReferenceIdeal.defs (F := Ideal)) (onTc (τ := Cert.PinvReferenceIdeal.τ) (Cert.PinvReferenceIdeal.main (F := Ideal))) ⟨m', fun _ => 0, g'⟩ (fun r => ∀ c : Dev Cert.PinvReferenceIdeal.nD,
          r.2.mem ((c.tc : Thread Cert.PinvReferenceIdeal.nD Cert.PinvReferenceIdeal.τ).loc Cert.PinvReferenceIdeal.main_v142) = v0 c
          ∧ r.2.mem ((c.tc : Thread Cert.PinvReferenceIdeal.nD Cert.PinvReferenceIdeal.τ).loc Cert.PinvReferenceIdeal.main_v144) = v1 c
          ∧ r.2.mem ((c.tc : Thread Cert.PinvReferenceIdeal.nD Cert.PinvReferenceIdeal.τ).loc Cert.PinvReferenceIdeal.main_arg0) = m' ((c.tc : Thread Cert.PinvReferenceIdeal.nD Cert.PinvReferenceIdeal.τ).loc Cert.PinvReferenceIdeal.main_arg0)
          ∧ r.2.mem ((c.tc : Thread Cert.PinvReferenceIdeal.nD Cert.PinvReferenceIdeal.τ).loc Cert.PinvReferenceIdeal.main_arg1) = m' ((c.tc : Thread Cert.PinvReferenceIdeal.nD Cert.PinvReferenceIdeal.τ).loc Cert.PinvReferenceIdeal.main_arg1))

def Claim : Prop :=
  ∃ (hKernel : Cert.Kernel.Facts) (hKernelIdeal : Cert.KernelIdeal.Facts) (hReferenceIdeal : Cert.ReferenceIdeal.Facts) (hPinv : Cert.Pinv.Facts) (hPinvIdeal : Cert.PinvIdeal.Facts) (hPinvReferenceIdeal : Cert.PinvReferenceIdeal.Facts) (hPre_finite : Cert.Pre_finite.Facts) (hPre_nonnegative : Cert.Pre_nonnegative.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Pinv (hPinv := hPinv)
    ∧ quiescent_PinvIdeal (hPinvIdeal := hPinvIdeal)
    ∧ quiescent_PinvIdeal_pre_nonnegative (hPinvIdeal := hPinvIdeal) (hPre_nonnegative := hPre_nonnegative)
    ∧ quiescent_PinvReferenceIdeal (hPinvReferenceIdeal := hPinvReferenceIdeal)
    ∧ quiescent_PinvReferenceIdeal_pre_nonnegative (hPinvReferenceIdeal := hPinvReferenceIdeal) (hPre_nonnegative := hPre_nonnegative)
    ∧ preserves_Kernel_KernelIdeal
    ∧ algebraic_KernelIdeal_ReferenceIdeal_pre_finite (hKernelIdeal := hKernelIdeal) (hReferenceIdeal := hReferenceIdeal) (hPre_finite := hPre_finite)
    ∧ preserves_Pinv_PinvIdeal
    ∧ algebraic_PinvIdeal_PinvReferenceIdeal_pre_nonnegative (hPinvIdeal := hPinvIdeal) (hPinvReferenceIdeal := hPinvReferenceIdeal) (hPre_nonnegative := hPre_nonnegative)
-- ==== Pre_finite.lean ====
abbrev S24x40960x128 : Shape := ⟨3, ![24, 40960, 128]⟩
abbrev S24x16 : Shape := ⟨2, ![24, 16]⟩
abbrev S24x16x64x128 : Shape := ⟨4, ![24, 16, 64, 128]⟩
abbrev S24x2560x16x128 : Shape := ⟨4, ![24, 2560, 16, 128]⟩
abbrev S16x33 : Shape := ⟨2, ![16, 33]⟩
abbrev S_ : Shape := ⟨0, ![]⟩

class Facts : Prop where
  bcast_S_S24x40960x128 : S_.BroadcastsInDim S24x40960x128 (![] : Fin 0 → Fin S24x40960x128.rank)
  reducesTo_S24x40960x128_S_d0_1_2 : S24x40960x128.ReducesTo [0, 1, 2] S_
  h_S_ : 0 < S_.numel
  bcast_S_S24x16 : S_.BroadcastsInDim S24x16 (![] : Fin 0 → Fin S24x16.rank)
  reducesTo_S24x16_S_d0_1 : S24x16.ReducesTo [0, 1] S_
  bcast_S_S24x16x64x128 : S_.BroadcastsInDim S24x16x64x128 (![] : Fin 0 → Fin S24x16x64x128.rank)
  reducesTo_S24x16x64x128_S_d0_1_2_3 : S24x16x64x128.ReducesTo [0, 1, 2, 3] S_
  bcast_S_S16x33 : S_.BroadcastsInDim S16x33 (![] : Fin 0 → Fin S16x33.rank)
  reducesTo_S16x33_S_d0_1 : S16x33.ReducesTo [0, 1] S_

variable [Facts]

def fn_part1 {F : FTy → Type} [FloatOps F] (main_arg6 : FVec F S16x33 .f32) (main_v13 : IVec S_ 1) (main_v16 : IVec S24x16 1) : IVec S_ 1 :=
  let main_c_5 : IVec S_ 1 := constantI S_ 1 1#1
  let main_v17 : IVec S_ 1 := (fun x v => Host.reduce IntOp.andi x v reducesTo_S24x16_S_d0_1 h_S_) main_v16 main_c_5
  let main_v18 : IVec S_ 1 := andi main_v13 main_v17
  let main_v19 : FVec F S16x33 .f32 := Host.absf main_arg6
  let main_cst_6 : FVec F S_ .f32 := constant S_ .f32 0x7F800000#32
  let main_v20 : FVec F S16x33 .f32 := broadcastInDim S16x33 ![] bcast_S_S16x33 main_cst_6
  let main_v21 : IVec S16x33 1 := cmpf .olt main_v19 main_v20
  let main_c_7 : IVec S_ 1 := constantI S_ 1 1#1
  let main_v22 : IVec S_ 1 := (fun x v => Host.reduce IntOp.andi x v reducesTo_S16x33_S_d0_1 h_S_) main_v21 main_c_7
  let main_v23 : IVec S_ 1 := andi main_v18 main_v22
  main_v23

def fn {F : FTy → Type} [FloatOps F] (main_arg0 : FVec F S24x40960x128 .f32) (main_arg1 : FVec F S24x16 .f32) (main_arg2 : FVec F S24x16x64x128 .f32) (main_arg3 : FVec F S24x16 .f32) (main_arg4 : FVec F S24x16x64x128 .bf16) (main_arg5 : FVec F S24x2560x16x128 .bf16) (main_arg6 : FVec F S16x33 .f32) : IVec S_ 1 :=
  let main_v0 : FVec F S24x40960x128 .f32 := Host.absf main_arg0
  let main_cst : FVec F S_ .f32 := constant S_ .f32 0x7F800000#32
  let main_v1 : FVec F S24x40960x128 .f32 := broadcastInDim S24x40960x128 ![] bcast_S_S24x40960x128 main_cst
  let main_v2 : IVec S24x40960x128 1 := cmpf .olt main_v0 main_v1
  let main_c : IVec S_ 1 := constantI S_ 1 1#1
  let main_v3 : IVec S_ 1 := (fun x v => Host.reduce IntOp.andi x v reducesTo_S24x40960x128_S_d0_1_2 h_S_) main_v2 main_c
  let main_v4 : FVec F S24x16 .f32 := Host.absf main_arg1
  let main_cst_0 : FVec F S_ .f32 := constant S_ .f32 0x7F800000#32
  let main_v5 : FVec F S24x16 .f32 := broadcastInDim S24x16 ![] bcast_S_S24x16 main_cst_0
  let main_v6 : IVec S24x16 1 := cmpf .olt main_v4 main_v5
  let main_c_1 : IVec S_ 1 := constantI S_ 1 1#1
  let main_v7 : IVec S_ 1 := (fun x v => Host.reduce IntOp.andi x v reducesTo_S24x16_S_d0_1 h_S_) main_v6 main_c_1
  let main_v8 : IVec S_ 1 := andi main_v3 main_v7
  let main_v9 : FVec F S24x16x64x128 .f32 := Host.absf main_arg2
  let main_cst_2 : FVec F S_ .f32 := constant S_ .f32 0x7F800000#32
  let main_v10 : FVec F S24x16x64x128 .f32 := broadcastInDim S24x16x64x128 ![] bcast_S_S24x16x64x128 main_cst_2
  let main_v11 : IVec S24x16x64x128 1 := cmpf .olt main_v9 main_v10
  let main_c_3 : IVec S_ 1 := constantI S_ 1 1#1
  let main_v12 : IVec S_ 1 := (fun x v => Host.reduce IntOp.andi x v reducesTo_S24x16x64x128_S_d0_1_2_3 h_S_) main_v11 main_c_3
  let main_v13 : IVec S_ 1 := andi main_v8 main_v12
  let main_v14 : FVec F S24x16 .f32 := Host.absf main_arg3
  let main_cst_4 : FVec F S_ .f32 := constant S_ .f32 0x7F800000#32
  let main_v15 : FVec F S24x16 .f32 := broadcastInDim S24x16 ![] bcast_S_S24x16 main_cst_4
  let main_v16 : IVec S24x16 1 := cmpf .olt main_v14 main_v15
  fn_part1 (F := F) main_arg6 main_v13 main_v16
-- ==== Pre_nonnegative.lean ====
abbrev S96x64x256 : Shape := ⟨3, ![96, 64, 256]⟩
abbrev S96x4x64x128 : Shape := ⟨4, ![96, 4, 64, 128]⟩
abbrev S_ : Shape := ⟨0, ![]⟩

class Facts : Prop where
  bcast_S_S96x64x256 : S_.BroadcastsInDim S96x64x256 (![] : Fin 0 → Fin S96x64x256.rank)
  reducesTo_S96x64x256_S_d0_1_2 : S96x64x256.ReducesTo [0, 1, 2] S_
  h_S_ : 0 < S_.numel
  bcast_S_S96x4x64x128 : S_.BroadcastsInDim S96x4x64x128 (![] : Fin 0 → Fin S96x4x64x128.rank)
  reducesTo_S96x4x64x128_S_d0_1_2_3 : S96x4x64x128.ReducesTo [0, 1, 2, 3] S_

variable [Facts]

def fn {F : FTy → Type} [FloatOps F] (main_arg0 : FVec F S96x64x256 .f32) (main_arg1 : FVec F S96x4x64x128 .f32) : IVec S_ 1 :=
  let main_cst : FVec F S_ .f32 := constant S_ .f32 0x00000000#32
  let main_v0 : FVec F S96x64x256 .f32 := broadcastInDim S96x64x256 ![] bcast_S_S96x64x256 main_cst
  let main_v1 : IVec S96x64x256 1 := cmpf .oge main_arg0 main_v0
  let main_c : IVec S_ 1 := constantI S_ 1 1#1
  let main_v2 : IVec S_ 1 := (fun x v => Host.reduce IntOp.andi x v reducesTo_S96x64x256_S_d0_1_2 h_S_) main_v1 main_c
  let main_cst_0 : FVec F S_ .f32 := constant S_ .f32 0x7F800000#32
  let main_v3 : FVec F S96x4x64x128 .f32 := broadcastInDim S96x4x64x128 ![] bcast_S_S96x4x64x128 main_cst_0
  let main_v4 : IVec S96x4x64x128 1 := cmpf .olt main_arg1 main_v3
  let main_c_1 : IVec S_ 1 := constantI S_ 1 1#1
  let main_v5 : IVec S_ 1 := (fun x v => Host.reduce IntOp.andi x v reducesTo_S96x4x64x128_S_d0_1_2_3 h_S_) main_v4 main_c_1
  let main_v6 : IVec S_ 1 := andi main_v2 main_v5
  main_v6
-- ==== Kernel.lean ====
abbrev S24x40960x128 : Shape := ⟨3, ![24, 40960, 128]⟩
abbrev S24x16 : Shape := ⟨2, ![24, 16]⟩
abbrev S24x16x64x128 : Shape := ⟨4, ![24, 16, 64, 128]⟩
abbrev S24x2560x16x128 : Shape := ⟨4, ![24, 2560, 16, 128]⟩
abbrev S16x33 : Shape := ⟨2, ![16, 33]⟩
abbrev S128 : Shape := ⟨1, ![128]⟩
abbrev S128x1 : Shape := ⟨2, ![128, 1]⟩
abbrev S160 : Shape := ⟨1, ![160]⟩
abbrev S1x160 : Shape := ⟨2, ![1, 160]⟩
abbrev S128x160 : Shape := ⟨2, ![128, 160]⟩
abbrev S_ : Shape := ⟨0, ![]⟩
abbrev S1x128x160 : Shape := ⟨3, ![1, 128, 160]⟩
abbrev S128x160x1 : Shape := ⟨3, ![128, 160, 1]⟩
abbrev S16x128x160 : Shape := ⟨3, ![16, 128, 160]⟩
abbrev S16x128x480 : Shape := ⟨3, ![16, 128, 480]⟩
abbrev S384 : Shape := ⟨1, ![384]⟩
abbrev S24x2560x2048 : Shape := ⟨3, ![24, 2560, 2048]⟩
abbrev S1x20480x128 : Shape := ⟨3, ![1, 20480, 128]⟩
abbrev S1x16x64x128 : Shape := ⟨4, ![1, 16, 64, 128]⟩
abbrev S1x256x128 : Shape := ⟨3, ![1, 256, 128]⟩
abbrev S1x1280x2048 : Shape := ⟨3, ![1, 1280, 2048]⟩
abbrev S16x1280x128 : Shape := ⟨3, ![16, 1280, 128]⟩
abbrev S16x1312x128 : Shape := ⟨3, ![16, 1312, 128]⟩
abbrev S1x512x128 : Shape := ⟨3, ![1, 512, 128]⟩
abbrev S512x128 : Shape := ⟨2, ![512, 128]⟩
abbrev S32x16x128 : Shape := ⟨3, ![32, 16, 128]⟩
abbrev S32x1x128 : Shape := ⟨3, ![32, 1, 128]⟩
abbrev S32x128 : Shape := ⟨2, ![32, 128]⟩
abbrev S1x32x128 : Shape := ⟨3, ![1, 32, 128]⟩
abbrev S256x128 : Shape := ⟨2, ![256, 128]⟩
abbrev S16x16x128 : Shape := ⟨3, ![16, 16, 128]⟩
abbrev S16x128 : Shape := ⟨2, ![16, 128]⟩
abbrev S16x1x128 : Shape := ⟨3, ![16, 1, 128]⟩
abbrev S1x16x128 : Shape := ⟨3, ![1, 16, 128]⟩
abbrev S64x128 : Shape := ⟨2, ![64, 128]⟩
abbrev S1 : Shape := ⟨1, ![1]⟩
abbrev S1x1x64x128 : Shape := ⟨4, ![1, 1, 64, 128]⟩
abbrev S64x256 : Shape := ⟨2, ![64, 256]⟩
abbrev S128x256 : Shape := ⟨2, ![128, 256]⟩
abbrev S256 : Shape := ⟨1, ![256]⟩
abbrev S1x256 : Shape := ⟨2, ![1, 256]⟩
abbrev S128x128 : Shape := ⟨2, ![128, 128]⟩
abbrev S1x160x128 : Shape := ⟨3, ![1, 160, 128]⟩
abbrev S160x128 : Shape := ⟨2, ![160, 128]⟩
abbrev S160x256 : Shape := ⟨2, ![160, 256]⟩
abbrev S1x128x480 : Shape := ⟨3, ![1, 128, 480]⟩
abbrev S128x480 : Shape := ⟨2, ![128, 480]⟩
abbrev S480x256 : Shape := ⟨2, ![480, 256]⟩
abbrev S1x128x128 : Shape := ⟨3, ![1, 128, 128]⟩

abbrev nBuf : Space → Nat
  | .hbm => 61
  | .vmem => 17
  | .smem => 1
  | _ => 0

abbrev bufTy : (tb : Table) → Fin (tcTables nBuf tb) → BufTy
  | .hbm, ⟨0, _⟩ => ⟨S24x40960x128, .f32⟩
  | .hbm, ⟨1, _⟩ => ⟨S24x16, .f32⟩
  | .hbm, ⟨2, _⟩ => ⟨S24x16x64x128, .f32⟩
  | .hbm, ⟨3, _⟩ => ⟨S24x16, .f32⟩
  | .hbm, ⟨4, _⟩ => ⟨S24x16x64x128, .bf16⟩
  | .hbm, ⟨5, _⟩ => ⟨S24x2560x16x128, .bf16⟩
  | .hbm, ⟨6, _⟩ => ⟨S16x33, .f32⟩
  | .hbm, ⟨7, _⟩ => ⟨S24x40960x128, .fp8e4m3⟩
  | .hbm, ⟨8, _⟩ => ⟨S24x16x64x128, .fp8e4m3⟩
  | .hbm, ⟨9, _⟩ => ⟨S24x40960x128, .bf16⟩
  | .hbm, ⟨10, _⟩ => ⟨S128, .i32⟩
  | .hbm, ⟨11, _⟩ => ⟨S128x1, .i32⟩
  | .hbm, ⟨12, _⟩ => ⟨S160, .i32⟩
  | .hbm, ⟨13, _⟩ => ⟨S1x160, .i32⟩
  | .hbm, ⟨14, _⟩ => ⟨S128x160, .i32⟩
  | .hbm, ⟨15, _⟩ => ⟨S128x160, .i32⟩
  | .hbm, ⟨16, _⟩ => ⟨S128x160, .i32⟩
  | .hbm, ⟨17, _⟩ => ⟨S_, .i32⟩
  | .hbm, ⟨18, _⟩ => ⟨S128x160, .i32⟩
  | .hbm, ⟨19, _⟩ => ⟨S128x160, .i1⟩
  | .hbm, ⟨20, _⟩ => ⟨S_, .i32⟩
  | .hbm, ⟨21, _⟩ => ⟨S128x160, .i32⟩
  | .hbm, ⟨22, _⟩ => ⟨S128x160, .i1⟩
  | .hbm, ⟨23, _⟩ => ⟨S128x160, .i1⟩
  | .hbm, ⟨24, _⟩ => ⟨S1x128x160, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S128x160, .i32⟩
  | .hbm, ⟨29, _⟩ => ⟨S128x160, .i32⟩
  | .hbm, ⟨30, _⟩ => ⟨S_, .i32⟩
  | .hbm, ⟨31, _⟩ => ⟨S128x160, .i32⟩
  | .hbm, ⟨32, _⟩ => ⟨S128x160, .i32⟩
  | .hbm, ⟨33, _⟩ => ⟨S_, .i32⟩
  | .hbm, ⟨34, _⟩ => ⟨S128x160, .i32⟩
  | .hbm, ⟨35, _⟩ => ⟨S128x160, .i1⟩
  | .hbm, ⟨36, _⟩ => ⟨S_, .i32⟩
  | .hbm, ⟨37, _⟩ => ⟨S128x160, .i32⟩
  | .hbm, ⟨38, _⟩ => ⟨S128x160, .i32⟩
  | .hbm, ⟨39, _⟩ => ⟨S128x160, .i32⟩
  | .hbm, ⟨40, _⟩ => ⟨S128x160x1, .i32⟩
  | .hbm, ⟨41, _⟩ => ⟨S16x128x160, .f32⟩
  | .hbm, ⟨42, _⟩ => ⟨S_, .f32⟩
  | .hbm, ⟨43, _⟩ => ⟨S_, .f32⟩
  | .hbm, ⟨44, _⟩ => ⟨S16x128x160, .i1⟩
  | .hbm, ⟨45, _⟩ => ⟨S16x128x160, .f32⟩
  | .hbm, ⟨46, _⟩ => ⟨S16x128x160, .f32⟩
  | .hbm, ⟨47, _⟩ => ⟨S16x128x160, .bf16⟩
  | .hbm, ⟨48, _⟩ => ⟨S16x128x160, .f32⟩
  | .hbm, ⟨49, _⟩ => ⟨S16x128x160, .f32⟩
  | .hbm, ⟨50, _⟩ => ⟨S16x128x160, .bf16⟩
  | .hbm, ⟨51, _⟩ => ⟨S16x128x160, .f32⟩
  | .hbm, ⟨52, _⟩ => ⟨S16x128x160, .f32⟩
  | .hbm, ⟨53, _⟩ => ⟨S16x128x160, .bf16⟩
  | .hbm, ⟨54, _⟩ => ⟨S16x128x480, .bf16⟩
  | .hbm, ⟨55, _⟩ => ⟨S_, .f32⟩
  | .hbm, ⟨56, _⟩ => ⟨S24x16, .f32⟩
  | .hbm, ⟨57, _⟩ => ⟨S24x16, .f32⟩
  | .hbm, ⟨58, _⟩ => ⟨S24x16, .f32⟩
  | .hbm, ⟨59, _⟩ => ⟨S384, .f32⟩
  | .hbm, ⟨60, _⟩ => ⟨S24x2560x2048, .bf16⟩
  | .local _ .vmem, ⟨0, _⟩ => ⟨S1x20480x128, .fp8e4m3⟩
  | .local _ .vmem, ⟨1, _⟩ => ⟨S1x20480x128, .fp8e4m3⟩
  | .local _ .vmem, ⟨2, _⟩ => ⟨S1x16x64x128, .fp8e4m3⟩
  | .local _ .vmem, ⟨3, _⟩ => ⟨S1x16x64x128, .fp8e4m3⟩
  | .local _ .vmem, ⟨4, _⟩ => ⟨S1x16x64x128, .bf16⟩
  | .local _ .vmem, ⟨5, _⟩ => ⟨S1x16x64x128, .bf16⟩
  | .local _ .vmem, ⟨6, _⟩ => ⟨S1x20480x128, .bf16⟩
  | .local _ .vmem, ⟨7, _⟩ => ⟨S1x20480x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S16x128x480, .bf16⟩
  | .local _ .vmem, ⟨13, _⟩ => ⟨S1x1280x2048, .bf16⟩
  | .local _ .vmem, ⟨14, _⟩ => ⟨S1x1280x2048, .bf16⟩
  | .local _ .vmem, ⟨15, _⟩ => ⟨S16x1280x128, .fp8e4m3⟩
  | .local _ .vmem, ⟨16, _⟩ => ⟨S16x1312x128, .bf16⟩
  | .local _ .smem, ⟨0, _⟩ => ⟨S384, .f32⟩
  | _, _ => ⟨S24x40960x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![24, 2], ![false, false]⟩

@[reducible] def k0_t1_loop : Scf.Loop 32 :=
  let c0_i32 : BitVec 32 := 0#32
  let c40_i32 : BitVec 32 := 40#32
  let v0 : BitVec 32 := Scalar.addi c0_i32 c40_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32 : BitVec 32 := 32#32
  let v239 : BitVec 32 := Scalar.muli arg13 c32_i32
  let c16_i32_123 : BitVec 32 := 16#32
  let v240 : BitVec 32 := Scalar.muli v239 c16_i32_123
  v240
def k0_off1 (k0_t1 : Fin k0_t1_loop.trips) : Fin 3 → Nat :=
  let c0_124 : Index := 0#32
  let c0_i32 : BitVec 32 := 0#32
  let c1_i32 : BitVec 32 := 1#32
  let arg13 : BitVec 32 := Scf.iv c0_i32 c1_i32 k0_t1
  let c32_i32 : BitVec 32 := 32#32
  let v239 : BitVec 32 := Scalar.muli arg13 c32_i32
  let c16_i32_123 : BitVec 32 := 16#32
  let v240 : BitVec 32 := Scalar.muli v239 c16_i32_123
  let v241 : BitVec 32 := v240
  let v242 : Index := Scalar.indexCast v241
  let c0_125 : Index := 0#32
  ![0, v242.toNat, 0]
def k0_mult2 (k0_t1 : Fin k0_t1_loop.trips) : BitVec 32 :=
  let c16_i32_127 : BitVec 32 := 16#32
  let c0_i32 : BitVec 32 := 0#32
  let c1_i32 : BitVec 32 := 1#32
  let arg13 : BitVec 32 := Scf.iv c0_i32 c1_i32 k0_t1
  let c32_i32_126 : BitVec 32 := 32#32
  let v248 : BitVec 32 := Scalar.muli arg13 c32_i32_126
  let v249 : BitVec 32 := Scalar.addi c16_i32_127 v248
  v249
def k0_off2 (k0_t1 : Fin k0_t1_loop.trips) : Fin 3 → Nat :=
  let c0_128 : Index := 0#32
  let c16_i32_127 : BitVec 32 := 16#32
  let c0_i32 : BitVec 32 := 0#32
  let c1_i32 : BitVec 32 := 1#32
  let arg13 : BitVec 32 := Scf.iv c0_i32 c1_i32 k0_t1
  let c32_i32_126 : BitVec 32 := 32#32
  let v248 : BitVec 32 := Scalar.muli arg13 c32_i32_126
  let v249 : BitVec 32 := Scalar.addi c16_i32_127 v248
  let v250 : BitVec 32 := v249
  let v251 : Index := Scalar.indexCast v250
  let c0_129 : Index := 0#32
  ![0, v251.toNat, 0]
def k0_mult3 (k0_t1 : Fin k0_t1_loop.trips) : BitVec 32 :=
  let c16_i32_131 : BitVec 32 := 16#32
  let c0_i32 : BitVec 32 := 0#32
  let c1_i32 : BitVec 32 := 1#32
  let arg13 : BitVec 32 := Scf.iv c0_i32 c1_i32 k0_t1
  let c32_i32_130 : BitVec 32 := 32#32
  let v257 : BitVec 32 := Scalar.muli arg13 c32_i32_130
  let v258 : BitVec 32 := Scalar.addi c16_i32_131 v257
  v258
def k0_off3 (k0_t1 : Fin k0_t1_loop.trips) : Fin 3 → Nat :=
  let c1_132 : Index := 1#32
  let c16_i32_131 : BitVec 32 := 16#32
  let c0_i32 : BitVec 32 := 0#32
  let c1_i32 : BitVec 32 := 1#32
  let arg13 : BitVec 32 := Scf.iv c0_i32 c1_i32 k0_t1
  let c32_i32_130 : BitVec 32 := 32#32
  let v257 : BitVec 32 := Scalar.muli arg13 c32_i32_130
  let v258 : BitVec 32 := Scalar.addi c16_i32_131 v257
  let v259 : BitVec 32 := v258
  let v260 : Index := Scalar.indexCast v259
  let c0_133 : Index := 0#32
  ![1, v260.toNat, 0]
def k0_mult4 (k0_t1 : Fin k0_t1_loop.trips) : BitVec 32 :=
  let c16_i32_135 : BitVec 32 := 16#32
  let c0_i32 : BitVec 32 := 0#32
  let c1_i32 : BitVec 32 := 1#32
  let arg13 : BitVec 32 := Scf.iv c0_i32 c1_i32 k0_t1
  let c32_i32_134 : BitVec 32 := 32#32
  let v266 : BitVec 32 := Scalar.muli arg13 c32_i32_134
  let v267 : BitVec 32 := Scalar.addi c16_i32_135 v266
  v267
def k0_off4 (k0_t1 : Fin k0_t1_loop.trips) : Fin 3 → Nat :=
  let c2_136 : Index := 2#32
  let c16_i32_135 : BitVec 32 := 16#32
  let c0_i32 : BitVec 32 := 0#32
  let c1_i32 : BitVec 32 := 1#32
  let arg13 : BitVec 32 := Scf.iv c0_i32 c1_i32 k0_t1
  let c32_i32_134 : BitVec 32 := 32#32
  let v266 : BitVec 32 := Scalar.muli arg13 c32_i32_134
  let v267 : BitVec 32 := Scalar.addi c16_i32_135 v266
  let v268 : BitVec 32 := v267
  let v269 : Index := Scalar.indexCast v268
  let c0_137 : Index := 0#32
  ![2, v269.toNat, 0]
def k0_mult5 (k0_t1 : Fin k0_t1_loop.trips) : BitVec 32 :=
  let c16_i32_139 : BitVec 32 := 16#32
  let c0_i32 : BitVec 32 := 0#32
  let c1_i32 : BitVec 32 := 1#32
  let arg13 : BitVec 32 := Scf.iv c0_i32 c1_i32 k0_t1
  let c32_i32_138 : BitVec 32 := 32#32
  let v275 : BitVec 32 := Scalar.muli arg13 c32_i32_138
  let v276 : BitVec 32 := Scalar.addi c16_i32_139 v275
  v276
def k0_off5 (k0_t1 : Fin k0_t1_loop.trips) : Fin 3 → Nat :=
  let c3_140 : Index := 3#32
  let c16_i32_139 : BitVec 32 := 16#32
  let c0_i32 : BitVec 32 := 0#32
  let c1_i32 : BitVec 32 := 1#32
  let arg13 : BitVec 32 := Scf.iv c0_i32 c1_i32 k0_t1
  let c32_i32_138 : BitVec 32 := 32#32
  let v275 : BitVec 32 := Scalar.muli arg13 c32_i32_138
  let v276 : BitVec 32 := Scalar.addi c16_i32_139 v275
  let v277 : BitVec 32 := v276
  let v278 : Index := Scalar.indexCast v277
  let c0_141 : Index := 0#32
  ![3, v278.toNat, 0]
def k0_mult6 (k0_t1 : Fin k0_t1_loop.trips) : BitVec 32 :=
  let c16_i32_143 : BitVec 32 := 16#32
  let c0_i32 : BitVec 32 := 0#32
  let c1_i32 : BitVec 32 := 1#32
  let arg13 : BitVec 32 := Scf.iv c0_i32 c1_i32 k0_t1
  let c32_i32_142 : BitVec 32 := 32#32
  let v284 : BitVec 32 := Scalar.muli arg13 c32_i32_142
  let v285 : BitVec 32 := Scalar.addi c16_i32_143 v284
  v285
def k0_off6 (k0_t1 : Fin k0_t1_loop.trips) : Fin 3 → Nat :=
  let c4_144 : Index := 4#32
  let c16_i32_143 : BitVec 32 := 16#32
  let c0_i32 : BitVec 32 := 0#32
  let c1_i32 : BitVec 32 := 1#32
  let arg13 : BitVec 32 := Scf.iv c0_i32 c1_i32 k0_t1
  let c32_i32_142 : BitVec 32 := 32#32
  let v284 : BitVec 32 := Scalar.muli arg13 c32_i32_142
  let v285 : BitVec 32 := Scalar.addi c16_i32_143 v284
  let v286 : BitVec 32 := v285
  let v287 : Index := Scalar.indexCast v286
  let c0_145 : Index := 0#32
  ![4, v287.toNat, 0]
def k0_mult7 (k0_t1 : Fin k0_t1_loop.trips) : BitVec 32 :=
  let c16_i32_147 : BitVec 32 := 16#32
  let c0_i32 : BitVec 32 := 0#32
  let c1_i32 : BitVec 32 := 1#32
  let arg13 : BitVec 32 := Scf.iv c0_i32 c1_i32 k0_t1
  let c32_i32_146 : BitVec 32 := 32#32
  let v293 : BitVec 32 := Scalar.muli arg13 c32_i32_146
  let v294 : BitVec 32 := Scalar.addi c16_i32_147 v293
  v294
def k0_off7 (k0_t1 : Fin k0_t1_loop.trips) : Fin 3 → Nat :=
  let c5_148 : Index := 5#32
  let c16_i32_147 : BitVec 32 := 16#32
  let c0_i32 : BitVec 32 := 0#32
  let c1_i32 : BitVec 32 := 1#32
  let arg13 : BitVec 32 := Scf.iv c0_i32 c1_i32 k0_t1
  let c32_i32_146 : BitVec 32 := 32#32
  let v293 : BitVec 32 := Scalar.muli arg13 c32_i32_146
  let v294 : BitVec 32 := Scalar.addi c16_i32_147 v293
  let v295 : BitVec 32 := v294
  let v296 : Index := Scalar.indexCast v295
  let c0_149 : Index := 0#32
  ![5, v296.toNat, 0]
def k0_mult8 (k0_t1 : Fin k0_t1_loop.trips) : BitVec 32 :=
  let c16_i32_151 : BitVec 32 := 16#32
  let c0_i32 : BitVec 32 := 0#32
  let c1_i32 : BitVec 32 := 1#32
  let arg13 : BitVec 32 := Scf.iv c0_i32 c1_i32 k0_t1
  let c32_i32_150 : BitVec 32 := 32#32
  let v302 : BitVec 32 := Scalar.muli arg13 c32_i32_150
  let v303 : BitVec 32 := Scalar.addi c16_i32_151 v302
  v303
def k0_off8 (k0_t1 : Fin k0_t1_loop.trips) : Fin 3 → Nat :=
  let c6_152 : Index := 6#32
  let c16_i32_151 : BitVec 32 := 16#32
  let c0_i32 : BitVec 32 := 0#32
  let c1_i32 : BitVec 32 := 1#32
  let arg13 : BitVec 32 := Scf.iv c0_i32 c1_i32 k0_t1
  let c32_i32_150 : BitVec 32 := 32#32
  let v302 : BitVec 32 := Scalar.muli arg13 c32_i32_150
  let v303 : BitVec 32 := Scalar.addi c16_i32_151 v302
  let v304 : BitVec 32 := v303
  let v305 : Index := Scalar.indexCast v304
  let c0_153 : Index := 0#32
  ![6, v305.toNat, 0]
def k0_mult9 (k0_t1 : Fin k0_t1_loop.trips) : BitVec 32 :=
  let c16_i32_155 : BitVec 32 := 16#32
  let c0_i32 : BitVec 32 := 0#32
  let c1_i32 : BitVec 32 := 1#32
  let arg13 : BitVec 32 := Scf.iv c0_i32 c1_i32 k0_t1
  let c32_i32_154 : BitVec 32 := 32#32
  let v311 : BitVec 32 := Scalar.muli arg13 c32_i32_154
  let v312 : BitVec 32 := Scalar.addi c16_i32_155 v311
  v312
def k0_off9 (k0_t1 : Fin k0_t1_loop.trips) : Fin 3 → Nat :=
  let c7_156 : Index := 7#32
  let c16_i32_155 : BitVec 32 := 16#32
  let c0_i32 : BitVec 32 := 0#32
  let c1_i32 : BitVec 32 := 1#32
  let arg13 : BitVec 32 := Scf.iv c0_i32 c1_i32 k0_t1
  let c32_i32_154 : BitVec 32 := 32#32
  let v311 : BitVec 32 := Scalar.muli arg13 c32_i32_154
  let v312 : BitVec 32 := Scalar.addi c16_i32_155 v311
  let v313 : BitVec 32 := v312
  let v314 : Index := Scalar.indexCast v313
  let c0_157 : Index := 0#32
  ![7, v314.toNat, 0]
def k0_mult10 (k0_t1 : Fin k0_t1_loop.trips) : BitVec 32 :=
  let c16_i32_159 : BitVec 32 := 16#32
  let c0_i32 : BitVec 32 := 0#32
  let c1_i32 : BitVec 32 := 1#32
  let arg13 : BitVec 32 := Scf.iv c0_i32 c1_i32 k0_t1
  let c32_i32_158 : BitVec 32 := 32#32
  let v320 : BitVec 32 := Scalar.muli arg13 c32_i32_158
  let v321 : BitVec 32 := Scalar.addi c16_i32_159 v320
  v321
def k0_off10 (k0_t1 : Fin k0_t1_loop.trips) : Fin 3 → Nat :=
  let c8_160 : Index := 8#32
  let c16_i32_159 : BitVec 32 := 16#32
  let c0_i32 : BitVec 32 := 0#32
  let c1_i32 : BitVec 32 := 1#32
  let arg13 : BitVec 32 := Scf.iv c0_i32 c1_i32 k0_t1
  let c32_i32_158 : BitVec 32 := 32#32
  let v320 : BitVec 32 := Scalar.muli arg13 c32_i32_158
  let v321 : BitVec 32 := Scalar.addi c16_i32_159 v320
  let v322 : BitVec 32 := v321
  let v323 : Index := Scalar.indexCast v322
  let c0_161 : Index := 0#32
  ![8, v323.toNat, 0]
def k0_mult11 (k0_t1 : Fin k0_t1_loop.trips) : BitVec 32 :=
  let c16_i32_163 : BitVec 32 := 16#32
  let c0_i32 : BitVec 32 := 0#32
  let c1_i32 : BitVec 32 := 1#32
  let arg13 : BitVec 32 := Scf.iv c0_i32 c1_i32 k0_t1
  let c32_i32_162 : BitVec 32 := 32#32
  let v329 : BitVec 32 := Scalar.muli arg13 c32_i32_162
  let v330 : BitVec 32 := Scalar.addi c16_i32_163 v329
  v330
def k0_off11 (k0_t1 : Fin k0_t1_loop.trips) : Fin 3 → Nat :=
  let c9_164 : Index := 9#32
  let c16_i32_163 : BitVec 32 := 16#32
  let c0_i32 : BitVec 32 := 0#32
  let c1_i32 : BitVec 32 := 1#32
  let arg13 : BitVec 32 := Scf.iv c0_i32 c1_i32 k0_t1
  let c32_i32_162 : BitVec 32 := 32#32
  let v329 : BitVec 32 := Scalar.muli arg13 c32_i32_162
  let v330 : BitVec 32 := Scalar.addi c16_i32_163 v329
  let v331 : BitVec 32 := v330
  let v332 : Index := Scalar.indexCast v331
  let c0_165 : Index := 0#32
  ![9, v332.toNat, 0]
def k0_mult12 (k0_t1 : Fin k0_t1_loop.trips) : BitVec 32 :=
  let c16_i32_167 : BitVec 32 := 16#32
  let c0_i32 : BitVec 32 := 0#32
  let c1_i32 : BitVec 32 := 1#32
  let arg13 : BitVec 32 := Scf.iv c0_i32 c1_i32 k0_t1
  let c32_i32_166 : BitVec 32 := 32#32
  let v338 : BitVec 32 := Scalar.muli arg13 c32_i32_166
  let v339 : BitVec 32 := Scalar.addi c16_i32_167 v338
  v339
def k0_off12 (k0_t1 : Fin k0_t1_loop.trips) : Fin 3 → Nat :=
  let c10_168 : Index := 10#32
  let c16_i32_167 : BitVec 32 := 16#32
  let c0_i32 : BitVec 32 := 0#32
  let c1_i32 : BitVec 32 := 1#32
  let arg13 : BitVec 32 := Scf.iv c0_i32 c1_i32 k0_t1
  let c32_i32_166 : BitVec 32 := 32#32
  let v338 : BitVec 32 := Scalar.muli arg13 c32_i32_166
  let v339 : BitVec 32 := Scalar.addi c16_i32_167 v338
  let v340 : BitVec 32 := v339
  let v341 : Index := Scalar.indexCast v340
  let c0_169 : Index := 0#32
  ![10, v341.toNat, 0]
def k0_mult13 (k0_t1 : Fin k0_t1_loop.trips) : BitVec 32 :=
  let c16_i32_171 : BitVec 32 := 16#32
  let c0_i32 : BitVec 32 := 0#32
  let c1_i32 : BitVec 32 := 1#32
  let arg13 : BitVec 32 := Scf.iv c0_i32 c1_i32 k0_t1
  let c32_i32_170 : BitVec 32 := 32#32
  let v347 : BitVec 32 := Scalar.muli arg13 c32_i32_170
  let v348 : BitVec 32 := Scalar.addi c16_i32_171 v347
  v348
def k0_off13 (k0_t1 : Fin k0_t1_loop.trips) : Fin 3 → Nat :=
  let c11_172 : Index := 11#32
  let c16_i32_171 : BitVec 32 := 16#32
  let c0_i32 : BitVec 32 := 0#32
  let c1_i32 : BitVec 32 := 1#32
  let arg13 : BitVec 32 := Scf.iv c0_i32 c1_i32 k0_t1
  let c32_i32_170 : BitVec 32 := 32#32
  let v347 : BitVec 32 := Scalar.muli arg13 c32_i32_170
  let v348 : BitVec 32 := Scalar.addi c16_i32_171 v347
  let v349 : BitVec 32 := v348
  let v350 : Index := Scalar.indexCast v349
  let c0_173 : Index := 0#32
  ![11, v350.toNat, 0]
def k0_mult14 (k0_t1 : Fin k0_t1_loop.trips) : BitVec 32 :=
  let c16_i32_175 : BitVec 32 := 16#32
  let c0_i32 : BitVec 32 := 0#32
  let c1_i32 : BitVec 32 := 1#32
  let arg13 : BitVec 32 := Scf.iv c0_i32 c1_i32 k0_t1
  let c32_i32_174 : BitVec 32 := 32#32
  let v356 : BitVec 32 := Scalar.muli arg13 c32_i32_174
  let v357 : BitVec 32 := Scalar.addi c16_i32_175 v356
  v357
def k0_off14 (k0_t1 : Fin k0_t1_loop.trips) : Fin 3 → Nat :=
  let c12_176 : Index := 12#32
  let c16_i32_175 : BitVec 32 := 16#32
  let c0_i32 : BitVec 32 := 0#32
  let c1_i32 : BitVec 32 := 1#32
  let arg13 : BitVec 32 := Scf.iv c0_i32 c1_i32 k0_t1
  let c32_i32_174 : BitVec 32 := 32#32
  let v356 : BitVec 32 := Scalar.muli arg13 c32_i32_174
  let v357 : BitVec 32 := Scalar.addi c16_i32_175 v356
  let v358 : BitVec 32 := v357
  let v359 : Index := Scalar.indexCast v358
  let c0_177 : Index := 0#32
  ![12, v359.toNat, 0]
def k0_mult15 (k0_t1 : Fin k0_t1_loop.trips) : BitVec 32 :=
  let c16_i32_179 : BitVec 32 := 16#32
  let c0_i32 : BitVec 32 := 0#32
  let c1_i32 : BitVec 32 := 1#32
  let arg13 : BitVec 32 := Scf.iv c0_i32 c1_i32 k0_t1
  let c32_i32_178 : BitVec 32 := 32#32
  let v365 : BitVec 32 := Scalar.muli arg13 c32_i32_178
  let v366 : BitVec 32 := Scalar.addi c16_i32_179 v365
  v366
def k0_off15 (k0_t1 : Fin k0_t1_loop.trips) : Fin 3 → Nat :=
  let c13_180 : Index := 13#32
  let c16_i32_179 : BitVec 32 := 16#32
  let c0_i32 : BitVec 32 := 0#32
  let c1_i32 : BitVec 32 := 1#32
  let arg13 : BitVec 32 := Scf.iv c0_i32 c1_i32 k0_t1
  let c32_i32_178 : BitVec 32 := 32#32
  let v365 : BitVec 32 := Scalar.muli arg13 c32_i32_178
  let v366 : BitVec 32 := Scalar.addi c16_i32_179 v365
  let v367 : BitVec 32 := v366
  let v368 : Index := Scalar.indexCast v367
  let c0_181 : Index := 0#32
  ![13, v368.toNat, 0]
def k0_mult16 (k0_t1 : Fin k0_t1_loop.trips) : BitVec 32 :=
  let c16_i32_183 : BitVec 32 := 16#32
  let c0_i32 : BitVec 32 := 0#32
  let c1_i32 : BitVec 32 := 1#32
  let arg13 : BitVec 32 := Scf.iv c0_i32 c1_i32 k0_t1
  let c32_i32_182 : BitVec 32 := 32#32
  let v374 : BitVec 32 := Scalar.muli arg13 c32_i32_182
  let v375 : BitVec 32 := Scalar.addi c16_i32_183 v374
  v375
def k0_off16 (k0_t1 : Fin k0_t1_loop.trips) : Fin 3 → Nat :=
  let c14_184 : Index := 14#32
  let c16_i32_183 : BitVec 32 := 16#32
  let c0_i32 : BitVec 32 := 0#32
  let c1_i32 : BitVec 32 := 1#32
  let arg13 : BitVec 32 := Scf.iv c0_i32 c1_i32 k0_t1
  let c32_i32_182 : BitVec 32 := 32#32
  let v374 : BitVec 32 := Scalar.muli arg13 c32_i32_182
  let v375 : BitVec 32 := Scalar.addi c16_i32_183 v374
  let v376 : BitVec 32 := v375
  let v377 : Index := Scalar.indexCast v376
  let c0_185 : Index := 0#32
  ![14, v377.toNat, 0]
def k0_mult17 (k0_t1 : Fin k0_t1_loop.trips) : BitVec 32 :=
  let c16_i32_187 : BitVec 32 := 16#32
  let c0_i32 : BitVec 32 := 0#32
  let c1_i32 : BitVec 32 := 1#32
  let arg13 : BitVec 32 := Scf.iv c0_i32 c1_i32 k0_t1
  let c32_i32_186 : BitVec 32 := 32#32
  let v383 : BitVec 32 := Scalar.muli arg13 c32_i32_186
  let v384 : BitVec 32 := Scalar.addi c16_i32_187 v383
  v384
def k0_off17 (k0_t1 : Fin k0_t1_loop.trips) : Fin 3 → Nat :=
  let c15_188 : Index := 15#32
  let c16_i32_187 : BitVec 32 := 16#32
  let c0_i32 : BitVec 32 := 0#32
  let c1_i32 : BitVec 32 := 1#32
  let arg13 : BitVec 32 := Scf.iv c0_i32 c1_i32 k0_t1
  let c32_i32_186 : BitVec 32 := 32#32
  let v383 : BitVec 32 := Scalar.muli arg13 c32_i32_186
  let v384 : BitVec 32 := Scalar.addi c16_i32_187 v383
  let v385 : BitVec 32 := v384
  let v386 : Index := Scalar.indexCast v385
  let c0_189 : Index := 0#32
  ![15, v386.toNat, 0]
def k0_mult18 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_190 : BitVec 32 := 32#32
  let v390 : BitVec 32 := Scalar.muli arg13 c32_i32_190
  let c16_i32_191 : BitVec 32 := 16#32
  let v391 : BitVec 32 := Scalar.muli v390 c16_i32_191
  v391
def k0_mult19 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_194 : BitVec 32 := 32#32
  let v399 : BitVec 32 := Scalar.muli arg13 c32_i32_194
  v399
def k0_off18 (k0_t1 : Fin k0_t1_loop.trips) : Fin 3 → Nat :=
  let c0_195 : Index := 0#32
  let c0_i32 : BitVec 32 := 0#32
  let c1_i32 : BitVec 32 := 1#32
  let arg13 : BitVec 32 := Scf.iv c0_i32 c1_i32 k0_t1
  let c32_i32_194 : BitVec 32 := 32#32
  let v399 : BitVec 32 := Scalar.muli arg13 c32_i32_194
  let v400 : BitVec 32 := v399
  let v401 : Index := Scalar.indexCast v400
  let c0_196 : Index := 0#32
  ![0, v401.toNat, 0]
def k0_mult20 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_197 : BitVec 32 := 32#32
  let v407 : BitVec 32 := Scalar.muli arg13 c32_i32_197
  v407
def k0_off19 (k0_t1 : Fin k0_t1_loop.trips) : Fin 3 → Nat :=
  let c1_198 : Index := 1#32
  let c0_i32 : BitVec 32 := 0#32
  let c1_i32 : BitVec 32 := 1#32
  let arg13 : BitVec 32 := Scf.iv c0_i32 c1_i32 k0_t1
  let c32_i32_197 : BitVec 32 := 32#32
  let v407 : BitVec 32 := Scalar.muli arg13 c32_i32_197
  let v408 : BitVec 32 := v407
  let v409 : Index := Scalar.indexCast v408
  let c0_199 : Index := 0#32
  ![1, v409.toNat, 0]
def k0_mult21 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_200 : BitVec 32 := 32#32
  let v415 : BitVec 32 := Scalar.muli arg13 c32_i32_200
  v415
def k0_off20 (k0_t1 : Fin k0_t1_loop.trips) : Fin 3 → Nat :=
  let c2_201 : Index := 2#32
  let c0_i32 : BitVec 32 := 0#32
  let c1_i32 : BitVec 32 := 1#32
  let arg13 : BitVec 32 := Scf.iv c0_i32 c1_i32 k0_t1
  let c32_i32_200 : BitVec 32 := 32#32
  let v415 : BitVec 32 := Scalar.muli arg13 c32_i32_200
  let v416 : BitVec 32 := v415
  let v417 : Index := Scalar.indexCast v416
  let c0_202 : Index := 0#32
  ![2, v417.toNat, 0]
def k0_mult22 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_203 : BitVec 32 := 32#32
  let v423 : BitVec 32 := Scalar.muli arg13 c32_i32_203
  v423
def k0_off21 (k0_t1 : Fin k0_t1_loop.trips) : Fin 3 → Nat :=
  let c3_204 : Index := 3#32
  let c0_i32 : BitVec 32 := 0#32
  let c1_i32 : BitVec 32 := 1#32
  let arg13 : BitVec 32 := Scf.iv c0_i32 c1_i32 k0_t1
  let c32_i32_203 : BitVec 32 := 32#32
  let v423 : BitVec 32 := Scalar.muli arg13 c32_i32_203
  let v424 : BitVec 32 := v423
  let v425 : Index := Scalar.indexCast v424
  let c0_205 : Index := 0#32
  ![3, v425.toNat, 0]
def k0_mult23 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_206 : BitVec 32 := 32#32
  let v431 : BitVec 32 := Scalar.muli arg13 c32_i32_206
  v431
def k0_off22 (k0_t1 : Fin k0_t1_loop.trips) : Fin 3 → Nat :=
  let c4_207 : Index := 4#32
  let c0_i32 : BitVec 32 := 0#32
  let c1_i32 : BitVec 32 := 1#32
  let arg13 : BitVec 32 := Scf.iv c0_i32 c1_i32 k0_t1
  let c32_i32_206 : BitVec 32 := 32#32
  let v431 : BitVec 32 := Scalar.muli arg13 c32_i32_206
  let v432 : BitVec 32 := v431
  let v433 : Index := Scalar.indexCast v432
  let c0_208 : Index := 0#32
  ![4, v433.toNat, 0]
def k0_mult24 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_209 : BitVec 32 := 32#32
  let v439 : BitVec 32 := Scalar.muli arg13 c32_i32_209
  v439
def k0_off23 (k0_t1 : Fin k0_t1_loop.trips) : Fin 3 → Nat :=
  let c5_210 : Index := 5#32
  let c0_i32 : BitVec 32 := 0#32
  let c1_i32 : BitVec 32 := 1#32
  let arg13 : BitVec 32 := Scf.iv c0_i32 c1_i32 k0_t1
  let c32_i32_209 : BitVec 32 := 32#32
  let v439 : BitVec 32 := Scalar.muli arg13 c32_i32_209
  let v440 : BitVec 32 := v439
  let v441 : Index := Scalar.indexCast v440
  let c0_211 : Index := 0#32
  ![5, v441.toNat, 0]
def k0_mult25 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_212 : BitVec 32 := 32#32
  let v447 : BitVec 32 := Scalar.muli arg13 c32_i32_212
  v447
def k0_off24 (k0_t1 : Fin k0_t1_loop.trips) : Fin 3 → Nat :=
  let c6_213 : Index := 6#32
  let c0_i32 : BitVec 32 := 0#32
  let c1_i32 : BitVec 32 := 1#32
  let arg13 : BitVec 32 := Scf.iv c0_i32 c1_i32 k0_t1
  let c32_i32_212 : BitVec 32 := 32#32
  let v447 : BitVec 32 := Scalar.muli arg13 c32_i32_212
  let v448 : BitVec 32 := v447
  let v449 : Index := Scalar.indexCast v448
  let c0_214 : Index := 0#32
  ![6, v449.toNat, 0]
def k0_mult26 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_215 : BitVec 32 := 32#32
  let v455 : BitVec 32 := Scalar.muli arg13 c32_i32_215
  v455
def k0_off25 (k0_t1 : Fin k0_t1_loop.trips) : Fin 3 → Nat :=
  let c7_216 : Index := 7#32
  let c0_i32 : BitVec 32 := 0#32
  let c1_i32 : BitVec 32 := 1#32
  let arg13 : BitVec 32 := Scf.iv c0_i32 c1_i32 k0_t1
  let c32_i32_215 : BitVec 32 := 32#32
  let v455 : BitVec 32 := Scalar.muli arg13 c32_i32_215
  let v456 : BitVec 32 := v455
  let v457 : Index := Scalar.indexCast v456
  let c0_217 : Index := 0#32
  ![7, v457.toNat, 0]
def k0_mult27 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_218 : BitVec 32 := 32#32
  let v463 : BitVec 32 := Scalar.muli arg13 c32_i32_218
  v463
def k0_off26 (k0_t1 : Fin k0_t1_loop.trips) : Fin 3 → Nat :=
  let c8_219 : Index := 8#32
  let c0_i32 : BitVec 32 := 0#32
  let c1_i32 : BitVec 32 := 1#32
  let arg13 : BitVec 32 := Scf.iv c0_i32 c1_i32 k0_t1
  let c32_i32_218 : BitVec 32 := 32#32
  let v463 : BitVec 32 := Scalar.muli arg13 c32_i32_218
  let v464 : BitVec 32 := v463
  let v465 : Index := Scalar.indexCast v464
  let c0_220 : Index := 0#32
  ![8, v465.toNat, 0]
def k0_mult28 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_221 : BitVec 32 := 32#32
  let v471 : BitVec 32 := Scalar.muli arg13 c32_i32_221
  v471
def k0_off27 (k0_t1 : Fin k0_t1_loop.trips) : Fin 3 → Nat :=
  let c9_222 : Index := 9#32
  let c0_i32 : BitVec 32 := 0#32
  let c1_i32 : BitVec 32 := 1#32
  let arg13 : BitVec 32 := Scf.iv c0_i32 c1_i32 k0_t1
  let c32_i32_221 : BitVec 32 := 32#32
  let v471 : BitVec 32 := Scalar.muli arg13 c32_i32_221
  let v472 : BitVec 32 := v471
  let v473 : Index := Scalar.indexCast v472
  let c0_223 : Index := 0#32
  ![9, v473.toNat, 0]
def k0_mult29 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_224 : BitVec 32 := 32#32
  let v479 : BitVec 32 := Scalar.muli arg13 c32_i32_224
  v479
def k0_off28 (k0_t1 : Fin k0_t1_loop.trips) : Fin 3 → Nat :=
  let c10_225 : Index := 10#32
  let c0_i32 : BitVec 32 := 0#32
  let c1_i32 : BitVec 32 := 1#32
  let arg13 : BitVec 32 := Scf.iv c0_i32 c1_i32 k0_t1
  let c32_i32_224 : BitVec 32 := 32#32
  let v479 : BitVec 32 := Scalar.muli arg13 c32_i32_224
  let v480 : BitVec 32 := v479
  let v481 : Index := Scalar.indexCast v480
  let c0_226 : Index := 0#32
  ![10, v481.toNat, 0]
def k0_mult30 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_227 : BitVec 32 := 32#32
  let v487 : BitVec 32 := Scalar.muli arg13 c32_i32_227
  v487
def k0_off29 (k0_t1 : Fin k0_t1_loop.trips) : Fin 3 → Nat :=
  let c11_228 : Index := 11#32
  let c0_i32 : BitVec 32 := 0#32
  let c1_i32 : BitVec 32 := 1#32
  let arg13 : BitVec 32 := Scf.iv c0_i32 c1_i32 k0_t1
  let c32_i32_227 : BitVec 32 := 32#32
  let v487 : BitVec 32 := Scalar.muli arg13 c32_i32_227
  let v488 : BitVec 32 := v487
  let v489 : Index := Scalar.indexCast v488
  let c0_229 : Index := 0#32
  ![11, v489.toNat, 0]
def k0_mult31 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_230 : BitVec 32 := 32#32
  let v495 : BitVec 32 := Scalar.muli arg13 c32_i32_230
  v495
def k0_off30 (k0_t1 : Fin k0_t1_loop.trips) : Fin 3 → Nat :=
  let c12_231 : Index := 12#32
  let c0_i32 : BitVec 32 := 0#32
  let c1_i32 : BitVec 32 := 1#32
  let arg13 : BitVec 32 := Scf.iv c0_i32 c1_i32 k0_t1
  let c32_i32_230 : BitVec 32 := 32#32
  let v495 : BitVec 32 := Scalar.muli arg13 c32_i32_230
  let v496 : BitVec 32 := v495
  let v497 : Index := Scalar.indexCast v496
  let c0_232 : Index := 0#32
  ![12, v497.toNat, 0]
def k0_mult32 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_233 : BitVec 32 := 32#32
  let v503 : BitVec 32 := Scalar.muli arg13 c32_i32_233
  v503
def k0_off31 (k0_t1 : Fin k0_t1_loop.trips) : Fin 3 → Nat :=
  let c13_234 : Index := 13#32
  let c0_i32 : BitVec 32 := 0#32
  let c1_i32 : BitVec 32 := 1#32
  let arg13 : BitVec 32 := Scf.iv c0_i32 c1_i32 k0_t1
  let c32_i32_233 : BitVec 32 := 32#32
  let v503 : BitVec 32 := Scalar.muli arg13 c32_i32_233
  let v504 : BitVec 32 := v503
  let v505 : Index := Scalar.indexCast v504
  let c0_235 : Index := 0#32
  ![13, v505.toNat, 0]
def k0_mult33 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_236 : BitVec 32 := 32#32
  let v511 : BitVec 32 := Scalar.muli arg13 c32_i32_236
  v511
def k0_off32 (k0_t1 : Fin k0_t1_loop.trips) : Fin 3 → Nat :=
  let c14_237 : Index := 14#32
  let c0_i32 : BitVec 32 := 0#32
  let c1_i32 : BitVec 32 := 1#32
  let arg13 : BitVec 32 := Scf.iv c0_i32 c1_i32 k0_t1
  let c32_i32_236 : BitVec 32 := 32#32
  let v511 : BitVec 32 := Scalar.muli arg13 c32_i32_236
  let v512 : BitVec 32 := v511
  let v513 : Index := Scalar.indexCast v512
  let c0_238 : Index := 0#32
  ![14, v513.toNat, 0]
def k0_mult34 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32_239 : BitVec 32 := 32#32
  let v519 : BitVec 32 := Scalar.muli arg13 c32_i32_239
  v519
def k0_off33 (k0_t1 : Fin k0_t1_loop.trips) : Fin 3 → Nat :=
  let c15_240 : Index := 15#32
  let c0_i32 : BitVec 32 := 0#32
  let c1_i32 : BitVec 32 := 1#32
  let arg13 : BitVec 32 := Scf.iv c0_i32 c1_i32 k0_t1
  let c32_i32_239 : BitVec 32 := 32#32
  let v519 : BitVec 32 := Scalar.muli arg13 c32_i32_239
  let v520 : BitVec 32 := v519
  let v521 : Index := Scalar.indexCast v520
  let c0_241 : Index := 0#32
  ![15, v521.toNat, 0]
def k0_mult35 : BitVec 32 :=
  let c0_i32_3 : BitVec 32 := 0#32
  c0_i32_3
def k0_mult36 : BitVec 32 :=
  let c0_i32_53 : BitVec 32 := 0#32
  c0_i32_53
@[reducible] def k0_t2_loop : Scf.Loop 32 :=
  let c0_i32_120 : BitVec 32 := 0#32
  let c16_i32 : BitVec 32 := 16#32
  let v238 : BitVec 32 := Scalar.addi c0_i32_120 c16_i32
  let c1_i32_121 : BitVec 32 := 1#32
  ⟨c0_i32_120, v238, c1_i32_121⟩
def k0_off34 (i : grid0.Coords) (k0_t2 : Fin k0_t2_loop.trips) : Fin 1 → Nat :=
  let arg0 : BitVec 32 := BitVec.ofNat 32 (i 0).val
  let c16_i32_123 : BitVec 32 := 16#32
  let v239 : BitVec 32 := Scalar.muli arg0 c16_i32_123
  let c0_i32_120 : BitVec 32 := 0#32
  let c1_i32_121 : BitVec 32 := 1#32
  let arg13 : BitVec 32 := Scf.iv c0_i32_120 c1_i32_121 k0_t2
  let v240 : BitVec 32 := Scalar.addi v239 arg13
  let v241 : Index := Scalar.indexCast v240
  ![v241.toNat]
def k0_off35 (k0_t2 : Fin k0_t2_loop.trips) : Fin 4 → Nat :=
  let c0_125 : Index := 0#32
  let c0_i32_120 : BitVec 32 := 0#32
  let c1_i32_121 : BitVec 32 := 1#32
  let arg13 : BitVec 32 := Scf.iv c0_i32_120 c1_i32_121 k0_t2
  let v244 : Index := Scalar.indexCast arg13
  let c0_126 : Index := 0#32
  let c0_127 : Index := 0#32
  ![0, v244.toNat, 0, 0]
def k0_mult37 (k0_t2 : Fin k0_t2_loop.trips) : BitVec 32 :=
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  v250
def k0_off36 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v255 : Index := Scalar.indexCast arg13
  let c0_131 : Index := 0#32
  let c0_132 : Index := 0#32
  ![v255.toNat, 0, 0]
def k0_off37 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v277 : Index := Scalar.indexCast arg13
  let c0_138 : Index := 0#32
  let c0_139 : Index := 0#32
  ![v277.toNat, 0, 0]
def k0_off38 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v280 : Index := Scalar.indexCast arg13
  let c128 : Index := 128#32
  let c0_140 : Index := 0#32
  ![v280.toNat, 128, 0]
def k0_off39 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v284 : Index := Scalar.indexCast arg13
  let c0_141 : Index := 0#32
  let c0_142 : Index := 0#32
  ![v284.toNat, 0, 0]
def k0_off40 (k0_t2 : Fin k0_t2_loop.trips) : Fin 3 → Nat :=
  let c0_144 : Index := 0#32
  let c0_145 : Index := 0#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v292 : Index := Scalar.indexCast v251
  ![0, 0, v292.toNat]
def k0_off41 (k0_t2 : Fin k0_t2_loop.trips) : Fin 3 → Nat :=
  let c0_146 : Index := 0#32
  let c128_147 : Index := 128#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v297 : Index := Scalar.indexCast v251
  ![0, 128, v297.toNat]
def k0_off42 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v301 : Index := Scalar.indexCast arg13
  let c256 : Index := 256#32
  let c0_148 : Index := 0#32
  ![v301.toNat, 256, 0]
def k0_off43 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v323 : Index := Scalar.indexCast arg13
  let c256_154 : Index := 256#32
  let c0_155 : Index := 0#32
  ![v323.toNat, 256, 0]
def k0_off44 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v326 : Index := Scalar.indexCast arg13
  let c384 : Index := 384#32
  let c0_156 : Index := 0#32
  ![v326.toNat, 384, 0]
def k0_off45 (k0_t2 : Fin k0_t2_loop.trips) : Fin 3 → Nat :=
  let c0_160 : Index := 0#32
  let c256_161 : Index := 256#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v338 : Index := Scalar.indexCast v251
  ![0, 256, v338.toNat]
def k0_off46 (k0_t2 : Fin k0_t2_loop.trips) : Fin 3 → Nat :=
  let c0_162 : Index := 0#32
  let c384_163 : Index := 384#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v343 : Index := Scalar.indexCast v251
  ![0, 384, v343.toNat]
def k0_off47 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v347 : Index := Scalar.indexCast arg13
  let c512 : Index := 512#32
  let c0_164 : Index := 0#32
  ![v347.toNat, 512, 0]
def k0_off48 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v369 : Index := Scalar.indexCast arg13
  let c512_170 : Index := 512#32
  let c0_171 : Index := 0#32
  ![v369.toNat, 512, 0]
def k0_off49 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v372 : Index := Scalar.indexCast arg13
  let c640 : Index := 640#32
  let c0_172 : Index := 0#32
  ![v372.toNat, 640, 0]
def k0_off50 (k0_t2 : Fin k0_t2_loop.trips) : Fin 3 → Nat :=
  let c0_176 : Index := 0#32
  let c512_177 : Index := 512#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v384 : Index := Scalar.indexCast v251
  ![0, 512, v384.toNat]
def k0_off51 (k0_t2 : Fin k0_t2_loop.trips) : Fin 3 → Nat :=
  let c0_178 : Index := 0#32
  let c640_179 : Index := 640#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v389 : Index := Scalar.indexCast v251
  ![0, 640, v389.toNat]
def k0_off52 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v393 : Index := Scalar.indexCast arg13
  let c768 : Index := 768#32
  let c0_180 : Index := 0#32
  ![v393.toNat, 768, 0]
def k0_off53 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v415 : Index := Scalar.indexCast arg13
  let c768_186 : Index := 768#32
  let c0_187 : Index := 0#32
  ![v415.toNat, 768, 0]
def k0_off54 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v418 : Index := Scalar.indexCast arg13
  let c896 : Index := 896#32
  let c0_188 : Index := 0#32
  ![v418.toNat, 896, 0]
def k0_off55 (k0_t2 : Fin k0_t2_loop.trips) : Fin 3 → Nat :=
  let c0_192 : Index := 0#32
  let c768_193 : Index := 768#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v430 : Index := Scalar.indexCast v251
  ![0, 768, v430.toNat]
def k0_off56 (k0_t2 : Fin k0_t2_loop.trips) : Fin 3 → Nat :=
  let c0_194 : Index := 0#32
  let c896_195 : Index := 896#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v435 : Index := Scalar.indexCast v251
  ![0, 896, v435.toNat]
def k0_off57 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v439 : Index := Scalar.indexCast arg13
  let c1024 : Index := 1024#32
  let c0_196 : Index := 0#32
  ![v439.toNat, 1024, 0]
def k0_off58 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v461 : Index := Scalar.indexCast arg13
  let c1024_202 : Index := 1024#32
  let c0_203 : Index := 0#32
  ![v461.toNat, 1024, 0]
def k0_off59 (k0_t2 : Fin k0_t2_loop.trips) : Fin 3 → Nat :=
  let c0_i32_120 : BitVec 32 := 0#32
  let c1_i32_121 : BitVec 32 := 1#32
  let arg13 : BitVec 32 := Scf.iv c0_i32_120 c1_i32_121 k0_t2
  let v464 : Index := Scalar.indexCast arg13
  let c1152 : Index := 1152#32
  let c0_204 : Index := 0#32
  ![v464.toNat, 1152, 0]
def k0_off60 (k0_t2 : Fin k0_t2_loop.trips) : Fin 3 → Nat :=
  let c0_208 : Index := 0#32
  let c1024_209 : Index := 1024#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v476 : Index := Scalar.indexCast v251
  ![0, 1024, v476.toNat]
def k0_off61 (k0_t2 : Fin k0_t2_loop.trips) : Fin 3 → Nat :=
  let c0_210 : Index := 0#32
  let c1152_211 : Index := 1152#32
  let c0_i32_120 : BitVec 32 := 0#32
  let c1_i32_121 : BitVec 32 := 1#32
  let arg13 : BitVec 32 := Scf.iv c0_i32_120 c1_i32_121 k0_t2
  let c128_i32 : BitVec 32 := 128#32
  let v250 : BitVec 32 := Scalar.muli arg13 c128_i32
  let v251 : BitVec 32 := v250
  let v481 : Index := Scalar.indexCast v251
  ![0, 1152, v481.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.muli arg1 c80_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c80_i32 : BitVec 32 := 80#32
  let v1 : BitVec 32 := Scalar.muli v0 c80_i32
  let c159_i32 : BitVec 32 := 159#32
  let v2 : BitVec 32 := Scalar.minsi v1 c159_i32
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x20480x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x64x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x20480x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x128x480 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1280x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S24x40960x128 : Shape := ⟨3, ![24, 40960, 128]⟩
abbrev S24x16 : Shape := ⟨2, ![24, 16]⟩
abbrev S24x16x64x128 : Shape := ⟨4, ![24, 16, 64, 128]⟩
abbrev S24x2560x16x128 : Shape := ⟨4, ![24, 2560, 16, 128]⟩
abbrev S16x33 : Shape := ⟨2, ![16, 33]⟩
abbrev S24x16x2560x64 : Shape := ⟨4, ![24, 16, 2560, 64]⟩
abbrev S24x16x1x1 : Shape := ⟨4, ![24, 16, 1, 1]⟩
abbrev S_ : Shape := ⟨0, ![]⟩
abbrev S24x16x2560 : Shape := ⟨3, ![24, 16, 2560]⟩
abbrev S24x16x2560x1 : Shape := ⟨4, ![24, 16, 2560, 1]⟩
abbrev S24x16x128x2560 : Shape := ⟨4, ![24, 16, 128, 2560]⟩
abbrev S24x2560x2048 : Shape := ⟨3, ![24, 2560, 2048]⟩
abbrev S24x2592x16x128 : Shape := ⟨4, ![24, 2592, 16, 128]⟩
abbrev S2560 : Shape := ⟨1, ![2560]⟩
abbrev S2560x1 : Shape := ⟨2, ![2560, 1]⟩
abbrev S33 : Shape := ⟨1, ![33]⟩
abbrev S1x33 : Shape := ⟨2, ![1, 33]⟩
abbrev S2560x33 : Shape := ⟨2, ![2560, 33]⟩
abbrev S2560x33x1 : Shape := ⟨3, ![2560, 33, 1]⟩
abbrev S24x2560x33x16x128 : Shape := ⟨5, ![24, 2560, 33, 16, 128]⟩
abbrev S16x24x2560x128 : Shape := ⟨4, ![16, 24, 2560, 128]⟩

abbrev nBuf : Space → Nat
  | .hbm => 64
  | .vmem => 4
  | .smem => 0
  | _ => 0

abbrev bufTy : (tb : Table) → Fin (tcTables nBuf tb) → BufTy
  | .hbm, ⟨0, _⟩ => ⟨S24x40960x128, .f32⟩
  | .hbm, ⟨1, _⟩ => ⟨S24x16, .f32⟩
  | .hbm, ⟨2, _⟩ => ⟨S24x16x64x128, .f32⟩
  | .hbm, ⟨3, _⟩ => ⟨S24x16, .f32⟩
  | .hbm, ⟨4, _⟩ => ⟨S24x16x64x128, .bf16⟩
  | .hbm, ⟨5, _⟩ => ⟨S24x2560x16x128, .bf16⟩
  | .hbm, ⟨6, _⟩ => ⟨S16x33, .f32⟩
  | .hbm, ⟨7, _⟩ => ⟨S24x40960x128, .fp8e4m3⟩
  | .hbm, ⟨8, _⟩ => ⟨S24x16x64x128, .fp8e4m3⟩
  | .hbm, ⟨9, _⟩ => ⟨S24x40960x128, .f32⟩
  | .hbm, ⟨10, _⟩ => ⟨S24x16x64x128, .f32⟩
  | .hbm, ⟨11, _⟩ => ⟨S24x2560x16x128, .f32⟩
  | .hbm, ⟨12, _⟩ => ⟨S24x16x2560x64, .f32⟩
  | .hbm, ⟨13, _⟩ => ⟨S24x16x1x1, .f32⟩
  | .hbm, ⟨14, _⟩ => ⟨S_, .f32⟩
  | .hbm, ⟨15, _⟩ => ⟨S24x16x1x1, .f32⟩
  | .hbm, ⟨16, _⟩ => ⟨S24x16x1x1, .f32⟩
  | .hbm, ⟨17, _⟩ => ⟨S24x16x1x1, .f32⟩
  | .hbm, ⟨18, _⟩ => ⟨S24x16x1x1, .f32⟩
  | .hbm, ⟨19, _⟩ => ⟨S24x16x2560x64, .f32⟩
  | .hbm, ⟨20, _⟩ => ⟨S24x16x2560x64, .f32⟩
  | .hbm, ⟨21, _⟩ => ⟨S_, .f32⟩
  | .hbm, ⟨22, _⟩ => ⟨S24x16x2560, .f32⟩
  | .hbm, ⟨23, _⟩ => ⟨S_, .f32⟩
  | .hbm, ⟨24, _⟩ => ⟨S24x16x2560, .f32⟩
  | .hbm, ⟨25, _⟩ => ⟨S24x16x2560, .f32⟩
  | .hbm, ⟨26, _⟩ => ⟨S24x16x2560x1, .f32⟩
  | .hbm, ⟨27, _⟩ => ⟨S24x16x2560x64, .f32⟩
  | .hbm, ⟨28, _⟩ => ⟨S24x16x2560x64, .f32⟩
  | .hbm, ⟨29, _⟩ => ⟨S24x16x2560x64, .f32⟩
  | .hbm, ⟨30, _⟩ => ⟨S_, .f32⟩
  | .hbm, ⟨31, _⟩ => ⟨S24x16x2560, .f32⟩
  | .hbm, ⟨32, _⟩ => ⟨S24x16x2560x1, .f32⟩
  | .hbm, ⟨33, _⟩ => ⟨S24x16x2560x64, .f32⟩
  | .hbm, ⟨34, _⟩ => ⟨S24x16x2560x64, .f32⟩
  | .hbm, ⟨35, _⟩ => ⟨S24x16x2560x64, .bf16⟩
  | .hbm, ⟨36, _⟩ => ⟨S24x16x128x2560, .f32⟩
  | .hbm, ⟨37, _⟩ => ⟨S24x2560x16x128, .f32⟩
  | .hbm, ⟨38, _⟩ => ⟨S24x2560x2048, .f32⟩
  | .hbm, ⟨39, _⟩ => ⟨S24x2560x16x128, .f32⟩
  | .hbm, ⟨40, _⟩ => ⟨S_, .i32⟩
  | .hbm, ⟨41, _⟩ => ⟨S_, .f32⟩
  | .hbm, ⟨42, _⟩ => ⟨S24x2592x16x128, .f32⟩
  | .hbm, ⟨43, _⟩ => ⟨S2560, .i32⟩
  | .hbm, ⟨44, _⟩ => ⟨S2560x1, .i32⟩
  | .hbm, ⟨45, _⟩ => ⟨S33, .i32⟩
  | .hbm, ⟨46, _⟩ => ⟨S1x33, .i32⟩
  | .hbm, ⟨47, _⟩ => ⟨S2560x33, .i32⟩
  | .hbm, ⟨48, _⟩ => ⟨S2560x33, .i32⟩
  | .hbm, ⟨49, _⟩ => ⟨S2560x33, .i32⟩
  | .hbm, ⟨50, _⟩ => ⟨S_, .i32⟩
  | .hbm, ⟨51, _⟩ => ⟨S2560x33, .i32⟩
  | .hbm, ⟨52, _⟩ => ⟨S2560x33, .i1⟩
  | .hbm, ⟨53, _⟩ => ⟨S_, .i32⟩
  | .hbm, ⟨54, _⟩ => ⟨S2560x33, .i32⟩
  | .hbm, ⟨55, _⟩ => ⟨S2560x33, .i32⟩
  | .hbm, ⟨56, _⟩ => ⟨S2560x33, .i32⟩
  | .hbm, ⟨57, _⟩ => ⟨S2560x33x1, .i32⟩
  | .hbm, ⟨58, _⟩ => ⟨S24x2560x33x16x128, .f32⟩
  | .hbm, ⟨59, _⟩ => ⟨S16x24x2560x128, .f32⟩
  | .hbm, ⟨60, _⟩ => ⟨S24x2560x16x128, .f32⟩
  | .hbm, ⟨61, _⟩ => ⟨S24x2560x2048, .f32⟩
  | .hbm, ⟨62, _⟩ => ⟨S24x2560x2048, .f32⟩
  | .hbm, ⟨63, _⟩ => ⟨S24x2560x2048, .bf16⟩
  | .local _ .vmem, ⟨0, _⟩ => ⟨S24x40960x128, .fp8e4m3⟩
  | .local _ .vmem, ⟨1, _⟩ => ⟨S24x16x64x128, .fp8e4m3⟩
  | .local _ .vmem, ⟨2, _⟩ => ⟨S24x40960x128, .f32⟩
  | .local _ .vmem, ⟨3, _⟩ => ⟨S24x16x64x128, .f32⟩
  | _, _ => ⟨S24x40960x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_3 : Ref sig .tc := ⟨.hbm, 50, rfl⟩
abbrev main_v36 : Ref sig .tc := ⟨.hbm, 51, rfl⟩
abbrev main_v37 : Ref sig .tc := ⟨.hbm, 52, rfl⟩
abbrev main_c_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x40960x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x16x64x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x40960x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x16x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Pinv.lean ====
abbrev S96x64x256 : Shape := ⟨3, ![96, 64, 256]⟩
abbrev S96x4x64x128 : Shape := ⟨4, ![96, 4, 64, 128]⟩
abbrev S96x4x64x64 : Shape := ⟨4, ![96, 4, 64, 64]⟩
abbrev S4x64x256 : Shape := ⟨3, ![4, 64, 256]⟩
abbrev S4x4x64x128 : Shape := ⟨4, ![4, 4, 64, 128]⟩
abbrev S4x4x64x64 : Shape := ⟨4, ![4, 4, 64, 64]⟩
abbrev S64x256 : Shape := ⟨2, ![64, 256]⟩
abbrev S1x64x256 : Shape := ⟨3, ![1, 64, 256]⟩
abbrev S256x64 : Shape := ⟨2, ![256, 64]⟩
abbrev S64x64 : Shape := ⟨2, ![64, 64]⟩
abbrev S256 : Shape := ⟨1, ![256]⟩
abbrev S1x256 : Shape := ⟨2, ![1, 256]⟩
abbrev S64 : Shape := ⟨1, ![64]⟩
abbrev S64x1 : Shape := ⟨2, ![64, 1]⟩
abbrev S1 : Shape := ⟨1, ![1]⟩
abbrev S1x1 : Shape := ⟨2, ![1, 1]⟩
abbrev S256x256 : Shape := ⟨2, ![256, 256]⟩
abbrev S1x4x64x128 : Shape := ⟨4, ![1, 4, 64, 128]⟩
abbrev S4x64x128 : Shape := ⟨3, ![4, 64, 128]⟩
abbrev S256x128 : Shape := ⟨2, ![256, 128]⟩
abbrev S1x1x64x64 : Shape := ⟨4, ![1, 1, 64, 64]⟩

abbrev nBuf : Space → Nat
  | .hbm => 4
  | .vmem => 8
  | .smem => 0
  | _ => 0

abbrev bufTy : (tb : Table) → Fin (tcTables nBuf tb) → BufTy
  | .hbm, ⟨0, _⟩ => ⟨S96x64x256, .f32⟩
  | .hbm, ⟨1, _⟩ => ⟨S96x4x64x128, .f32⟩
  | .hbm, ⟨2, _⟩ => ⟨S96x4x64x64, .f32⟩
  | .hbm, ⟨3, _⟩ => ⟨S96x4x64x128, .bf16⟩
  | .local _ .vmem, ⟨0, _⟩ => ⟨S4x64x256, .f32⟩
  | .local _ .vmem, ⟨1, _⟩ => ⟨S4x64x256, .f32⟩
  | .local _ .vmem, ⟨2, _⟩ => ⟨S4x4x64x128, .f32⟩
  | .local _ .vmem, ⟨3, _⟩ => ⟨S4x4x64x128, .f32⟩
  | .local _ .vmem, ⟨4, _⟩ => ⟨S4x4x64x64, .f32⟩
  | .local _ .vmem, ⟨5, _⟩ => ⟨S4x4x64x64, .f32⟩
  | .local _ .vmem, ⟨6, _⟩ => ⟨S4x4x64x128, .bf16⟩
  | .local _ .vmem, ⟨7, _⟩ => ⟨S4x4x64x128, .bf16⟩
  | _, _ => ⟨S96x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_132 : BitVec 32 := 0#32
  let c6_i32 : BitVec 32 := 6#32
  let v427 : BitVec 32 := Scalar.addi c0_i32_132 c6_i32
  let c1_i32_133 : BitVec 32 := 1#32
  ⟨c0_i32_132, v427, c1_i32_133⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PinvReferenceIdeal.lean ====
abbrev S96x64x256 : Shape := ⟨3, ![96, 64, 256]⟩
abbrev S96x4x64x128 : Shape := ⟨4, ![96, 4, 64, 128]⟩
abbrev S96x64x4x64 : Shape := ⟨4, ![96, 64, 4, 64]⟩
abbrev S96x4x64x64 : Shape := ⟨4, ![96, 4, 64, 64]⟩
abbrev S64x64 : Shape := ⟨2, ![64, 64]⟩
abbrev S_ : Shape := ⟨0, ![]⟩
abbrev S96x4x64 : Shape := ⟨3, ![96, 4, 64]⟩
abbrev S96x4 : Shape := ⟨2, ![96, 4]⟩
abbrev S96x4x1x1 : Shape := ⟨4, ![96, 4, 1, 1]⟩
abbrev S1x1x64x64 : Shape := ⟨4, ![1, 1, 64, 64]⟩

abbrev nBuf : Space → Nat
  | .hbm => 176
  | .vmem => 0
  | .smem => 0
  | _ => 0

abbrev hbmTy0_0 (i : Nat) : BufTy := match i % 128 with
  | 0 => ⟨S96x64x256, .f32⟩
  | 1 => ⟨S96x4x64x128, .f32⟩
  | 2 => ⟨S96x64x4x64, .f32⟩
  | 3 => ⟨S96x4x64x64, .f32⟩
  | 4 => ⟨S64x64, .i32⟩
  | 5 => ⟨S64x64, .i32⟩
  | 6 => ⟨S_, .i32⟩
  | 7 => ⟨S64x64, .i32⟩
  | 8 => ⟨S64x64, .i32⟩
  | 9 => ⟨S64x64, .i1⟩
  | 10 => ⟨S64x64, .f32⟩
  | 11 => ⟨S_, .f32⟩
  | 12 => ⟨S96x4x64, .f32⟩
  | 13 => ⟨S_, .f32⟩
  | 14 => ⟨S96x4, .f32⟩
  | 15 => ⟨S_, .f32⟩
  | 16 => ⟨S96x4x64, .f32⟩
  | 17 => ⟨S_, .f32⟩
  | 18 => ⟨S96x4, .f32⟩
  | 19 => ⟨S96x4x64x64, .f32⟩
  | 20 => ⟨S96x4, .f32⟩
  | 21 => ⟨S96x4x1x1, .f32⟩
  | 22 => ⟨S96x4x64x64, .f32⟩
  | 23 => ⟨S96x4x64x64, .f32⟩
  | 24 => ⟨S96x4x64x64, .f32⟩
  | 25 => ⟨S_, .f32⟩
  | 26 => ⟨S96x4x64x64, .f32⟩
  | 27 => ⟨S96x4x64x64, .f32⟩
  | 28 => ⟨S_, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S1x1x64x64, .f32⟩
  | 38 => ⟨S96x4x64x64, .f32⟩
  | 39 => ⟨S96x4x64x64, .f32⟩
  | 40 => ⟨S96x4x64x64, .f32⟩
  | 41 => ⟨S1x1x64x64, .f32⟩
  | 42 => ⟨S96x4x64x64, .f32⟩
  | 43 => ⟨S96x4x64x64, .f32⟩
  | 44 => ⟨S96x4x64x64, .f32⟩
  | 45 => ⟨S1x1x64x64, .f32⟩
  | 46 => ⟨S96x4x64x64, .f32⟩
  | 47 => ⟨S96x4x64x64, .f32⟩
  | 48 => ⟨S96x4x64x64, .f32⟩
  | 49 => ⟨S96x4x64x64, .f32⟩
  | 50 => ⟨S_, .f32⟩
  | 51 => ⟨S96x4x64x64, .f32⟩
  | 52 => ⟨S96x4x64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S_, .f32⟩
  | 60 => ⟨S64x64, .f32⟩
  | 61 => ⟨S64x64, .f32⟩
  | 62 => ⟨S1x1x64x64, .f32⟩
  | 63 => ⟨S96x4x64x64, .f32⟩
  | 64 => ⟨S96x4x64x64, .f32⟩
  | 65 => ⟨S96x4x64x64, .f32⟩
  | 66 => ⟨S1x1x64x64, .f32⟩
  | 67 => ⟨S96x4x64x64, .f32⟩
  | 68 => ⟨S96x4x64x64, .f32⟩
  | 69 => ⟨S96x4x64x64, .f32⟩
  | 70 => ⟨S1x1x64x64, .f32⟩
  | 71 => ⟨S96x4x64x64, .f32⟩
  | 72 => ⟨S96x4x64x64, .f32⟩
  | 73 => ⟨S96x4x64x64, .f32⟩
  | 74 => ⟨S96x4x64x64, .f32⟩
  | 75 => ⟨S_, .f32⟩
  | 76 => ⟨S96x4x64x64, .f32⟩
  | 77 => ⟨S96x4x64x64, .f32⟩
  | 78 => ⟨S_, .f32⟩
  | 79 => ⟨S64x64, .f32⟩
  | 80 => ⟨S64x64, .f32⟩
  | 81 => ⟨S_, .f32⟩
  | 82 => ⟨S64x64, .f32⟩
  | 83 => ⟨S64x64, .f32⟩
  | 84 => ⟨S_, .f32⟩
  | 85 => ⟨S64x64, .f32⟩
  | 86 => ⟨S64x64, .f32⟩
  | 87 => ⟨S1x1x64x64, .f32⟩
  | 88 => ⟨S96x4x64x64, .f32⟩
  | 89 => ⟨S96x4x64x64, .f32⟩
  | 90 => ⟨S96x4x64x64, .f32⟩
  | 91 => ⟨S1x1x64x64, .f32⟩
  | 92 => ⟨S96x4x64x64, .f32⟩
  | 93 => ⟨S96x4x64x64, .f32⟩
  | 94 => ⟨S96x4x64x64, .f32⟩
  | 95 => ⟨S1x1x64x64, .f32⟩
  | 96 => ⟨S96x4x64x64, .f32⟩
  | 97 => ⟨S96x4x64x64, .f32⟩
  | 98 => ⟨S96x4x64x64, .f32⟩
  | 99 => ⟨S96x4x64x64, .f32⟩
  | 100 => ⟨S_, .f32⟩
  | 101 => ⟨S96x4x64x64, .f32⟩
  | 102 => ⟨S96x4x64x64, .f32⟩
  | 103 => ⟨S_, .f32⟩
  | 104 => ⟨S64x64, .f32⟩
  | 105 => ⟨S64x64, .f32⟩
  | 106 => ⟨S_, .f32⟩
  | 107 => ⟨S64x64, .f32⟩
  | 108 => ⟨S64x64, .f32⟩
  | 109 => ⟨S_, .f32⟩
  | 110 => ⟨S64x64, .f32⟩
  | 111 => ⟨S64x64, .f32⟩
  | 112 => ⟨S1x1x64x64, .f32⟩
  | 113 => ⟨S96x4x64x64, .f32⟩
  | 114 => ⟨S96x4x64x64, .f32⟩
  | 115 => ⟨S96x4x64x64, .f32⟩
  | 116 => ⟨S1x1x64x64, .f32⟩
  | 117 => ⟨S96x4x64x64, .f32⟩
  | 118 => ⟨S96x4x64x64, .f32⟩
  | 119 => ⟨S96x4x64x64, .f32⟩
  | 120 => ⟨S1x1x64x64, .f32⟩
  | 121 => ⟨S96x4x64x64, .f32⟩
  | 122 => ⟨S96x4x64x64, .f32⟩
  | 123 => ⟨S96x4x64x64, .f32⟩
  | 124 => ⟨S96x4x64x64, .f32⟩
  | 125 => ⟨S_, .f32⟩
  | 126 => ⟨S96x4x64x64, .f32⟩
  | 127 => ⟨S96x4x64x64, .f32⟩
  | _ => ⟨S96x64x256, .f32⟩

abbrev hbmTy0_1 (i : Nat) : BufTy := match i % 128 with
  | 0 => ⟨S_, .f32⟩
  | 1 => ⟨S64x64, .f32⟩
  | 2 => ⟨S64x64, .f32⟩
  | 3 => ⟨S_, .f32⟩
  | 4 => ⟨S64x64, .f32⟩
  | 5 => ⟨S64x64, .f32⟩
  | 6 => ⟨S_, .f32⟩
  | 7 => ⟨S64x64, .f32⟩
  | 8 => ⟨S64x64, .f32⟩
  | 9 => ⟨S1x1x64x64, .f32⟩
  | 10 => ⟨S96x4x64x64, .f32⟩
  | 11 => ⟨S96x4x64x64, .f32⟩
  | 12 => ⟨S96x4x64x64, .f32⟩
  | 13 => ⟨S1x1x64x64, .f32⟩
  | 14 => ⟨S96x4x64x64, .f32⟩
  | 15 => ⟨S96x4x64x64, .f32⟩
  | 16 => ⟨S96x4x64x64, .f32⟩
  | 17 => ⟨S1x1x64x64, .f32⟩
  | 18 => ⟨S96x4x64x64, .f32⟩
  | 19 => ⟨S96x4x64x64, .f32⟩
  | 20 => ⟨S96x4x64x64, .f32⟩
  | 21 => ⟨S96x4x64x64, .f32⟩
  | 22 => ⟨S_, .f32⟩
  | 23 => ⟨S96x4x64x64, .f32⟩
  | 24 => ⟨S96x4x64x64, .f32⟩
  | 25 => ⟨S_, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S1x1x64x64, .f32⟩
  | 35 => ⟨S96x4x64x64, .f32⟩
  | 36 => ⟨S96x4x64x64, .f32⟩
  | 37 => ⟨S96x4x64x64, .f32⟩
  | 38 => ⟨S1x1x64x64, .f32⟩
  | 39 => ⟨S96x4x64x64, .f32⟩
  | 40 => ⟨S96x4x64x64, .f32⟩
  | 41 => ⟨S96x4x64x64, .f32⟩
  | 42 => ⟨S1x1x64x64, .f32⟩
  | 43 => ⟨S96x4x64x64, .f32⟩
  | 44 => ⟨S96x4x64x64, .f32⟩
  | 45 => ⟨S96x4x64x64, .f32⟩
  | 46 => ⟨S96x4x64x128, .f32⟩
  | 47 => ⟨S96x4x64x128, .bf16⟩
  | _ => ⟨S96x64x256, .f32⟩

abbrev hbmTy (i : Nat) : BufTy := match i / 128 with
  | 0 => hbmTy0_0 i
  | 1 => hbmTy0_1 i
  | _ => ⟨S96x64x256, .f32⟩

abbrev bufTy : (tb : Table) → Fin (tcTables nBuf tb) → BufTy
  | .hbm, ⟨i, _⟩ => hbmTy i
  | _, _ => ⟨S96x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_15 : Ref sig .tc := ⟨.hbm, 100, rfl⟩
abbrev main_v81 : Ref sig .tc := ⟨.hbm, 101, rfl⟩
abbrev main_v82 : Ref sig .tc := ⟨.hbm, 102, rfl⟩
abbrev main_cst_16 : Ref sig .tc := ⟨.hbm, 103, rfl⟩
abbrev main_v83 : Ref sig .tc := ⟨.hbm, 104, rfl⟩
abbrev main_v84 : Ref sig .tc := ⟨.hbm, 105, rfl⟩
abbrev main_cst_17 : Ref sig .tc := ⟨.hbm, 106, rfl⟩
abbrev main_v85 : Ref sig .tc := ⟨.hbm, 107, rfl⟩
abbrev main_v86 : Ref sig .tc := ⟨.hbm, 108, rfl⟩
abbrev main_cst_18 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_19 : Ref sig .tc := ⟨.hbm, 125, rfl⟩
abbrev main_v102 : Ref sig .tc := ⟨.hbm, 126, rfl⟩
abbrev main_v103 : Ref sig .tc := ⟨.hbm, 127, rfl⟩
abbrev main_cst_20 : Ref sig .tc := ⟨.hbm, 128, rfl⟩
abbrev main_v104 : Ref sig .tc := ⟨.hbm, 129, rfl⟩
abbrev main_v105 : Ref sig .tc := ⟨.hbm, 130, rfl⟩
abbrev main_cst_21 : Ref sig .tc := ⟨.hbm, 131, rfl⟩
abbrev main_v106 : Ref sig .tc := ⟨.hbm, 132, rfl⟩
abbrev main_v107 : Ref sig .tc := ⟨.hbm, 133, rfl⟩
abbrev main_cst_22 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_23 : Ref sig .tc := ⟨.hbm, 150, rfl⟩
abbrev main_v123 : Ref sig .tc := ⟨.hbm, 151, rfl⟩
abbrev main_v124 : Ref sig .tc := ⟨.hbm, 152, rfl⟩
abbrev main_cst_24 : Ref sig .tc := ⟨.hbm, 153, rfl⟩
abbrev main_v125 : Ref sig .tc := ⟨.hbm, 154, rfl⟩
abbrev main_v126 : Ref sig .tc := ⟨.hbm, 155, rfl⟩
abbrev main_cst_25 : Ref sig .tc := ⟨.hbm, 156, rfl⟩
abbrev main_v127 : Ref sig .tc := ⟨.hbm, 157, rfl⟩
abbrev main_v128 : Ref sig .tc := ⟨.hbm, 158, rfl⟩
abbrev main_cst_26 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩

abbrev nD : Nat := 1
abbrev τ : Topo := Topo.v7x

variable {F : FTy → Type} [FloatOps F]
-- ==== Proof.Attend.BitsRun.lean ====
/- The body of the printed kernel at any float instance: it runs, and hands every buffer back; of what it leaves in the output
   nothing is said (that is the value claim's part, about the kernel over the extended reals). -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Attend

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (8) at anything, handed back at some contents nothing names —
    the body runs to the continuation holding the inputs' as they were, the scratch at some contents: the printed functions are their skeletons (`*_eq_skeleton`),
    which `sl_exec` runs (Lib/Exec.lean). -/
theorem kernelRun0_A (c : Dev nD) (i : grid0.Coords) (arg2 : Memref sig .tc .smem S384 .f32) (harg2 : arg2.IsWhole) (arg3 : Memref sig .tc .vmem S1x20480x128 .fp8e4m3) (harg3 : arg3.IsWhole) (arg4 : Memref sig .tc .vmem S1x16x64x128 .fp8e4m3) (harg4 : arg4.IsWhole) (arg5 : Memref sig .tc .vmem S1x16x64x128 .bf16) (harg5 : arg5.IsWhole) (arg6 : Memref sig .tc .vmem S1x20480x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S16x128x480 .bf16) (harg9 : arg9.IsWhole) (arg10 : Memref sig .tc .vmem S1x1280x2048 .bf16) (harg10 : arg10.IsWhole) (arg11 : Memref sig .tc .vmem S16x1280x128 .fp8e4m3) (harg11 : arg11.IsWhole) (arg12 : Memref sig .tc .vmem S16x1312x128 .bf16) (harg12 : arg12.IsWhole)
    (x0 : Vec F S384 .f32) (x1 : Vec F S1x20480x128 .fp8e4m3) (x2 : Vec F S1x16x64x128 .fp8e4m3) (x3 : Vec F S1x16x64x128 .bf16) (x4 : Vec F S1x20480x128 .bf16) (x5 : Vec F S1x256x128 .bf16) (x6 : Vec F S1x256x128 .bf16) (x7 : Vec F S16x128x480 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attend i arg2 harg2 arg3 harg3 arg4 harg4 arg5 harg5 arg6 harg6 arg7 harg7 arg8 harg8 arg9 harg9 arg10 harg10 arg11 harg11 arg12 harg12) K := by
    intro E K
    simp only [cc0_attend_eq_skeleton]; unfold cc0_attend_skel
    simp only [k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Kernel.Attend

end
-- ==== Proof.Attend.BitsFrame.lean ====
/- The frame of the printed kernel at any float instance: the launch ends, the arguments are unchanged, every semaphore
   counter is zero. -/
module

public import proofs.«01_k».proof.Proof.Attend.BitsRun
public import Idealize.ShloMosaic.Lib.Claim

@[expose] public section

-- membership in a rectangle of production extents (`View.cover_of_tiled`): the elaborator's structural look
-- recurses once per coordinate of the long axes
set_option maxRecDepth 16384

noncomputable section

namespace Cert.Kernel.Attend

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 3 rfl).trans ((hA c 3).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The pipeline's proof data -/

/-- The output windows this certificate FORGETS (8): nothing reads what the kernel leaves in them, so nothing
    of it is named (Lib/Pipeline/Dat.lean `Dat.toRForget`). -/
def forgets0 : Fin 9 → Bool := fun w => w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Attend

end
-- ==== Proof.Attend.Finite.lean ====
/- What the precondition says: every code, every scale and every tap is a real number. -/
module

public import proofs.«01_k».proof.Pre_finite
public import Idealize.ShloMosaic.Lib.ReduceAll
public import Idealize.ShloMosaic.Lib.Affine
public import Idealize.ShloMosaic.Lib.Pointwise

@[expose] public section

set_option maxRecDepth 16384

noncomputable section

namespace Cert.Pre_finite

open Idealize.ShloMosaic

/-- The shape relations the predicate takes. -/
theorem facts : Facts where
  bcast_S_S24x40960x128 := by decide
  reducesTo_S24x40960x128_S_d0_1_2 := by decide
  h_S_ := by decide
  bcast_S_S24x16 := by decide
  reducesTo_S24x16_S_d0_1 := by decide
  bcast_S_S24x16x64x128 := by decide
  reducesTo_S24x16x64x128_S_d0_1_2_3 := by decide
  bcast_S_S16x33 := by decide
  reducesTo_S16x33_S_d0_1 := by decide

instance : Subsingleton S_.Idx := ⟨fun _ _ => funext fun i => i.elim0⟩

/-- A value whose magnitude is below `+∞` is a real number. -/
theorem real_of_below (x : Ideal .f32)
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  have hlt : max (x : EReal) (-(x : EReal)) < ⊤ := htop ▸ (Ideal.cmp_olt_eq_one _ _).1 h'
  have ht : (x : EReal) ≠ ⊤ := (lt_of_le_of_lt (le_max_left _ _) hlt).ne
  have hb : (x : EReal) ≠ ⊥ := fun e => by
    have := (lt_of_le_of_lt (le_max_right _ _) hlt).ne
    rw [e] at this
    exact this rfl
  exact ⟨EReal.toReal x, (EReal.coe_toReal ht hb).symm⟩

variable [Facts]

/-- Where the predicate holds, every code, scale and tap is a real number. -/
theorem reals (a0 : FVec Ideal S24x40960x128 .f32) (a1 : FVec Ideal S24x16 .f32) (a2 : FVec Ideal S24x16x64x128 .f32) (a3 : FVec Ideal S24x16 .f32)
    (a4 : FVec Ideal S24x16x64x128 .bf16) (a5) (a6 : FVec Ideal S16x33 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ ∀ i, ∃ r : ℝ, a6 i = (r : EReal) := by
  have e := congrFun h (Shape.Idx.first Facts.h_S_)
  dsimp only [fn, fn_part1] at e
  obtain ⟨e, h6⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun i => real_of_below _ (Host.reduce_andi_all _ _ _ _ _ h0 i), fun i => real_of_below _ (Host.reduce_andi_all _ _ _ _ _ h1 i),
    fun i => real_of_below _ (Host.reduce_andi_all _ _ _ _ _ h2 i), fun i => real_of_below _ (Host.reduce_andi_all _ _ _ _ _ h3 i),
    fun i => real_of_below _ (Host.reduce_andi_all _ _ _ _ _ h6 i)⟩

end Cert.Pre_finite

end
-- ==== Proof.Attend.Pieces.lean ====
/- The first loop of the kernel copies the block's values and codes into two scratch buffers, one head after another
   (a token's sixteen heads lie next to each other in the arrays).  Here: what every trip stores, read at an index. -/
module

public import proofs.«01_k».proof.Proof.Gen.KernelIdeal.Frame.Runs
public import Idealize.ShloMosaic.Lib.Pointwise
public import Idealize.ShloMosaic.Lib.Pipeline.ReadBack

@[expose] public section

set_option maxRecDepth 16384

noncomputable section

namespace Cert.KernelIdeal.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the scratch of the values holds after the first loop and the edge stores, as a function of the index
    (head, row, lane): 16 rows of the block before, the block's 1280 rows, 16 rows of the block after; a row outside the
    sequence is zero. -/
def v16At (v1 v2 : BitVec 1) (x4 : Vec F S1x20480x128 .bf16) (x5 x6 : Vec F S1x256x128 .bf16) : Vec F S16x1312x128 .bf16 := fun y =>
  if h : (y 1).val < 16 then
    Scalar.select v1 (Scalar.ofBits .bf16 0x0000#16) (x5 (ix3 0 ⟨(y 1).val * 16 + (y 0).val, by have := (y 0).isLt; simp at this; omega⟩ (y 2)))
  else if h2 : (y 1).val < 1296 then
    x4 (ix3 0 ⟨((y 1).val - 16) * 16 + (y 0).val, by have := (y 0).isLt; simp at this; omega⟩ (y 2))
  else
    Scalar.select v2 (Scalar.ofBits .bf16 0x0000#16)
      (x6 (ix3 0 ⟨((y 1).val - 1296) * 16 + (y 0).val, by have := (y 0).isLt; have := (y 1).isLt; simp at *; omega⟩ (y 2)))

/-- What the scratch of the codes holds after the first loop: head `h`, row `p` is row `p`, head `h` of the block. -/
def q8At (x1 : Vec F S1x20480x128 .fp8e4m3) : Vec F S16x1280x128 .fp8e4m3 := fun y =>
  x1 (ix3 0 ⟨(y 1).val * 16 + (y 0).val, by have := (y 0).isLt; have := (y 1).isLt; simp at *; omega⟩ (y 2))

/-- The load a trip makes of the block's values: 512 rows from row `512 k`. -/
theorem load_off1 (k : Fin k0_t1_loop.trips) : k0_off1 k = ![0, 512 * k.val, 0] := by
  revert k; decide +kernel

theorem trips1_lt (k : Fin k0_t1_loop.trips) : k.val < 40 := Nat.lt_of_lt_of_le k.isLt k0_t1_abs.2.1

theorem ld_rows {e : EltTy} (X : Vec F S1x20480x128 e) (n : ℕ) (hn : n + 512 ≤ 20480) {off : Fin 3 → ℕ} (inb : ∀ a, off a + S1x512x128.size a ≤ S1x20480x128.size a)
    (hoff : off = ![0, n, 0]) (r : Fin 512) (l : Fin 128) :
    View.ld X (Rect.unit (s := S1x20480x128) off S1x512x128.size inb) (ix3 0 r l) = X (ix3 0 ⟨n + r.val, by omega⟩ l) := by
  subst hoff
  pointwise

theorem deint_bf16 (y : Vec F S1x512x128 .bf16) (h : Fin 16) (hs) (p : Fin 32) (l : Fin 128) :
    shapeCast S1x32x128 (shapeCast S32x128 (extractStridedSlice S32x1x128 ![0, h.val, 0] (k0_pay1 y) hs) shapeCasts_S32x1x128_S32x128) shapeCasts_S32x128_S1x32x128 (ix3 0 p l)
      = y (ix3 0 ⟨p.val * 16 + h.val, by omega⟩ l) := by
  pointwise [k0_pay1]

theorem deint_fp8 (y : Vec F S1x512x128 .fp8e4m3) (h : Fin 16) (hs) (p : Fin 32) (l : Fin 128) :
    shapeCast S1x32x128 (shapeCast S32x128 (extractStridedSlice S32x1x128 ![0, h.val, 0] (k0_pay20 y) hs) shapeCasts_S32x1x128_S32x128) shapeCasts_S32x128_S1x32x128 (ix3 0 p l)
      = y (ix3 0 ⟨p.val * 16 + h.val, by omega⟩ l) := by
  pointwise [k0_pay20]

/-- A unit-stride box's index, axis by axis. -/
theorem rect_emb_val {s : Shape} (off size : Fin s.rank → ℕ) (inb) (x : (Rect.unit (s := s) off size inb).shape.Idx) (a : Fin s.rank) :
    ((Rect.unit (s := s) off size inb).emb x a).val = off a + (x a).val := by
  show off a + 1 * (x a).val = _
  omega

/-- A stored piece of a trip is a block of `v16At`. -/
theorem piece12 (v1 v2 : BitVec 1) (x4 : Vec F S1x20480x128 .bf16) (x5 x6 : Vec F S1x256x128 .bf16) (n : ℕ) (hn : n < 40) (h : Fin 16)
    {off : Fin 3 → ℕ} (inb : ∀ a, off a + S1x32x128.size a ≤ S16x1312x128.size a) (hoff : off = ![h.val, 16 + 32 * n, 0])
    (w : S1x32x128.Idx → Elt F .bf16)
    (hw : ∀ (p : Fin 32) (l : Fin 128), w (ix3 0 p l) = x4 (ix3 0 ⟨512 * n + (p.val * 16 + h.val), by omega⟩ l))
    (x : (Rect.unit (s := S16x1312x128) off S1x32x128.size inb).shape.Idx) :
    w x = v16At v1 v2 x4 x5 x6 ((Rect.unit (s := S16x1312x128) off S1x32x128.size inb).emb x) := by
  subst hoff
  obtain ⟨p, l, rfl⟩ : ∃ (p : Fin 32) (l : Fin 128), x = ix3 0 p l := ⟨x 1, x 2, by
    funext a; match a with
    | ⟨0, _⟩ => exact Subsingleton.elim (α := Fin 1) _ _
    | ⟨1, _⟩ => rfl
    | ⟨2, _⟩ => rfl⟩
  refine (hw p l).trans ?_
  have e0 : (((Rect.unit (s := S16x1312x128) ![h.val, 16 + 32 * n, 0] S1x32x128.size inb).emb (ix3 0 p l)) 0).val = h.val := by
    (rw [rect_emb_val]; simp [ix3])
  have e1 : (((Rect.unit (s := S16x1312x128) ![h.val, 16 + 32 * n, 0] S1x32x128.size inb).emb (ix3 0 p l)) 1).val = 16 + 32 * n + p.val := by
    (rw [rect_emb_val]; simp [ix3])
  have e2 : (((Rect.unit (s := S16x1312x128) ![h.val, 16 + 32 * n, 0] S1x32x128.size inb).emb (ix3 0 p l)) 2).val = l.val := by
    (rw [rect_emb_val]; simp [ix3])
  generalize (Rect.unit (s := S16x1312x128) ![h.val, 16 + 32 * n, 0] S1x32x128.size inb).emb (ix3 0 p l) = y at e0 e1 e2
  unfold v16At
  rw [dif_neg (by omega), dif_pos (by omega)]
  congr 1
  funext a; match a with
  | ⟨0, _⟩ => rfl
  | ⟨1, _⟩ => apply Fin.ext; simp [ix3]; omega
  | ⟨2, _⟩ => apply Fin.ext; simp [ix3]; omega

theorem piece11 (x1 : Vec F S1x20480x128 .fp8e4m3) (n : ℕ) (hn : n < 40) (h : Fin 16)
    {off : Fin 3 → ℕ} (inb : ∀ a, off a + S1x32x128.size a ≤ S16x1280x128.size a) (hoff : off = ![h.val, 32 * n, 0])
    (w : S1x32x128.Idx → Elt F .fp8e4m3)
    (hw : ∀ (p : Fin 32) (l : Fin 128), w (ix3 0 p l) = x1 (ix3 0 ⟨512 * n + (p.val * 16 + h.val), by omega⟩ l))
    (x : (Rect.unit (s := S16x1280x128) off S1x32x128.size inb).shape.Idx) :
    w x = q8At x1 ((Rect.unit (s := S16x1280x128) off S1x32x128.size inb).emb x) := by
  subst hoff
  obtain ⟨p, l, rfl⟩ : ∃ (p : Fin 32) (l : Fin 128), x = ix3 0 p l := ⟨x 1, x 2, by
    funext a; match a with
    | ⟨0, _⟩ => exact Subsingleton.elim (α := Fin 1) _ _
    | ⟨1, _⟩ => rfl
    | ⟨2, _⟩ => rfl⟩
  refine (hw p l).trans ?_
  have e0 : (((Rect.unit (s := S16x1280x128) ![h.val, 32 * n, 0] S1x32x128.size inb).emb (ix3 0 p l)) 0).val = h.val := by
    (rw [rect_emb_val]; simp [ix3])
  have e1 : (((Rect.unit (s := S16x1280x128) ![h.val, 32 * n, 0] S1x32x128.size inb).emb (ix3 0 p l)) 1).val = 32 * n + p.val := by
    (rw [rect_emb_val]; simp [ix3])
  have e2 : (((Rect.unit (s := S16x1280x128) ![h.val, 32 * n, 0] S1x32x128.size inb).emb (ix3 0 p l)) 2).val = l.val := by
    (rw [rect_emb_val]; simp [ix3])
  generalize (Rect.unit (s := S16x1280x128) ![h.val, 32 * n, 0] S1x32x128.size inb).emb (ix3 0 p l) = y at e0 e1 e2
  unfold q8At
  congr 1
  funext a; match a with
  | ⟨0, _⟩ => rfl
  | ⟨1, _⟩ => apply Fin.ext; simp [ix3]; omega
  | ⟨2, _⟩ => apply Fin.ext; simp [ix3]; omega

theorem off12_0 (k : Fin k0_t1_loop.trips) : k0_off2 k = ![0, 16 + 32 * k.val, 0] := by revert k; decide +kernel
theorem off11_0 (k : Fin k0_t1_loop.trips) : k0_off18 k = ![0, 32 * k.val, 0] := by revert k; decide +kernel
theorem off12_1 (k : Fin k0_t1_loop.trips) : k0_off3 k = ![1, 16 + 32 * k.val, 0] := by revert k; decide +kernel
theorem off11_1 (k : Fin k0_t1_loop.trips) : k0_off19 k = ![1, 32 * k.val, 0] := by revert k; decide +kernel
theorem off12_2 (k : Fin k0_t1_loop.trips) : k0_off4 k = ![2, 16 + 32 * k.val, 0] := by revert k; decide +kernel
theorem off11_2 (k : Fin k0_t1_loop.trips) : k0_off20 k = ![2, 32 * k.val, 0] := by revert k; decide +kernel
theorem off12_3 (k : Fin k0_t1_loop.trips) : k0_off5 k = ![3, 16 + 32 * k.val, 0] := by revert k; decide +kernel
theorem off11_3 (k : Fin k0_t1_loop.trips) : k0_off21 k = ![3, 32 * k.val, 0] := by revert k; decide +kernel
theorem off12_4 (k : Fin k0_t1_loop.trips) : k0_off6 k = ![4, 16 + 32 * k.val, 0] := by revert k; decide +kernel
theorem off11_4 (k : Fin k0_t1_loop.trips) : k0_off22 k = ![4, 32 * k.val, 0] := by revert k; decide +kernel
theorem off12_5 (k : Fin k0_t1_loop.trips) : k0_off7 k = ![5, 16 + 32 * k.val, 0] := by revert k; decide +kernel
theorem off11_5 (k : Fin k0_t1_loop.trips) : k0_off23 k = ![5, 32 * k.val, 0] := by revert k; decide +kernel
theorem off12_6 (k : Fin k0_t1_loop.trips) : k0_off8 k = ![6, 16 + 32 * k.val, 0] := by revert k; decide +kernel
theorem off11_6 (k : Fin k0_t1_loop.trips) : k0_off24 k = ![6, 32 * k.val, 0] := by revert k; decide +kernel
theorem off12_7 (k : Fin k0_t1_loop.trips) : k0_off9 k = ![7, 16 + 32 * k.val, 0] := by revert k; decide +kernel
theorem off11_7 (k : Fin k0_t1_loop.trips) : k0_off25 k = ![7, 32 * k.val, 0] := by revert k; decide +kernel
theorem off12_8 (k : Fin k0_t1_loop.trips) : k0_off10 k = ![8, 16 + 32 * k.val, 0] := by revert k; decide +kernel
theorem off11_8 (k : Fin k0_t1_loop.trips) : k0_off26 k = ![8, 32 * k.val, 0] := by revert k; decide +kernel
theorem off12_9 (k : Fin k0_t1_loop.trips) : k0_off11 k = ![9, 16 + 32 * k.val, 0] := by revert k; decide +kernel
theorem off11_9 (k : Fin k0_t1_loop.trips) : k0_off27 k = ![9, 32 * k.val, 0] := by revert k; decide +kernel
theorem off12_10 (k : Fin k0_t1_loop.trips) : k0_off12 k = ![10, 16 + 32 * k.val, 0] := by revert k; decide +kernel
theorem off11_10 (k : Fin k0_t1_loop.trips) : k0_off28 k = ![10, 32 * k.val, 0] := by revert k; decide +kernel
theorem off12_11 (k : Fin k0_t1_loop.trips) : k0_off13 k = ![11, 16 + 32 * k.val, 0] := by revert k; decide +kernel
theorem off11_11 (k : Fin k0_t1_loop.trips) : k0_off29 k = ![11, 32 * k.val, 0] := by revert k; decide +kernel
theorem off12_12 (k : Fin k0_t1_loop.trips) : k0_off14 k = ![12, 16 + 32 * k.val, 0] := by revert k; decide +kernel
theorem off11_12 (k : Fin k0_t1_loop.trips) : k0_off30 k = ![12, 32 * k.val, 0] := by revert k; decide +kernel
theorem off12_13 (k : Fin k0_t1_loop.trips) : k0_off15 k = ![13, 16 + 32 * k.val, 0] := by revert k; decide +kernel
theorem off11_13 (k : Fin k0_t1_loop.trips) : k0_off31 k = ![13, 32 * k.val, 0] := by revert k; decide +kernel
theorem off12_14 (k : Fin k0_t1_loop.trips) : k0_off16 k = ![14, 16 + 32 * k.val, 0] := by revert k; decide +kernel
theorem off11_14 (k : Fin k0_t1_loop.trips) : k0_off32 k = ![14, 32 * k.val, 0] := by revert k; decide +kernel
theorem off12_15 (k : Fin k0_t1_loop.trips) : k0_off17 k = ![15, 16 + 32 * k.val, 0] := by revert k; decide +kernel
theorem off11_15 (k : Fin k0_t1_loop.trips) : k0_off33 k = ![15, 32 * k.val, 0] := by revert k; decide +kernel

section trip
variable (c : Dev nD) (i : grid0.Coords) (arg2 : Memref sig .tc .smem S384 .f32) (harg2 : arg2.IsWhole) (arg3 : Memref sig .tc .vmem S1x20480x128 .fp8e4m3) (harg3 : arg3.IsWhole) (arg4 : Memref sig .tc .vmem S1x16x64x128 .fp8e4m3) (harg4 : arg4.IsWhole) (arg5 : Memref sig .tc .vmem S1x16x64x128 .bf16) (harg5 : arg5.IsWhole) (arg6 : Memref sig .tc .vmem S1x20480x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S16x128x480 .bf16) (harg9 : arg9.IsWhole) (arg10 : Memref sig .tc .vmem S1x1280x2048 .bf16) (harg10 : arg10.IsWhole) (arg11 : Memref sig .tc .vmem S16x1280x128 .fp8e4m3) (harg11 : arg11.IsWhole) (arg12 : Memref sig .tc .vmem S16x1312x128 .bf16) (harg12 : arg12.IsWhole)

set_option maxHeartbeats 4000000 in
/-- What a trip stores into the scratch of the values: blocks of `v16At`. -/
theorem trip12 (x1 : Vec F S1x20480x128 .fp8e4m3) (v1 v2 : BitVec 1) (x4 : Vec F S1x20480x128 .bf16) (x5 x6 : Vec F S1x256x128 .bf16) (k : Fin k0_t1_loop.trips) :
    View.PiecesOf (v16At v1 v2 x4 x5 x6) (trip_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) k).2.1 := by
  have hk := trips1_lt k
  have hld : ∀ (r : Fin 512) (l : Fin 128), View.readAt (Elt F) arg6.view (Rect.unit (s := S1x20480x128) (k0_off1 k) S1x512x128.size (k0_off1_inb k)).toLoadRect (harg6.unread x4) (ix3 0 r l)
      = x4 (ix3 0 ⟨512 * k.val + r.val, by omega⟩ l) := fun r l => by
    rw [View.readAt_eq_ld, harg6.read_unread]; exact ld_rows x4 (512 * k.val) (by omega) _ (load_off1 k) r l
  unfold trip_k0_t1
  dsimp only
  refine ⟨piece12 v1 v2 x4 x5 x6 k.val hk 15 (k0_off17_inb k) (off12_15 k) _ (fun p l => (deint_bf16 _ 15 slices_S32x16x128_o0_15_0_S32x1x128 p l).trans (hld _ l)), piece12 v1 v2 x4 x5 x6 k.val hk 14 (k0_off16_inb k) (off12_14 k) _ (fun p l => (deint_bf16 _ 14 slices_S32x16x128_o0_14_0_S32x1x128 p l).trans (hld _ l)), piece12 v1 v2 x4 x5 x6 k.val hk 13 (k0_off15_inb k) (off12_13 k) _ (fun p l => (deint_bf16 _ 13 slices_S32x16x128_o0_13_0_S32x1x128 p l).trans (hld _ l)), piece12 v1 v2 x4 x5 x6 k.val hk 12 (k0_off14_inb k) (off12_12 k) _ (fun p l => (deint_bf16 _ 12 slices_S32x16x128_o0_12_0_S32x1x128 p l).trans (hld _ l)), piece12 v1 v2 x4 x5 x6 k.val hk 11 (k0_off13_inb k) (off12_11 k) _ (fun p l => (deint_bf16 _ 11 slices_S32x16x128_o0_11_0_S32x1x128 p l).trans (hld _ l)), piece12 v1 v2 x4 x5 x6 k.val hk 10 (k0_off12_inb k) (off12_10 k) _ (fun p l => (deint_bf16 _ 10 slices_S32x16x128_o0_10_0_S32x1x128 p l).trans (hld _ l)), piece12 v1 v2 x4 x5 x6 k.val hk 9 (k0_off11_inb k) (off12_9 k) _ (fun p l => (deint_bf16 _ 9 slices_S32x16x128_o0_9_0_S32x1x128 p l).trans (hld _ l)), piece12 v1 v2 x4 x5 x6 k.val hk 8 (k0_off10_inb k) (off12_8 k) _ (fun p l => (deint_bf16 _ 8 slices_S32x16x128_o0_8_0_S32x1x128 p l).trans (hld _ l)), piece12 v1 v2 x4 x5 x6 k.val hk 7 (k0_off9_inb k) (off12_7 k) _ (fun p l => (deint_bf16 _ 7 slices_S32x16x128_o0_7_0_S32x1x128 p l).trans (hld _ l)), piece12 v1 v2 x4 x5 x6 k.val hk 6 (k0_off8_inb k) (off12_6 k) _ (fun p l => (deint_bf16 _ 6 slices_S32x16x128_o0_6_0_S32x1x128 p l).trans (hld _ l)), piece12 v1 v2 x4 x5 x6 k.val hk 5 (k0_off7_inb k) (off12_5 k) _ (fun p l => (deint_bf16 _ 5 slices_S32x16x128_o0_5_0_S32x1x128 p l).trans (hld _ l)), piece12 v1 v2 x4 x5 x6 k.val hk 4 (k0_off6_inb k) (off12_4 k) _ (fun p l => (deint_bf16 _ 4 slices_S32x16x128_o0_4_0_S32x1x128 p l).trans (hld _ l)), piece12 v1 v2 x4 x5 x6 k.val hk 3 (k0_off5_inb k) (off12_3 k) _ (fun p l => (deint_bf16 _ 3 slices_S32x16x128_o0_3_0_S32x1x128 p l).trans (hld _ l)), piece12 v1 v2 x4 x5 x6 k.val hk 2 (k0_off4_inb k) (off12_2 k) _ (fun p l => (deint_bf16 _ 2 slices_S32x16x128_o0_2_0_S32x1x128 p l).trans (hld _ l)), piece12 v1 v2 x4 x5 x6 k.val hk 1 (k0_off3_inb k) (off12_1 k) _ (fun p l => (deint_bf16 _ 1 slices_S32x16x128_o0_1_0_S32x1x128 p l).trans (hld _ l)), piece12 v1 v2 x4 x5 x6 k.val hk 0 (k0_off2_inb k) (off12_0 k) _ (fun p l => (deint_bf16 _ 0 slices_S32x16x128_o0_0_0_S32x1x128 p l).trans (hld _ l)), trivial⟩

set_option maxHeartbeats 4000000 in
/-- What a trip stores into the scratch of the codes: blocks of `q8At`. -/
theorem trip11 (x1 : Vec F S1x20480x128 .fp8e4m3) (x4 : Vec F S1x20480x128 .bf16) (k : Fin k0_t1_loop.trips) :
    View.PiecesOf (q8At x1) (trip_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) k).1 := by
  have hk := trips1_lt k
  have hld : ∀ (r : Fin 512) (l : Fin 128), View.readAt (Elt F) arg3.view (Rect.unit (s := S1x20480x128) (k0_off1 k) S1x512x128.size (k0_off1_inb k)).toLoadRect (harg3.unread x1) (ix3 0 r l)
      = x1 (ix3 0 ⟨512 * k.val + r.val, by omega⟩ l) := fun r l => by
    rw [View.readAt_eq_ld, harg3.read_unread]; exact ld_rows x1 (512 * k.val) (by omega) _ (load_off1 k) r l
  unfold trip_k0_t1
  dsimp only
  refine ⟨piece11 x1 k.val hk 15 (k0_off33_inb k) (off11_15 k) _ (fun p l => (deint_fp8 _ 15 slices_S32x16x128_o0_15_0_S32x1x128 p l).trans (hld _ l)), piece11 x1 k.val hk 14 (k0_off32_inb k) (off11_14 k) _ (fun p l => (deint_fp8 _ 14 slices_S32x16x128_o0_14_0_S32x1x128 p l).trans (hld _ l)), piece11 x1 k.val hk 13 (k0_off31_inb k) (off11_13 k) _ (fun p l => (deint_fp8 _ 13 slices_S32x16x128_o0_13_0_S32x1x128 p l).trans (hld _ l)), piece11 x1 k.val hk 12 (k0_off30_inb k) (off11_12 k) _ (fun p l => (deint_fp8 _ 12 slices_S32x16x128_o0_12_0_S32x1x128 p l).trans (hld _ l)), piece11 x1 k.val hk 11 (k0_off29_inb k) (off11_11 k) _ (fun p l => (deint_fp8 _ 11 slices_S32x16x128_o0_11_0_S32x1x128 p l).trans (hld _ l)), piece11 x1 k.val hk 10 (k0_off28_inb k) (off11_10 k) _ (fun p l => (deint_fp8 _ 10 slices_S32x16x128_o0_10_0_S32x1x128 p l).trans (hld _ l)), piece11 x1 k.val hk 9 (k0_off27_inb k) (off11_9 k) _ (fun p l => (deint_fp8 _ 9 slices_S32x16x128_o0_9_0_S32x1x128 p l).trans (hld _ l)), piece11 x1 k.val hk 8 (k0_off26_inb k) (off11_8 k) _ (fun p l => (deint_fp8 _ 8 slices_S32x16x128_o0_8_0_S32x1x128 p l).trans (hld _ l)), piece11 x1 k.val hk 7 (k0_off25_inb k) (off11_7 k) _ (fun p l => (deint_fp8 _ 7 slices_S32x16x128_o0_7_0_S32x1x128 p l).trans (hld _ l)), piece11 x1 k.val hk 6 (k0_off24_inb k) (off11_6 k) _ (fun p l => (deint_fp8 _ 6 slices_S32x16x128_o0_6_0_S32x1x128 p l).trans (hld _ l)), piece11 x1 k.val hk 5 (k0_off23_inb k) (off11_5 k) _ (fun p l => (deint_fp8 _ 5 slices_S32x16x128_o0_5_0_S32x1x128 p l).trans (hld _ l)), piece11 x1 k.val hk 4 (k0_off22_inb k) (off11_4 k) _ (fun p l => (deint_fp8 _ 4 slices_S32x16x128_o0_4_0_S32x1x128 p l).trans (hld _ l)), piece11 x1 k.val hk 3 (k0_off21_inb k) (off11_3 k) _ (fun p l => (deint_fp8 _ 3 slices_S32x16x128_o0_3_0_S32x1x128 p l).trans (hld _ l)), piece11 x1 k.val hk 2 (k0_off20_inb k) (off11_2 k) _ (fun p l => (deint_fp8 _ 2 slices_S32x16x128_o0_2_0_S32x1x128 p l).trans (hld _ l)), piece11 x1 k.val hk 1 (k0_off19_inb k) (off11_1 k) _ (fun p l => (deint_fp8 _ 1 slices_S32x16x128_o0_1_0_S32x1x128 p l).trans (hld _ l)), piece11 x1 k.val hk 0 (k0_off18_inb k) (off11_0 k) _ (fun p l => (deint_fp8 _ 0 slices_S32x16x128_o0_0_0_S32x1x128 p l).trans (hld _ l)), trivial⟩

end trip

end Cert.KernelIdeal.Attend

end
-- ==== Proof.Attend.Buffers.lean ====
/- What the two scratch buffers hold once the first loop and the edge stores are done: `q8At` and `v16At`, whatever they
   held before. -/
module

public import proofs.«01_k».proof.Proof.Attend.Pieces

@[expose] public section

set_option maxRecDepth 16384

noncomputable section

namespace Cert.KernelIdeal.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Blocks of one function, laid end to end. -/
theorem piecesOf_append {s : Shape} {e : EltTy} {Val : EltTy → Type} {G : s.Idx → Val e} :
    ∀ {L L' : List (View.Piece Val s e)}, View.PiecesOf G L → View.PiecesOf G L' → View.PiecesOf G (L ++ L')
  | [], _, _, h => h
  | _ :: _, _, h, h' => ⟨h.1, piecesOf_append h.2 h'⟩

theorem mem12 {off : Fin 3 → ℕ} {inb : ∀ a, off a + S1x32x128.size a ≤ S16x1312x128.size a} {h a : ℕ} (hoff : off = ![h, a, 0]) {y : S16x1312x128.Idx}
    (h0 : (y 0).val = h) (h1 : a ≤ (y 1).val) (h2 : (y 1).val < a + 32) : y ∈ (Rect.unit (s := S16x1312x128) off S1x32x128.size inb).set := by
  subst hoff
  have h3 := (y 2).isLt
  rw [Rect.mem_set_unit]
  intro b; match b with
  | ⟨0, _⟩ => exact ⟨le_of_eq h0.symm, by show (y 0).val < h + 1; omega⟩
  | ⟨1, _⟩ => exact ⟨h1, h2⟩
  | ⟨2, _⟩ => exact ⟨Nat.zero_le _, by show (y 2).val < 0 + 128; simpa using h3⟩

theorem mem12e {off : Fin 3 → ℕ} {inb : ∀ a, off a + S1x16x128.size a ≤ S16x1312x128.size a} {h a : ℕ} (hoff : off = ![h, a, 0]) {y : S16x1312x128.Idx}
    (h0 : (y 0).val = h) (h1 : a ≤ (y 1).val) (h2 : (y 1).val < a + 16) : y ∈ (Rect.unit (s := S16x1312x128) off S1x16x128.size inb).set := by
  subst hoff
  have h3 := (y 2).isLt
  rw [Rect.mem_set_unit]
  intro b; match b with
  | ⟨0, _⟩ => exact ⟨le_of_eq h0.symm, by show (y 0).val < h + 1; omega⟩
  | ⟨1, _⟩ => exact ⟨h1, h2⟩
  | ⟨2, _⟩ => exact ⟨Nat.zero_le _, by show (y 2).val < 0 + 128; simpa using h3⟩

theorem mem11 {off : Fin 3 → ℕ} {inb : ∀ a, off a + S1x32x128.size a ≤ S16x1280x128.size a} {h a : ℕ} (hoff : off = ![h, a, 0]) {y : S16x1280x128.Idx}
    (h0 : (y 0).val = h) (h1 : a ≤ (y 1).val) (h2 : (y 1).val < a + 32) : y ∈ (Rect.unit (s := S16x1280x128) off S1x32x128.size inb).set := by
  subst hoff
  have h3 := (y 2).isLt
  rw [Rect.mem_set_unit]
  intro b; match b with
  | ⟨0, _⟩ => exact ⟨le_of_eq h0.symm, by show (y 0).val < h + 1; omega⟩
  | ⟨1, _⟩ => exact ⟨h1, h2⟩
  | ⟨2, _⟩ => exact ⟨Nat.zero_le _, by show (y 2).val < 0 + 128; simpa using h3⟩

/-- A row of an edge block, as an edge store lays it down. -/
theorem edge_apply (v : BitVec 1) (x : Vec F S1x256x128 .bf16) (h : Fin 16) (hs) (p : Fin 16) (l : Fin 128) :
    shapeCast S1x16x128 (Scalar.select v (broadcast S16x128 (Scalar.ofBits (F := F) .bf16 0x0000#16))
      (shapeCast S16x128 (extractStridedSlice S16x1x128 ![0, h.val, 0] (k0_pay66 x) hs) shapeCasts_S16x1x128_S16x128)) shapeCasts_S16x128_S1x16x128 (ix3 0 p l)
      = Scalar.select v (Scalar.ofBits .bf16 0x0000#16) (x (ix3 0 ⟨p.val * 16 + h.val, by omega⟩ l)) := by
  pointwise [k0_pay66]

theorem pieceLo (v1 v2 : BitVec 1) (x4 : Vec F S1x20480x128 .bf16) (x5 x6 : Vec F S1x256x128 .bf16) (h : Fin 16)
    {off : Fin 3 → ℕ} (inb : ∀ a, off a + S1x16x128.size a ≤ S16x1312x128.size a) (hoff : off = ![h.val, 0, 0])
    (w : S1x16x128.Idx → Elt F .bf16)
    (hw : ∀ (p : Fin 16) (l : Fin 128), w (ix3 0 p l) = Scalar.select v1 (Scalar.ofBits .bf16 0x0000#16) (x5 (ix3 0 ⟨p.val * 16 + h.val, by omega⟩ l)))
    (x : (Rect.unit (s := S16x1312x128) off S1x16x128.size inb).shape.Idx) :
    w x = v16At v1 v2 x4 x5 x6 ((Rect.unit (s := S16x1312x128) off S1x16x128.size inb).emb x) := by
  subst hoff
  obtain ⟨p, l, rfl⟩ : ∃ (p : Fin 16) (l : Fin 128), x = ix3 0 p l := ⟨x 1, x 2, by
    funext a; match a with
    | ⟨0, _⟩ => exact Subsingleton.elim (α := Fin 1) _ _
    | ⟨1, _⟩ => rfl
    | ⟨2, _⟩ => rfl⟩
  refine (hw p l).trans ?_
  have e0 : (((Rect.unit (s := S16x1312x128) ![h.val, 0, 0] S1x16x128.size inb).emb (ix3 0 p l)) 0).val = h.val := by
    (rw [rect_emb_val]; simp [ix3])
  have e1 : (((Rect.unit (s := S16x1312x128) ![h.val, 0, 0] S1x16x128.size inb).emb (ix3 0 p l)) 1).val = p.val := by
    (rw [rect_emb_val]; simp [ix3])
  have e2 : (((Rect.unit (s := S16x1312x128) ![h.val, 0, 0] S1x16x128.size inb).emb (ix3 0 p l)) 2).val = l.val := by
    (rw [rect_emb_val]; simp [ix3])
  generalize (Rect.unit (s := S16x1312x128) ![h.val, 0, 0] S1x16x128.size inb).emb (ix3 0 p l) = y at e0 e1 e2
  unfold v16At
  rw [dif_pos (by omega)]
  congr 2
  funext a; match a with
  | ⟨0, _⟩ => rfl
  | ⟨1, _⟩ => apply Fin.ext; simp [ix3]; omega
  | ⟨2, _⟩ => apply Fin.ext; simp [ix3]; omega

theorem pieceHi (v1 v2 : BitVec 1) (x4 : Vec F S1x20480x128 .bf16) (x5 x6 : Vec F S1x256x128 .bf16) (h : Fin 16)
    {off : Fin 3 → ℕ} (inb : ∀ a, off a + S1x16x128.size a ≤ S16x1312x128.size a) (hoff : off = ![h.val, 1296, 0])
    (w : S1x16x128.Idx → Elt F .bf16)
    (hw : ∀ (p : Fin 16) (l : Fin 128), w (ix3 0 p l) = Scalar.select v2 (Scalar.ofBits .bf16 0x0000#16) (x6 (ix3 0 ⟨p.val * 16 + h.val, by omega⟩ l)))
    (x : (Rect.unit (s := S16x1312x128) off S1x16x128.size inb).shape.Idx) :
    w x = v16At v1 v2 x4 x5 x6 ((Rect.unit (s := S16x1312x128) off S1x16x128.size inb).emb x) := by
  subst hoff
  obtain ⟨p, l, rfl⟩ : ∃ (p : Fin 16) (l : Fin 128), x = ix3 0 p l := ⟨x 1, x 2, by
    funext a; match a with
    | ⟨0, _⟩ => exact Subsingleton.elim (α := Fin 1) _ _
    | ⟨1, _⟩ => rfl
    | ⟨2, _⟩ => rfl⟩
  refine (hw p l).trans ?_
  have e0 : (((Rect.unit (s := S16x1312x128) ![h.val, 1296, 0] S1x16x128.size inb).emb (ix3 0 p l)) 0).val = h.val := by
    (rw [rect_emb_val]; simp [ix3])
  have e1 : (((Rect.unit (s := S16x1312x128) ![h.val, 1296, 0] S1x16x128.size inb).emb (ix3 0 p l)) 1).val = 1296 + p.val := by
    (rw [rect_emb_val]; simp [ix3])
  have e2 : (((Rect.unit (s := S16x1312x128) ![h.val, 1296, 0] S1x16x128.size inb).emb (ix3 0 p l)) 2).val = l.val := by
    (rw [rect_emb_val]; simp [ix3])
  generalize (Rect.unit (s := S16x1312x128) ![h.val, 1296, 0] S1x16x128.size inb).emb (ix3 0 p l) = y at e0 e1 e2
  unfold v16At
  rw [dif_neg (by omega), dif_neg (by omega)]
  congr 2
  funext a; match a with
  | ⟨0, _⟩ => rfl
  | ⟨1, _⟩ => apply Fin.ext; simp [ix3]; omega
  | ⟨2, _⟩ => apply Fin.ext; simp [ix3]; omega

theorem ld_edge (X : Vec F S1x256x128 .bf16) :
    View.ld X (Rect.unit (s := S1x256x128) ![0, 0, 0] S1x256x128.size inb_S1x256x128_S1x256x128_0_0_0) = X :=
  View.ld_unit_zero (by funext a; match a with | ⟨0, _⟩ => rfl | ⟨1, _⟩ => rfl | ⟨2, _⟩ => rfl) _ X

/-- Whether the point is the sequence's first block, and its last. -/
def firstBit (i : grid0.Coords) : BitVec 1 := Scalar.cmpi .eq (BitVec.ofNat 32 (i 1).val) 0#32
def lastBit (i : grid0.Coords) : BitVec 1 := Scalar.cmpi .eq (BitVec.ofNat 32 (i 1).val) 1#32

/-- The edge stores, last first. -/
def edges (i : grid0.Coords) (L5 L6 : Vec F S1x256x128 .bf16) : List (View.Piece (Elt F) S16x1312x128 .bf16) :=
  [⟨Rect.unit (s := S16x1312x128) ![15, 1296, 0] S1x16x128.size inb_S16x1312x128_S1x16x128_15_1296_0, k0_pay108 (lastBit i) (k0_pay89 L6)⟩,
   ⟨Rect.unit (s := S16x1312x128) ![14, 1296, 0] S1x16x128.size inb_S16x1312x128_S1x16x128_14_1296_0, k0_pay107 (lastBit i) (k0_pay89 L6)⟩,
   ⟨Rect.unit (s := S16x1312x128) ![13, 1296, 0] S1x16x128.size inb_S16x1312x128_S1x16x128_13_1296_0, k0_pay106 (lastBit i) (k0_pay89 L6)⟩,
   ⟨Rect.unit (s := S16x1312x128) ![12, 1296, 0] S1x16x128.size inb_S16x1312x128_S1x16x128_12_1296_0, k0_pay105 (lastBit i) (k0_pay89 L6)⟩,
   ⟨Rect.unit (s := S16x1312x128) ![11, 1296, 0] S1x16x128.size inb_S16x1312x128_S1x16x128_11_1296_0, k0_pay104 (k0_pay103 (lastBit i) (k0_pay89 L6))⟩,
   ⟨Rect.unit (s := S16x1312x128) ![10, 1296, 0] S1x16x128.size inb_S16x1312x128_S1x16x128_10_1296_0, k0_pay102 (lastBit i) (k0_pay89 L6)⟩,
   ⟨Rect.unit (s := S16x1312x128) ![9, 1296, 0] S1x16x128.size inb_S16x1312x128_S1x16x128_9_1296_0, k0_pay101 (lastBit i) (k0_pay89 L6)⟩,
   ⟨Rect.unit (s := S16x1312x128) ![8, 1296, 0] S1x16x128.size inb_S16x1312x128_S1x16x128_8_1296_0, k0_pay100 (lastBit i) (k0_pay89 L6)⟩,
   ⟨Rect.unit (s := S16x1312x128) ![7, 1296, 0] S1x16x128.size inb_S16x1312x128_S1x16x128_7_1296_0, k0_pay99 (lastBit i) (k0_pay89 L6)⟩,
   ⟨Rect.unit (s := S16x1312x128) ![6, 1296, 0] S1x16x128.size inb_S16x1312x128_S1x16x128_6_1296_0, k0_pay98 (k0_pay97 (lastBit i) (k0_pay89 L6))⟩,
   ⟨Rect.unit (s := S16x1312x128) ![5, 1296, 0] S1x16x128.size inb_S16x1312x128_S1x16x128_5_1296_0, k0_pay96 (lastBit i) (k0_pay89 L6)⟩,
   ⟨Rect.unit (s := S16x1312x128) ![4, 1296, 0] S1x16x128.size inb_S16x1312x128_S1x16x128_4_1296_0, k0_pay95 (lastBit i) (k0_pay89 L6)⟩,
   ⟨Rect.unit (s := S16x1312x128) ![3, 1296, 0] S1x16x128.size inb_S16x1312x128_S1x16x128_3_1296_0, k0_pay94 (lastBit i) (k0_pay89 L6)⟩,
   ⟨Rect.unit (s := S16x1312x128) ![2, 1296, 0] S1x16x128.size inb_S16x1312x128_S1x16x128_2_1296_0, k0_pay93 (lastBit i) (k0_pay89 L6)⟩,
   ⟨Rect.unit (s := S16x1312x128) ![1, 1296, 0] S1x16x128.size inb_S16x1312x128_S1x16x128_1_1296_0, k0_pay92 (k0_pay91 (lastBit i) L6)⟩,
   ⟨Rect.unit (s := S16x1312x128) ![0, 1296, 0] S1x16x128.size inb_S16x1312x128_S1x16x128_0_1296_0, k0_pay90 (lastBit i) L6⟩,
   ⟨Rect.unit (s := S16x1312x128) ![15, 0, 0] S1x16x128.size inb_S16x1312x128_S1x16x128_15_0_0, k0_pay88 (firstBit i) (k0_pay66 L5)⟩,
   ⟨Rect.unit (s := S16x1312x128) ![14, 0, 0] S1x16x128.size inb_S16x1312x128_S1x16x128_14_0_0, k0_pay87 (firstBit i) (k0_pay66 L5)⟩,
   ⟨Rect.unit (s := S16x1312x128) ![13, 0, 0] S1x16x128.size inb_S16x1312x128_S1x16x128_13_0_0, k0_pay86 (firstBit i) (k0_pay84 (F := F)) (k0_pay85 (k0_pay66 L5))⟩,
   ⟨Rect.unit (s := S16x1312x128) ![12, 0, 0] S1x16x128.size inb_S16x1312x128_S1x16x128_12_0_0, k0_pay83 (firstBit i) (k0_pay66 L5)⟩,
   ⟨Rect.unit (s := S16x1312x128) ![11, 0, 0] S1x16x128.size inb_S16x1312x128_S1x16x128_11_0_0, k0_pay82 (firstBit i) (k0_pay66 L5)⟩,
   ⟨Rect.unit (s := S16x1312x128) ![10, 0, 0] S1x16x128.size inb_S16x1312x128_S1x16x128_10_0_0, k0_pay81 (firstBit i) (k0_pay66 L5)⟩,
   ⟨Rect.unit (s := S16x1312x128) ![9, 0, 0] S1x16x128.size inb_S16x1312x128_S1x16x128_9_0_0, k0_pay80 (firstBit i) (k0_pay66 L5)⟩,
   ⟨Rect.unit (s := S16x1312x128) ![8, 0, 0] S1x16x128.size inb_S16x1312x128_S1x16x128_8_0_0, k0_pay79 (firstBit i) (k0_pay77 (F := F)) (k0_pay78 (k0_pay66 L5))⟩,
   ⟨Rect.unit (s := S16x1312x128) ![7, 0, 0] S1x16x128.size inb_S16x1312x128_S1x16x128_7_0_0, k0_pay76 (firstBit i) (k0_pay66 L5)⟩,
   ⟨Rect.unit (s := S16x1312x128) ![6, 0, 0] S1x16x128.size inb_S16x1312x128_S1x16x128_6_0_0, k0_pay75 (firstBit i) (k0_pay66 L5)⟩,
   ⟨Rect.unit (s := S16x1312x128) ![5, 0, 0] S1x16x128.size inb_S16x1312x128_S1x16x128_5_0_0, k0_pay74 (firstBit i) (k0_pay66 L5)⟩,
   ⟨Rect.unit (s := S16x1312x128) ![4, 0, 0] S1x16x128.size inb_S16x1312x128_S1x16x128_4_0_0, k0_pay73 (firstBit i) (k0_pay66 L5)⟩,
   ⟨Rect.unit (s := S16x1312x128) ![3, 0, 0] S1x16x128.size inb_S16x1312x128_S1x16x128_3_0_0, k0_pay72 (firstBit i) (k0_pay70 (F := F)) (k0_pay71 L5)⟩,
   ⟨Rect.unit (s := S16x1312x128) ![2, 0, 0] S1x16x128.size inb_S16x1312x128_S1x16x128_2_0_0, k0_pay69 i L5⟩,
   ⟨Rect.unit (s := S16x1312x128) ![1, 0, 0] S1x16x128.size inb_S16x1312x128_S1x16x128_1_0_0, k0_pay68 i L5⟩,
   ⟨Rect.unit (s := S16x1312x128) ![0, 0, 0] S1x16x128.size inb_S16x1312x128_S1x16x128_0_0_0, k0_pay67 i L5⟩]

set_option maxHeartbeats 2000000 in
theorem edges_of (i : grid0.Coords) (x4 : Vec F S1x20480x128 .bf16) (x5 x6 : Vec F S1x256x128 .bf16) :
    View.PiecesOf (v16At (firstBit i) (lastBit i) x4 x5 x6) (edges i x5 x6) := by
  unfold edges
  refine ⟨pieceHi (firstBit i) (lastBit i) x4 x5 x6 15 inb_S16x1312x128_S1x16x128_15_1296_0 rfl _ (fun p l => edge_apply (lastBit i) x6 15 slices_S16x16x128_o0_15_0_S16x1x128 p l), pieceHi (firstBit i) (lastBit i) x4 x5 x6 14 inb_S16x1312x128_S1x16x128_14_1296_0 rfl _ (fun p l => edge_apply (lastBit i) x6 14 slices_S16x16x128_o0_14_0_S16x1x128 p l), pieceHi (firstBit i) (lastBit i) x4 x5 x6 13 inb_S16x1312x128_S1x16x128_13_1296_0 rfl _ (fun p l => edge_apply (lastBit i) x6 13 slices_S16x16x128_o0_13_0_S16x1x128 p l), pieceHi (firstBit i) (lastBit i) x4 x5 x6 12 inb_S16x1312x128_S1x16x128_12_1296_0 rfl _ (fun p l => edge_apply (lastBit i) x6 12 slices_S16x16x128_o0_12_0_S16x1x128 p l), pieceHi (firstBit i) (lastBit i) x4 x5 x6 11 inb_S16x1312x128_S1x16x128_11_1296_0 rfl _ (fun p l => edge_apply (lastBit i) x6 11 slices_S16x16x128_o0_11_0_S16x1x128 p l), pieceHi (firstBit i) (lastBit i) x4 x5 x6 10 inb_S16x1312x128_S1x16x128_10_1296_0 rfl _ (fun p l => edge_apply (lastBit i) x6 10 slices_S16x16x128_o0_10_0_S16x1x128 p l), pieceHi (firstBit i) (lastBit i) x4 x5 x6 9 inb_S16x1312x128_S1x16x128_9_1296_0 rfl _ (fun p l => edge_apply (lastBit i) x6 9 slices_S16x16x128_o0_9_0_S16x1x128 p l), pieceHi (firstBit i) (lastBit i) x4 x5 x6 8 inb_S16x1312x128_S1x16x128_8_1296_0 rfl _ (fun p l => edge_apply (lastBit i) x6 8 slices_S16x16x128_o0_8_0_S16x1x128 p l), pieceHi (firstBit i) (lastBit i) x4 x5 x6 7 inb_S16x1312x128_S1x16x128_7_1296_0 rfl _ (fun p l => edge_apply (lastBit i) x6 7 slices_S16x16x128_o0_7_0_S16x1x128 p l), pieceHi (firstBit i) (lastBit i) x4 x5 x6 6 inb_S16x1312x128_S1x16x128_6_1296_0 rfl _ (fun p l => edge_apply (lastBit i) x6 6 slices_S16x16x128_o0_6_0_S16x1x128 p l), pieceHi (firstBit i) (lastBit i) x4 x5 x6 5 inb_S16x1312x128_S1x16x128_5_1296_0 rfl _ (fun p l => edge_apply (lastBit i) x6 5 slices_S16x16x128_o0_5_0_S16x1x128 p l), pieceHi (firstBit i) (lastBit i) x4 x5 x6 4 inb_S16x1312x128_S1x16x128_4_1296_0 rfl _ (fun p l => edge_apply (lastBit i) x6 4 slices_S16x16x128_o0_4_0_S16x1x128 p l), pieceHi (firstBit i) (lastBit i) x4 x5 x6 3 inb_S16x1312x128_S1x16x128_3_1296_0 rfl _ (fun p l => edge_apply (lastBit i) x6 3 slices_S16x16x128_o0_3_0_S16x1x128 p l), pieceHi (firstBit i) (lastBit i) x4 x5 x6 2 inb_S16x1312x128_S1x16x128_2_1296_0 rfl _ (fun p l => edge_apply (lastBit i) x6 2 slices_S16x16x128_o0_2_0_S16x1x128 p l), pieceHi (firstBit i) (lastBit i) x4 x5 x6 1 inb_S16x1312x128_S1x16x128_1_1296_0 rfl _ (fun p l => edge_apply (lastBit i) x6 1 slices_S16x16x128_o0_1_0_S16x1x128 p l), pieceHi (firstBit i) (lastBit i) x4 x5 x6 0 inb_S16x1312x128_S1x16x128_0_1296_0 rfl _ (fun p l => edge_apply (lastBit i) x6 0 slices_S16x16x128_o0_0_0_S16x1x128 p l), pieceLo (firstBit i) (lastBit i) x4 x5 x6 15 inb_S16x1312x128_S1x16x128_15_0_0 rfl _ (fun p l => edge_apply (firstBit i) x5 15 slices_S16x16x128_o0_15_0_S16x1x128 p l), pieceLo (firstBit i) (lastBit i) x4 x5 x6 14 inb_S16x1312x128_S1x16x128_14_0_0 rfl _ (fun p l => edge_apply (firstBit i) x5 14 slices_S16x16x128_o0_14_0_S16x1x128 p l), pieceLo (firstBit i) (lastBit i) x4 x5 x6 13 inb_S16x1312x128_S1x16x128_13_0_0 rfl _ (fun p l => edge_apply (firstBit i) x5 13 slices_S16x16x128_o0_13_0_S16x1x128 p l), pieceLo (firstBit i) (lastBit i) x4 x5 x6 12 inb_S16x1312x128_S1x16x128_12_0_0 rfl _ (fun p l => edge_apply (firstBit i) x5 12 slices_S16x16x128_o0_12_0_S16x1x128 p l), pieceLo (firstBit i) (lastBit i) x4 x5 x6 11 inb_S16x1312x128_S1x16x128_11_0_0 rfl _ (fun p l => edge_apply (firstBit i) x5 11 slices_S16x16x128_o0_11_0_S16x1x128 p l), pieceLo (firstBit i) (lastBit i) x4 x5 x6 10 inb_S16x1312x128_S1x16x128_10_0_0 rfl _ (fun p l => edge_apply (firstBit i) x5 10 slices_S16x16x128_o0_10_0_S16x1x128 p l), pieceLo (firstBit i) (lastBit i) x4 x5 x6 9 inb_S16x1312x128_S1x16x128_9_0_0 rfl _ (fun p l => edge_apply (firstBit i) x5 9 slices_S16x16x128_o0_9_0_S16x1x128 p l), pieceLo (firstBit i) (lastBit i) x4 x5 x6 8 inb_S16x1312x128_S1x16x128_8_0_0 rfl _ (fun p l => edge_apply (firstBit i) x5 8 slices_S16x16x128_o0_8_0_S16x1x128 p l), pieceLo (firstBit i) (lastBit i) x4 x5 x6 7 inb_S16x1312x128_S1x16x128_7_0_0 rfl _ (fun p l => edge_apply (firstBit i) x5 7 slices_S16x16x128_o0_7_0_S16x1x128 p l), pieceLo (firstBit i) (lastBit i) x4 x5 x6 6 inb_S16x1312x128_S1x16x128_6_0_0 rfl _ (fun p l => edge_apply (firstBit i) x5 6 slices_S16x16x128_o0_6_0_S16x1x128 p l), pieceLo (firstBit i) (lastBit i) x4 x5 x6 5 inb_S16x1312x128_S1x16x128_5_0_0 rfl _ (fun p l => edge_apply (firstBit i) x5 5 slices_S16x16x128_o0_5_0_S16x1x128 p l), pieceLo (firstBit i) (lastBit i) x4 x5 x6 4 inb_S16x1312x128_S1x16x128_4_0_0 rfl _ (fun p l => edge_apply (firstBit i) x5 4 slices_S16x16x128_o0_4_0_S16x1x128 p l), pieceLo (firstBit i) (lastBit i) x4 x5 x6 3 inb_S16x1312x128_S1x16x128_3_0_0 rfl _ (fun p l => edge_apply (firstBit i) x5 3 slices_S16x16x128_o0_3_0_S16x1x128 p l), pieceLo (firstBit i) (lastBit i) x4 x5 x6 2 inb_S16x1312x128_S1x16x128_2_0_0 rfl _ (fun p l => edge_apply (firstBit i) x5 2 slices_S16x16x128_o0_2_0_S16x1x128 p l), pieceLo (firstBit i) (lastBit i) x4 x5 x6 1 inb_S16x1312x128_S1x16x128_1_0_0 rfl _ (fun p l => edge_apply (firstBit i) x5 1 slices_S16x16x128_o0_1_0_S16x1x128 p l), pieceLo (firstBit i) (lastBit i) x4 x5 x6 0 inb_S16x1312x128_S1x16x128_0_0_0 rfl _ (fun p l => edge_apply (firstBit i) x5 0 slices_S16x16x128_o0_0_0_S16x1x128 p l), trivial⟩

theorem edges_lo (i : grid0.Coords) (x5 x6 : Vec F S1x256x128 .bf16) (y : S16x1312x128.Idx) (hy : (y 1).val < 16) :
    ∃ p ∈ edges (F := F) i x5 x6, y ∈ p.1.set := by
  have h0 : (y 0).val < 16 := (y 0).isLt
  unfold edges
  obtain h | h | h | h | h | h | h | h | h | h | h | h | h | h | h | h : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), ?_⟩
    exact mem12e (inb := inb_S16x1312x128_S1x16x128_0_0_0) (h := 0) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), ?_⟩
    exact mem12e (inb := inb_S16x1312x128_S1x16x128_1_0_0) (h := 1) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), ?_⟩
    exact mem12e (inb := inb_S16x1312x128_S1x16x128_2_0_0) (h := 2) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), ?_⟩
    exact mem12e (inb := inb_S16x1312x128_S1x16x128_3_0_0) (h := 3) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), ?_⟩
    exact mem12e (inb := inb_S16x1312x128_S1x16x128_4_0_0) (h := 4) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), ?_⟩
    exact mem12e (inb := inb_S16x1312x128_S1x16x128_5_0_0) (h := 5) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), ?_⟩
    exact mem12e (inb := inb_S16x1312x128_S1x16x128_6_0_0) (h := 6) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), ?_⟩
    exact mem12e (inb := inb_S16x1312x128_S1x16x128_7_0_0) (h := 7) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), ?_⟩
    exact mem12e (inb := inb_S16x1312x128_S1x16x128_8_0_0) (h := 8) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), ?_⟩
    exact mem12e (inb := inb_S16x1312x128_S1x16x128_9_0_0) (h := 9) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), ?_⟩
    exact mem12e (inb := inb_S16x1312x128_S1x16x128_10_0_0) (h := 10) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), ?_⟩
    exact mem12e (inb := inb_S16x1312x128_S1x16x128_11_0_0) (h := 11) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), ?_⟩
    exact mem12e (inb := inb_S16x1312x128_S1x16x128_12_0_0) (h := 12) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), ?_⟩
    exact mem12e (inb := inb_S16x1312x128_S1x16x128_13_0_0) (h := 13) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.tail _ (.head _))))))))))))))))), ?_⟩
    exact mem12e (inb := inb_S16x1312x128_S1x16x128_14_0_0) (h := 14) (a := 0) rfl h (by omega) (by omega)
  · refine ⟨_, .tail _ (.tail _ (.tail _ (.tail _ (.tail _ (.tail _ (.tail _ (.tail _ (.tail _ (.tail _ (.tail _ (.tail _ (.tail _ (.tail _ (.tail _ (.tail _ (.head _)))))))))))))))), ?_⟩
    exact mem12e (inb := inb_S16x1312x128_S1x16x128_15_0_0) (h := 15) (a := 0) rfl h (by omega) (by omega)

theorem edges_hi (i : grid0.Coords) (x5 x6 : Vec F S1x256x128 .bf16) (y : S16x1312x128.Idx) (hy : 1296 ≤ (y 1).val) :
    ∃ p ∈ edges (F := F) i x5 x6, y ∈ p.1.set := by
  have h0 : (y 0).val < 16 := (y 0).isLt
  have h1 : (y 1).val < 1312 := (y 1).isLt
  unfold edges
  obtain h | h | h | h | h | h | h | h | h | h | h | h | h | h | h | h : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
  · refine ⟨_, .tail _ (.tail _ (.tail _ (.tail _ (.tail _ (.tail _ (.tail _ (.tail _ (.tail _ (.tail _ (.tail _ (.tail _ (.tail _ (.tail _ (.tail _ (.head _))))))))))))))), ?_⟩
    exact mem12e (inb := inb_S16x1312x128_S1x16x128_0_1296_0) (h := 0) (a := 1296) rfl h (by omega) (by omega)
  · refine ⟨_, .tail _ (.tail _ (.tail _ (.tail _ (.tail _ (.tail _ (.tail _ (.tail _ (.tail _ (.tail _ (.tail _ (.tail _ (.tail _ (.tail _ (.head _)))))))))))))), ?_⟩
    exact mem12e (inb := inb_S16x1312x128_S1x16x128_1_1296_0) (h := 1) (a := 1296) rfl h (by omega) (by omega)
  · refine ⟨_, .tail _ (.tail _ (.tail _ (.tail _ (.tail _ (.tail _ (.tail _ (.tail _ (.tail _ (.tail _ (.tail _ (.tail _ (.tail _ (.head _))))))))))))), ?_⟩
    exact mem12e (inb := inb_S16x1312x128_S1x16x128_2_1296_0) (h := 2) (a := 1296) rfl h (by omega) (by omega)
  · refine ⟨_, .tail _ (.tail _ (.tail _ (.tail _ (.tail _ (.tail _ (.tail _ (.tail _ (.tail _ (.tail _ (.tail _ (.tail _ (.head _)))))))))))), ?_⟩
    exact mem12e (inb := inb_S16x1312x128_S1x16x128_3_1296_0) (h := 3) (a := 1296) rfl h (by omega) (by omega)
  · refine ⟨_, .tail _ (.tail _ (.tail _ (.tail _ (.tail _ (.tail _ (.tail _ (.tail _ (.tail _ (.tail _ (.tail _ (.head _))))))))))), ?_⟩
    exact mem12e (inb := inb_S16x1312x128_S1x16x128_4_1296_0) (h := 4) (a := 1296) rfl h (by omega) (by omega)
  · refine ⟨_, .tail _ (.tail _ (.tail _ (.tail _ (.tail _ (.tail _ (.tail _ (.tail _ (.tail _ (.tail _ (.head _)))))))))), ?_⟩
    exact mem12e (inb := inb_S16x1312x128_S1x16x128_5_1296_0) (h := 5) (a := 1296) rfl h (by omega) (by omega)
  · refine ⟨_, .tail _ (.tail _ (.tail _ (.tail _ (.tail _ (.tail _ (.tail _ (.tail _ (.tail _ (.head _))))))))), ?_⟩
    exact mem12e (inb := inb_S16x1312x128_S1x16x128_6_1296_0) (h := 6) (a := 1296) rfl h (by omega) (by omega)
  · refine ⟨_, .tail _ (.tail _ (.tail _ (.tail _ (.tail _ (.tail _ (.tail _ (.tail _ (.head _)))))))), ?_⟩
    exact mem12e (inb := inb_S16x1312x128_S1x16x128_7_1296_0) (h := 7) (a := 1296) rfl h (by omega) (by omega)
  · refine ⟨_, .tail _ (.tail _ (.tail _ (.tail _ (.tail _ (.tail _ (.tail _ (.head _))))))), ?_⟩
    exact mem12e (inb := inb_S16x1312x128_S1x16x128_8_1296_0) (h := 8) (a := 1296) rfl h (by omega) (by omega)
  · refine ⟨_, .tail _ (.tail _ (.tail _ (.tail _ (.tail _ (.tail _ (.head _)))))), ?_⟩
    exact mem12e (inb := inb_S16x1312x128_S1x16x128_9_1296_0) (h := 9) (a := 1296) rfl h (by omega) (by omega)
  · refine ⟨_, .tail _ (.tail _ (.tail _ (.tail _ (.tail _ (.head _))))), ?_⟩
    exact mem12e (inb := inb_S16x1312x128_S1x16x128_10_1296_0) (h := 10) (a := 1296) rfl h (by omega) (by omega)
  · refine ⟨_, .tail _ (.tail _ (.tail _ (.tail _ (.head _)))), ?_⟩
    exact mem12e (inb := inb_S16x1312x128_S1x16x128_11_1296_0) (h := 11) (a := 1296) rfl h (by omega) (by omega)
  · refine ⟨_, .tail _ (.tail _ (.tail _ (.head _))), ?_⟩
    exact mem12e (inb := inb_S16x1312x128_S1x16x128_12_1296_0) (h := 12) (a := 1296) rfl h (by omega) (by omega)
  · refine ⟨_, .tail _ (.tail _ (.head _)), ?_⟩
    exact mem12e (inb := inb_S16x1312x128_S1x16x128_13_1296_0) (h := 13) (a := 1296) rfl h (by omega) (by omega)
  · refine ⟨_, .tail _ (.head _), ?_⟩
    exact mem12e (inb := inb_S16x1312x128_S1x16x128_14_1296_0) (h := 14) (a := 1296) rfl h (by omega) (by omega)
  · refine ⟨_, .head _, ?_⟩
    exact mem12e (inb := inb_S16x1312x128_S1x16x128_15_1296_0) (h := 15) (a := 1296) rfl h (by omega) (by omega)

section trip
variable (c : Dev nD) (i : grid0.Coords) (arg2 : Memref sig .tc .smem S384 .f32) (harg2 : arg2.IsWhole) (arg3 : Memref sig .tc .vmem S1x20480x128 .fp8e4m3) (harg3 : arg3.IsWhole) (arg4 : Memref sig .tc .vmem S1x16x64x128 .fp8e4m3) (harg4 : arg4.IsWhole) (arg5 : Memref sig .tc .vmem S1x16x64x128 .bf16) (harg5 : arg5.IsWhole) (arg6 : Memref sig .tc .vmem S1x20480x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S16x128x480 .bf16) (harg9 : arg9.IsWhole) (arg10 : Memref sig .tc .vmem S1x1280x2048 .bf16) (harg10 : arg10.IsWhole) (arg11 : Memref sig .tc .vmem S16x1280x128 .fp8e4m3) (harg11 : arg11.IsWhole) (arg12 : Memref sig .tc .vmem S16x1312x128 .bf16) (harg12 : arg12.IsWhole)
  (x1 : Vec F S1x20480x128 .fp8e4m3) (x4 : Vec F S1x20480x128 .bf16)

set_option maxHeartbeats 2000000 in
theorem trip12_cover (k : Fin k0_t1_loop.trips) (y : S16x1312x128.Idx) (h1 : 16 + 32 * k.val ≤ (y 1).val) (h2 : (y 1).val < 16 + 32 * k.val + 32) :
    ∃ p ∈ (trip_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) k).2.1, y ∈ p.1.set := by
  have h0 : (y 0).val < 16 := (y 0).isLt
  unfold trip_k0_t1
  dsimp only
  obtain h | h | h | h | h | h | h | h | h | h | h | h | h | h | h | h : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
  · refine ⟨_, .tail _ (.tail _ (.tail _ (.tail _ (.tail _ (.tail _ (.tail _ (.tail _ (.tail _ (.tail _ (.tail _ (.tail _ (.tail _ (.tail _ (.tail _ (.head _))))))))))))))), ?_⟩
    exact mem12 (inb := k0_off2_inb k) (off12_0 k) h h1 h2
  · refine ⟨_, .tail _ (.tail _ (.tail _ (.tail _ (.tail _ (.tail _ (.tail _ (.tail _ (.tail _ (.tail _ (.tail _ (.tail _ (.tail _ (.tail _ (.head _)))))))))))))), ?_⟩
    exact mem12 (inb := k0_off3_inb k) (off12_1 k) h h1 h2
  · refine ⟨_, .tail _ (.tail _ (.tail _ (.tail _ (.tail _ (.tail _ (.tail _ (.tail _ (.tail _ (.tail _ (.tail _ (.tail _ (.tail _ (.head _))))))))))))), ?_⟩
    exact mem12 (inb := k0_off4_inb k) (off12_2 k) h h1 h2
  · refine ⟨_, .tail _ (.tail _ (.tail _ (.tail _ (.tail _ (.tail _ (.tail _ (.tail _ (.tail _ (.tail _ (.tail _ (.tail _ (.head _)))))))))))), ?_⟩
    exact mem12 (inb := k0_off5_inb k) (off12_3 k) h h1 h2
  · refine ⟨_, .tail _ (.tail _ (.tail _ (.tail _ (.tail _ (.tail _ (.tail _ (.tail _ (.tail _ (.tail _ (.tail _ (.head _))))))))))), ?_⟩
    exact mem12 (inb := k0_off6_inb k) (off12_4 k) h h1 h2
  · refine ⟨_, .tail _ (.tail _ (.tail _ (.tail _ (.tail _ (.tail _ (.tail _ (.tail _ (.tail _ (.tail _ (.head _)))))))))), ?_⟩
    exact mem12 (inb := k0_off7_inb k) (off12_5 k) h h1 h2
  · refine ⟨_, .tail _ (.tail _ (.tail _ (.tail _ (.tail _ (.tail _ (.tail _ (.tail _ (.tail _ (.head _))))))))), ?_⟩
    exact mem12 (inb := k0_off8_inb k) (off12_6 k) h h1 h2
  · refine ⟨_, .tail _ (.tail _ (.tail _ (.tail _ (.tail _ (.tail _ (.tail _ (.tail _ (.head _)))))))), ?_⟩
    exact mem12 (inb := k0_off9_inb k) (off12_7 k) h h1 h2
  · refine ⟨_, .tail _ (.tail _ (.tail _ (.tail _ (.tail _ (.tail _ (.tail _ (.head _))))))), ?_⟩
    exact mem12 (inb := k0_off10_inb k) (off12_8 k) h h1 h2
  · refine ⟨_, .tail _ (.tail _ (.tail _ (.tail _ (.tail _ (.tail _ (.head _)))))), ?_⟩
    exact mem12 (inb := k0_off11_inb k) (off12_9 k) h h1 h2
  · refine ⟨_, .tail _ (.tail _ (.tail _ (.tail _ (.tail _ (.head _))))), ?_⟩
    exact mem12 (inb := k0_off12_inb k) (off12_10 k) h h1 h2
  · refine ⟨_, .tail _ (.tail _ (.tail _ (.tail _ (.head _)))), ?_⟩
    exact mem12 (inb := k0_off13_inb k) (off12_11 k) h h1 h2
  · refine ⟨_, .tail _ (.tail _ (.tail _ (.head _))), ?_⟩
    exact mem12 (inb := k0_off14_inb k) (off12_12 k) h h1 h2
  · refine ⟨_, .tail _ (.tail _ (.head _)), ?_⟩
    exact mem12 (inb := k0_off15_inb k) (off12_13 k) h h1 h2
  · refine ⟨_, .tail _ (.head _), ?_⟩
    exact mem12 (inb := k0_off16_inb k) (off12_14 k) h h1 h2
  · refine ⟨_, .head _, ?_⟩
    exact mem12 (inb := k0_off17_inb k) (off12_15 k) h h1 h2

set_option maxHeartbeats 2000000 in
theorem trip11_cover (k : Fin k0_t1_loop.trips) (y : S16x1280x128.Idx) (h1 : 32 * k.val ≤ (y 1).val) (h2 : (y 1).val < 32 * k.val + 32) :
    ∃ p ∈ (trip_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) k).1, y ∈ p.1.set := by
  have h0 : (y 0).val < 16 := (y 0).isLt
  unfold trip_k0_t1
  dsimp only
  obtain h | h | h | h | h | h | h | h | h | h | h | h | h | h | h | h : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
  · refine ⟨_, .tail _ (.tail _ (.tail _ (.tail _ (.tail _ (.tail _ (.tail _ (.tail _ (.tail _ (.tail _ (.tail _ (.tail _ (.tail _ (.tail _ (.tail _ (.head _))))))))))))))), ?_⟩
    exact mem11 (inb := k0_off18_inb k) (off11_0 k) h h1 h2
  · refine ⟨_, .tail _ (.tail _ (.tail _ (.tail _ (.tail _ (.tail _ (.tail _ (.tail _ (.tail _ (.tail _ (.tail _ (.tail _ (.tail _ (.tail _ (.head _)))))))))))))), ?_⟩
    exact mem11 (inb := k0_off19_inb k) (off11_1 k) h h1 h2
  · refine ⟨_, .tail _ (.tail _ (.tail _ (.tail _ (.tail _ (.tail _ (.tail _ (.tail _ (.tail _ (.tail _ (.tail _ (.tail _ (.tail _ (.head _))))))))))))), ?_⟩
    exact mem11 (inb := k0_off20_inb k) (off11_2 k) h h1 h2
  · refine ⟨_, .tail _ (.tail _ (.tail _ (.tail _ (.tail _ (.tail _ (.tail _ (.tail _ (.tail _ (.tail _ (.tail _ (.tail _ (.head _)))))))))))), ?_⟩
    exact mem11 (inb := k0_off21_inb k) (off11_3 k) h h1 h2
  · refine ⟨_, .tail _ (.tail _ (.tail _ (.tail _ (.tail _ (.tail _ (.tail _ (.tail _ (.tail _ (.tail _ (.tail _ (.head _))))))))))), ?_⟩
    exact mem11 (inb := k0_off22_inb k) (off11_4 k) h h1 h2
  · refine ⟨_, .tail _ (.tail _ (.tail _ (.tail _ (.tail _ (.tail _ (.tail _ (.tail _ (.tail _ (.tail _ (.head _)))))))))), ?_⟩
    exact mem11 (inb := k0_off23_inb k) (off11_5 k) h h1 h2
  · refine ⟨_, .tail _ (.tail _ (.tail _ (.tail _ (.tail _ (.tail _ (.tail _ (.tail _ (.tail _ (.head _))))))))), ?_⟩
    exact mem11 (inb := k0_off24_inb k) (off11_6 k) h h1 h2
  · refine ⟨_, .tail _ (.tail _ (.tail _ (.tail _ (.tail _ (.tail _ (.tail _ (.tail _ (.head _)))))))), ?_⟩
    exact mem11 (inb := k0_off25_inb k) (off11_7 k) h h1 h2
  · refine ⟨_, .tail _ (.tail _ (.tail _ (.tail _ (.tail _ (.tail _ (.tail _ (.head _))))))), ?_⟩
    exact mem11 (inb := k0_off26_inb k) (off11_8 k) h h1 h2
  · refine ⟨_, .tail _ (.tail _ (.tail _ (.tail _ (.tail _ (.tail _ (.head _)))))), ?_⟩
    exact mem11 (inb := k0_off27_inb k) (off11_9 k) h h1 h2
  · refine ⟨_, .tail _ (.tail _ (.tail _ (.tail _ (.tail _ (.head _))))), ?_⟩
    exact mem11 (inb := k0_off28_inb k) (off11_10 k) h h1 h2
  · refine ⟨_, .tail _ (.tail _ (.tail _ (.tail _ (.head _)))), ?_⟩
    exact mem11 (inb := k0_off29_inb k) (off11_11 k) h h1 h2
  · refine ⟨_, .tail _ (.tail _ (.tail _ (.head _))), ?_⟩
    exact mem11 (inb := k0_off30_inb k) (off11_12 k) h h1 h2
  · refine ⟨_, .tail _ (.tail _ (.head _)), ?_⟩
    exact mem11 (inb := k0_off31_inb k) (off11_13 k) h h1 h2
  · refine ⟨_, .tail _ (.head _), ?_⟩
    exact mem11 (inb := k0_off32_inb k) (off11_14 k) h h1 h2
  · refine ⟨_, .head _, ?_⟩
    exact mem11 (inb := k0_off33_inb k) (off11_15 k) h h1 h2

/-- After `n` trips: every piece is a block of the two functions, and the rows up to `32 n` are covered. -/
theorem loop1 (v1 v2 : BitVec 1) (x5 x6 : Vec F S1x256x128 .bf16) : ∀ n : ℕ, n ≤ 40 →
    (View.PiecesOf (q8At x1) (pb_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) n).1 ∧ View.PiecesOf (v16At v1 v2 x4 x5 x6) (pb_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) n).2)
    ∧ (∀ y : S16x1280x128.Idx, (y 1).val < 32 * n → ∃ p ∈ (pb_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) n).1, y ∈ p.1.set)
    ∧ (∀ y : S16x1312x128.Idx, 16 ≤ (y 1).val → (y 1).val < 16 + 32 * n → ∃ p ∈ (pb_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) n).2, y ∈ p.1.set)
  | 0, _ => ⟨⟨trivial, trivial⟩, fun y h => absurd h (by omega), fun y h h' => absurd h' (by omega)⟩
  | n + 1, hn => by
    have ih := loop1 v1 v2 x5 x6 n (by omega)
    have hn' : n < k0_t1_loop.trips := lt_of_lt_of_le (show n < 40 by omega) (by decide +kernel)
    have e := pb_k0_t1_succ (F := F) Variants.none c none i arg2 harg2 arg3 harg3 arg4 harg4 arg5 harg5 arg6 harg6 arg7 harg7 arg8 harg8 arg9 harg9 arg10 harg10 arg11 harg11 arg12 harg12 (harg3.unread x1) (harg6.unread x4) ⟨n, hn'⟩
    rw [show (⟨n, hn'⟩ : Fin k0_t1_loop.trips).val + 1 = n + 1 from rfl] at e
    rw [e]
    refine ⟨⟨piecesOf_append (trip11 c i arg2 harg2 arg3 harg3 arg4 harg4 arg5 harg5 arg6 harg6 arg7 harg7 arg8 harg8 arg9 harg9 arg10 harg10 arg11 harg11 arg12 harg12 x1 x4 ⟨n, hn'⟩) ih.1.1, piecesOf_append (trip12 c i arg2 harg2 arg3 harg3 arg4 harg4 arg5 harg5 arg6 harg6 arg7 harg7 arg8 harg8 arg9 harg9 arg10 harg10 arg11 harg11 arg12 harg12 x1 v1 v2 x4 x5 x6 ⟨n, hn'⟩) ih.1.2⟩, fun y h => ?_, fun y h h' => ?_⟩
    · by_cases hy : (y 1).val < 32 * n
      · obtain ⟨p, hp, hm⟩ := ih.2.1 y hy
        exact ⟨p, List.mem_append_right _ hp, hm⟩
      · obtain ⟨p, hp, hm⟩ := trip11_cover c i arg2 harg2 arg3 harg3 arg4 harg4 arg5 harg5 arg6 harg6 arg7 harg7 arg8 harg8 arg9 harg9 arg10 harg10 arg11 harg11 arg12 harg12 x1 x4 ⟨n, hn'⟩ y (by simpa using hy) (by show _ < 32 * n + 32; omega)
        exact ⟨p, List.mem_append_left _ hp, hm⟩
    · by_cases hy : (y 1).val < 16 + 32 * n
      · obtain ⟨p, hp, hm⟩ := ih.2.2 y h hy
        exact ⟨p, List.mem_append_right _ hp, hm⟩
      · obtain ⟨p, hp, hm⟩ := trip12_cover c i arg2 harg2 arg3 harg3 arg4 harg4 arg5 harg5 arg6 harg6 arg7 harg7 arg8 harg8 arg9 harg9 arg10 harg10 arg11 harg11 arg12 harg12 x1 x4 ⟨n, hn'⟩ y (by simpa using hy) (by show _ < 16 + 32 * n + 32; omega)
        exact ⟨p, List.mem_append_left _ hp, hm⟩

theorem trips1 : Scf.trips k0_t1_loop.lb k0_t1_loop.ub k0_t1_loop.st = 40 := by decide +kernel

/-- The scratch of the codes after the first loop. -/
theorem codes_eq (f : BufTy.Contents (Elt F) arg11.view.ty) :
    arg11.view.writes (Elt F) f (pb_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) (Scf.trips k0_t1_loop.lb k0_t1_loop.ub k0_t1_loop.st)).1 = harg11.unread (q8At x1) := by
  rw [trips1]
  have h := loop1 (F := F) c i arg2 harg2 arg3 harg3 arg4 harg4 arg5 harg5 arg6 harg6 arg7 harg7 arg8 harg8 arg9 harg9 arg10 harg10 arg11 harg11 arg12 harg12 x1 x4 0#1 0#1 (fun _ => Scalar.ofBits .bf16 0x0000#16) (fun _ => Scalar.ofBits .bf16 0x0000#16) 40 le_rfl
  have hc : ∀ y : S16x1280x128.Idx, ∃ p ∈ (pb_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) 40).1, y ∈ p.1.set := fun y => h.2.1 y (by have : (y 1).val < 1280 := (y 1).isLt; omega)
  refine harg11.eq_unread ?_
  rw [View.read_writes_eq_canon _ _ _ hc]
  exact funext fun y => View.canon_apply_of_pieces _ _ h.1.1.mem y (hc y)

/-- The scratch of the values after the first loop and the edge stores. -/
theorem vals_eq (x5 x6 : Vec F S1x256x128 .bf16) (f : BufTy.Contents (Elt F) arg12.view.ty) :
    arg12.view.writes (Elt F) f (edges i (View.readAt (Elt F) arg7.view (Rect.unit (s := S1x256x128) ![0, 0, 0] S1x256x128.size inb_S1x256x128_S1x256x128_0_0_0).toLoadRect (harg7.unread x5)) (View.readAt (Elt F) arg8.view (Rect.unit (s := S1x256x128) ![0, 0, 0] S1x256x128.size inb_S1x256x128_S1x256x128_0_0_0).toLoadRect (harg8.unread x6)) ++ (pb_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) (Scf.trips k0_t1_loop.lb k0_t1_loop.ub k0_t1_loop.st)).2)
      = harg12.unread (v16At (firstBit i) (lastBit i) x4 x5 x6) := by
  rw [trips1]
  have e5 : (View.readAt (Elt F) arg7.view (Rect.unit (s := S1x256x128) ![0, 0, 0] S1x256x128.size inb_S1x256x128_S1x256x128_0_0_0).toLoadRect (harg7.unread x5)) = x5 := by
    rw [View.readAt_eq_ld, harg7.read_unread]; exact ld_edge x5
  have e6 : (View.readAt (Elt F) arg8.view (Rect.unit (s := S1x256x128) ![0, 0, 0] S1x256x128.size inb_S1x256x128_S1x256x128_0_0_0).toLoadRect (harg8.unread x6)) = x6 := by
    rw [View.readAt_eq_ld, harg8.read_unread]; exact ld_edge x6
  rw [e5, e6]
  have h := loop1 (F := F) c i arg2 harg2 arg3 harg3 arg4 harg4 arg5 harg5 arg6 harg6 arg7 harg7 arg8 harg8 arg9 harg9 arg10 harg10 arg11 harg11 arg12 harg12 x1 x4 (firstBit i) (lastBit i) x5 x6 40 le_rfl
  have hc : ∀ y : S16x1312x128.Idx, ∃ p ∈ edges i x5 x6 ++ (pb_k0_t1 (F := F) Variants.none c none i arg2 harg2 arg3 harg3 arg4 harg4 arg5 harg5 arg6 harg6 arg7 harg7 arg8 harg8 arg9 harg9 arg10 harg10 arg11 harg11 arg12 harg12 (harg3.unread x1) (harg6.unread x4) 40).2, y ∈ p.1.set := fun y => by
    by_cases hy : (y 1).val < 16
    · obtain ⟨p, hp, hm⟩ := edges_lo (F := F) i x5 x6 y hy
      exact ⟨p, List.mem_append_left _ hp, hm⟩
    · by_cases hy' : (y 1).val < 1296
      · obtain ⟨p, hp, hm⟩ := h.2.2 y (by omega) (by omega)
        exact ⟨p, List.mem_append_right _ hp, hm⟩
      · obtain ⟨p, hp, hm⟩ := edges_hi (F := F) i x5 x6 y (by omega)
        exact ⟨p, List.mem_append_left _ hp, hm⟩
  refine harg12.eq_unread ?_
  rw [View.read_writes_eq_canon _ _ _ hc]
  exact funext fun y => View.canon_apply_of_pieces _ _ (piecesOf_append (edges_of i x4 x5 x6) h.1.2).mem y (hc y)

end trip

end Cert.KernelIdeal.Attend

end
-- ==== Proof.Attend.Tile.lean ====
/- The output block: what the second loop stores, trip by trip, are the blocks of one function `outAt`, and they cover
   the block. -/
module

public import proofs.«01_k».proof.Proof.Attend.Buffers

@[expose] public section

set_option maxRecDepth 16384

noncomputable section

namespace Cert.KernelIdeal.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One tile (256 rows of one head): the softmax against the landmarks, its product with `z`, plus the windows' convolution;
    row `r` of the two halves lies at columns `0‥127` and `128‥255` of row `r`. -/
def tileV (c : Elt F .f32) (kl : Vec F S1x1x64x128 .fp8e4m3) (z : Vec F S1x1x64x128 .bf16) (q : Vec F S1x256x128 .fp8e4m3)
    (w0 w1 : Vec F S1x160x128 .bf16) (t : Vec F S1x128x480 .bf16) : FVec F S128x256 .bf16 :=
  k0_pay61 (k0_pay38 c) (k0_pay40 k0_pay109 z) (k0_pay59 (k0_pay39 kl) q) (k0_pay60 (k0_pay39 kl) q) w0 w1 t

theorem batch_lt (i : grid0.Coords) : (i 0).val < 24 := (i 0).isLt

/-- The tile `j` of the head `k`, from the block's operands and the two scratch buffers. -/
def tileAt (i : grid0.Coords) (x0 : Vec F S384 .f32) (x2 : Vec F S1x16x64x128 .fp8e4m3) (x3 : Vec F S1x16x64x128 .bf16)
    (x7 : Vec F S16x128x480 .bf16) (X : Vec F S16x1280x128 .fp8e4m3) (Y : Vec F S16x1312x128 .bf16) (k : Fin 16) (j : Fin 5) : FVec F S128x256 .bf16 :=
  have hb := batch_lt i
  tileV (x0 (ix1 ⟨(i 0).val * 16 + k.val, by omega⟩)) (fun y => x2 (ix4 0 k (y 2) (y 3))) (fun y => x3 (ix4 0 k (y 2) (y 3)))
    (fun y => X (ix3 k ⟨256 * j.val + (y 1).val, by have : (y 1).val < 256 := (y 1).isLt; omega⟩ (y 2)))
    (fun y => Y (ix3 k ⟨256 * j.val + (y 1).val, by have : (y 1).val < 160 := (y 1).isLt; omega⟩ (y 2)))
    (fun y => Y (ix3 k ⟨256 * j.val + 128 + (y 1).val, by have : (y 1).val < 160 := (y 1).isLt; omega⟩ (y 2)))
    (fun y => x7 (ix3 k (y 1) (y 2)))

/-- The whole block: its row `y 1` and its column `y 2` name the tile and the place in it. -/
def outAt (i : grid0.Coords) (x0 : Vec F S384 .f32) (x2 : Vec F S1x16x64x128 .fp8e4m3) (x3 : Vec F S1x16x64x128 .bf16)
    (x7 : Vec F S16x128x480 .bf16) (X : Vec F S16x1280x128 .fp8e4m3) (Y : Vec F S16x1312x128 .bf16) : Vec F S1x1280x2048 .bf16 := fun y =>
  have h1 : (y 1).val < 1280 := (y 1).isLt
  have h2 : (y 2).val < 2048 := (y 2).isLt
  tileAt i x0 x2 x3 x7 X Y ⟨(y 2).val / 128, by omega⟩ ⟨(y 1).val / 256, by omega⟩
    (ix2 ⟨(y 1).val % 128, by omega⟩ ⟨(y 1).val % 256 / 128 * 128 + (y 2).val % 128, by omega⟩)

theorem trips2_lt (k : Fin k0_t2_loop.trips) : k.val < 16 := Nat.lt_of_lt_of_le k.isLt k0_t2_abs.2.1

theorem load_off34 (i : grid0.Coords) (k : Fin k0_t2_loop.trips) : k0_off34 i k = ![(i 0).val * 16 + k.val] := by
  revert i k; decide +kernel
theorem load_off35 (k : Fin k0_t2_loop.trips) : k0_off35 k = ![0, k.val, 0, 0] := by revert k; decide +kernel
theorem load_off39 (k : Fin k0_t2_loop.trips) : k0_off39 k = ![k.val, 0, 0] := by revert k; decide +kernel
theorem load_off36 (k : Fin k0_t2_loop.trips) : k0_off36 k = ![k.val, 0, 0] := by revert k; decide +kernel
theorem load_off37 (k : Fin k0_t2_loop.trips) : k0_off37 k = ![k.val, 0, 0] := by revert k; decide +kernel
theorem load_off38 (k : Fin k0_t2_loop.trips) : k0_off38 k = ![k.val, 128, 0] := by revert k; decide +kernel
theorem store_off40 (k : Fin k0_t2_loop.trips) : k0_off40 k = ![0, 0, 128 * k.val] := by revert k; decide +kernel
theorem store_off41 (k : Fin k0_t2_loop.trips) : k0_off41 k = ![0, 128, 128 * k.val] := by revert k; decide +kernel
theorem load_off42 (k : Fin k0_t2_loop.trips) : k0_off42 k = ![k.val, 256, 0] := by revert k; decide +kernel
theorem load_off43 (k : Fin k0_t2_loop.trips) : k0_off43 k = ![k.val, 256, 0] := by revert k; decide +kernel
theorem load_off44 (k : Fin k0_t2_loop.trips) : k0_off44 k = ![k.val, 384, 0] := by revert k; decide +kernel
theorem store_off45 (k : Fin k0_t2_loop.trips) : k0_off45 k = ![0, 256, 128 * k.val] := by revert k; decide +kernel
theorem store_off46 (k : Fin k0_t2_loop.trips) : k0_off46 k = ![0, 384, 128 * k.val] := by revert k; decide +kernel
theorem load_off47 (k : Fin k0_t2_loop.trips) : k0_off47 k = ![k.val, 512, 0] := by revert k; decide +kernel
theorem load_off48 (k : Fin k0_t2_loop.trips) : k0_off48 k = ![k.val, 512, 0] := by revert k; decide +kernel
theorem load_off49 (k : Fin k0_t2_loop.trips) : k0_off49 k = ![k.val, 640, 0] := by revert k; decide +kernel
theorem store_off50 (k : Fin k0_t2_loop.trips) : k0_off50 k = ![0, 512, 128 * k.val] := by revert k; decide +kernel
theorem store_off51 (k : Fin k0_t2_loop.trips) : k0_off51 k = ![0, 640, 128 * k.val] := by revert k; decide +kernel
theorem load_off52 (k : Fin k0_t2_loop.trips) : k0_off52 k = ![k.val, 768, 0] := by revert k; decide +kernel
theorem load_off53 (k : Fin k0_t2_loop.trips) : k0_off53 k = ![k.val, 768, 0] := by revert k; decide +kernel
theorem load_off54 (k : Fin k0_t2_loop.trips) : k0_off54 k = ![k.val, 896, 0] := by revert k; decide +kernel
theorem store_off55 (k : Fin k0_t2_loop.trips) : k0_off55 k = ![0, 768, 128 * k.val] := by revert k; decide +kernel
theorem store_off56 (k : Fin k0_t2_loop.trips) : k0_off56 k = ![0, 896, 128 * k.val] := by revert k; decide +kernel
theorem load_off57 (k : Fin k0_t2_loop.trips) : k0_off57 k = ![k.val, 1024, 0] := by revert k; decide +kernel
theorem load_off58 (k : Fin k0_t2_loop.trips) : k0_off58 k = ![k.val, 1024, 0] := by revert k; decide +kernel
theorem load_off59 (k : Fin k0_t2_loop.trips) : k0_off59 k = ![k.val, 1152, 0] := by revert k; decide +kernel
theorem store_off60 (k : Fin k0_t2_loop.trips) : k0_off60 k = ![0, 1024, 128 * k.val] := by revert k; decide +kernel
theorem store_off61 (k : Fin k0_t2_loop.trips) : k0_off61 k = ![0, 1152, 128 * k.val] := by revert k; decide +kernel

theorem ld_plane {e : EltTy} {A N : ℕ} (X : (⟨3, ![16, N, 128]⟩ : Shape).Idx → Elt F e) (k : Fin 16) (a : ℕ) (ha : a + A ≤ N)
    {off : Fin 3 → ℕ} (inb : ∀ b, off b + (⟨3, ![1, A, 128]⟩ : Shape).size b ≤ (⟨3, ![16, N, 128]⟩ : Shape).size b) (hoff : off = ![k.val, a, 0]) :
    View.ld X (Rect.unit (s := ⟨3, ![16, N, 128]⟩) off (⟨3, ![1, A, 128]⟩ : Shape).size inb)
      = fun y => X (ix3 k ⟨a + (y 1).val, by have : (y 1).val < A := (y 1).isLt; omega⟩ (y 2)) := by
  subst hoff
  funext y
  show X ((Rect.unit (s := ⟨3, ![16, N, 128]⟩) _ _ inb).emb y) = _
  congr 1
  funext b
  apply Fin.ext
  rw [rect_emb_val]
  match b with
  | ⟨0, _⟩ => have : (y 0).val < 1 := (y 0).isLt; show k.val + (y 0).val = k.val; omega
  | ⟨1, _⟩ => rfl
  | ⟨2, _⟩ => show 0 + (y 2).val = (y 2).val; omega

theorem ld_whole {e : EltTy} (X : Vec F S16x128x480 e) (k : Fin 16)
    {off : Fin 3 → ℕ} (inb : ∀ b, off b + S1x128x480.size b ≤ S16x128x480.size b) (hoff : off = ![k.val, 0, 0]) :
    View.ld X (Rect.unit (s := S16x128x480) off S1x128x480.size inb) = fun y => X (ix3 k (y 1) (y 2)) := by
  subst hoff
  funext y
  show X ((Rect.unit (s := S16x128x480) _ _ inb).emb y) = _
  congr 1
  funext b
  apply Fin.ext
  rw [rect_emb_val]
  match b with
  | ⟨0, _⟩ => have : (y 0).val < 1 := (y 0).isLt; show k.val + (y 0).val = k.val; omega
  | ⟨1, _⟩ => show 0 + (y 1).val = (y 1).val; omega
  | ⟨2, _⟩ => show 0 + (y 2).val = (y 2).val; omega

theorem ld_head {e : EltTy} (X : Vec F S1x16x64x128 e) (k : Fin 16)
    {off : Fin 4 → ℕ} (inb : ∀ b, off b + S1x1x64x128.size b ≤ S1x16x64x128.size b) (hoff : off = ![0, k.val, 0, 0]) :
    View.ld X (Rect.unit (s := S1x16x64x128) off S1x1x64x128.size inb) = fun y => X (ix4 0 k (y 2) (y 3)) := by
  subst hoff
  funext y
  show X ((Rect.unit (s := S1x16x64x128) _ _ inb).emb y) = _
  congr 1
  funext b
  apply Fin.ext
  rw [rect_emb_val]
  match b with
  | ⟨0, _⟩ => have : (y 0).val < 1 := (y 0).isLt; show 0 + (y 0).val = 0; omega
  | ⟨1, _⟩ => have : (y 1).val < 1 := (y 1).isLt; show k.val + (y 1).val = k.val; omega
  | ⟨2, _⟩ => show 0 + (y 2).val = (y 2).val; omega
  | ⟨3, _⟩ => show 0 + (y 3).val = (y 3).val; omega

theorem ld_scale {e : EltTy} (X : Vec F S384 e) (n : ℕ) (hn : n < 384)
    {off : Fin 1 → ℕ} (inb : ∀ b, off b + S1.size b ≤ S384.size b) (hoff : off = ![n]) (y : S1.Idx) :
    View.ld X (Rect.unit (s := S384) off S1.size inb) y = X (ix1 ⟨n, hn⟩) := by
  subst hoff
  show X ((Rect.unit (s := S384) _ _ inb).emb y) = _
  congr 1
  funext b
  apply Fin.ext
  rw [rect_emb_val]
  match b with
  | ⟨0, _⟩ => have : (y 0).val < 1 := (y 0).isLt; show n + (y 0).val = n; omega

theorem half_lo (T : FVec F S128x256 .bf16) (r d : Fin 128) :
    shapeCast S1x128x128 (extractStridedSlice S128x128 ![0, 0] T slices_S128x256_o0_0_S128x128) shapeCasts_S128x128_S1x128x128 (ix3 0 r d)
      = T (ix2 r ⟨d.val, by omega⟩) := by
  pointwise

theorem half_hi (T : FVec F S128x256 .bf16) (r d : Fin 128) :
    shapeCast S1x128x128 (extractStridedSlice S128x128 ![0, 128] T slices_S128x256_o0_128_S128x128) shapeCasts_S128x128_S1x128x128 (ix3 0 r d)
      = T (ix2 r ⟨128 + d.val, by omega⟩) := by
  pointwise

/-- A stored half tile is a block of `outAt`. -/
theorem pieceOut (i : grid0.Coords) (x0 : Vec F S384 .f32) (x2 : Vec F S1x16x64x128 .fp8e4m3) (x3 : Vec F S1x16x64x128 .bf16)
    (x7 : Vec F S16x128x480 .bf16) (X : Vec F S16x1280x128 .fp8e4m3) (Y : Vec F S16x1312x128 .bf16) (k : Fin 16) (j : Fin 5) (h : Fin 2)
    {off : Fin 3 → ℕ} (inb : ∀ b, off b + S1x128x128.size b ≤ S1x1280x2048.size b) (hoff : off = ![0, 256 * j.val + 128 * h.val, 128 * k.val])
    (w : S1x128x128.Idx → Elt F .bf16)
    (hw : ∀ r d : Fin 128, w (ix3 0 r d) = tileAt i x0 x2 x3 x7 X Y k j (ix2 r ⟨128 * h.val + d.val, by omega⟩))
    (x : (Rect.unit (s := S1x1280x2048) off S1x128x128.size inb).shape.Idx) :
    w x = outAt i x0 x2 x3 x7 X Y ((Rect.unit (s := S1x1280x2048) off S1x128x128.size inb).emb x) := by
  subst hoff
  obtain ⟨p, l, rfl⟩ : ∃ (p : Fin 128) (l : Fin 128), x = ix3 0 p l := ⟨x 1, x 2, by
    funext a; match a with
    | ⟨0, _⟩ => exact Subsingleton.elim (α := Fin 1) _ _
    | ⟨1, _⟩ => rfl
    | ⟨2, _⟩ => rfl⟩
  refine (hw p l).trans ?_
  have e1 : (((Rect.unit (s := S1x1280x2048) ![0, 256 * j.val + 128 * h.val, 128 * k.val] S1x128x128.size inb).emb (ix3 0 p l)) 1).val = 256 * j.val + 128 * h.val + p.val := by
    (rw [rect_emb_val]; simp [ix3])
  have e2 : (((Rect.unit (s := S1x1280x2048) ![0, 256 * j.val + 128 * h.val, 128 * k.val] S1x128x128.size inb).emb (ix3 0 p l)) 2).val = 128 * k.val + l.val := by
    (rw [rect_emb_val]; simp [ix3])
  generalize (Rect.unit (s := S1x1280x2048) ![0, 256 * j.val + 128 * h.val, 128 * k.val] S1x128x128.size inb).emb (ix3 0 p l) = y at e1 e2
  unfold outAt
  dsimp only
  have a1 : (⟨(y 2).val / 128, by have : (y 2).val < 2048 := (y 2).isLt; omega⟩ : Fin 16) = k := Fin.ext (by show (y 2).val / 128 = k.val; omega)
  have a2 : (⟨(y 1).val / 256, by have : (y 1).val < 1280 := (y 1).isLt; omega⟩ : Fin 5) = j := Fin.ext (by show (y 1).val / 256 = j.val; omega)
  have a3 : (⟨(y 1).val % 128, by omega⟩ : Fin 128) = p := Fin.ext (by show (y 1).val % 128 = p.val; omega)
  have a4 : (⟨(y 1).val % 256 / 128 * 128 + (y 2).val % 128, by omega⟩ : Fin 256) = ⟨128 * h.val + l.val, by omega⟩ :=
    Fin.ext (by show (y 1).val % 256 / 128 * 128 + (y 2).val % 128 = 128 * h.val + l.val; omega)
  rw [a1, a2, a3, a4]

theorem memOut {off : Fin 3 → ℕ} {inb : ∀ a, off a + S1x128x128.size a ≤ S1x1280x2048.size a} {a k : ℕ} (hoff : off = ![0, a, 128 * k]) {y : S1x1280x2048.Idx}
    (h1 : a ≤ (y 1).val) (h1' : (y 1).val < a + 128) (h2 : 128 * k ≤ (y 2).val) (h2' : (y 2).val < 128 * k + 128) :
    y ∈ (Rect.unit (s := S1x1280x2048) off S1x128x128.size inb).set := by
  subst hoff
  have h0 : (y 0).val < 1 := (y 0).isLt
  rw [Rect.mem_set_unit]
  intro b; match b with
  | ⟨0, _⟩ => exact ⟨Nat.zero_le _, by show (y 0).val < 0 + 1; omega⟩
  | ⟨1, _⟩ => exact ⟨h1, h1'⟩
  | ⟨2, _⟩ => exact ⟨h2, h2'⟩

section trip
variable (c : Dev nD) (i : grid0.Coords) (arg2 : Memref sig .tc .smem S384 .f32) (harg2 : arg2.IsWhole) (arg3 : Memref sig .tc .vmem S1x20480x128 .fp8e4m3) (harg3 : arg3.IsWhole) (arg4 : Memref sig .tc .vmem S1x16x64x128 .fp8e4m3) (harg4 : arg4.IsWhole) (arg5 : Memref sig .tc .vmem S1x16x64x128 .bf16) (harg5 : arg5.IsWhole) (arg6 : Memref sig .tc .vmem S1x20480x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S16x128x480 .bf16) (harg9 : arg9.IsWhole) (arg10 : Memref sig .tc .vmem S1x1280x2048 .bf16) (harg10 : arg10.IsWhole) (arg11 : Memref sig .tc .vmem S16x1280x128 .fp8e4m3) (harg11 : arg11.IsWhole) (arg12 : Memref sig .tc .vmem S16x1312x128 .bf16) (harg12 : arg12.IsWhole)
  (a0 : BitVec 32) (v2 : BitVec 1) (v124 : FVec F S16x16x128 .bf16) (v205 : FVec F S16x128 .bf16)
  (x0 : Vec F S384 .f32) (x2 : Vec F S1x16x64x128 .fp8e4m3) (x3 : Vec F S1x16x64x128 .bf16) (x7 : Vec F S16x128x480 .bf16)
  (X : Vec F S16x1280x128 .fp8e4m3) (Y : Vec F S16x1312x128 .bf16)

theorem tile0 (k : Fin k0_t2_loop.trips) (h1) : tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off36 k) S1x256x128.size (k0_off36_inb k)).toLoadRect (harg11.unread X)) (View.readAt (Elt F) arg12.view (Rect.unit (s := S16x1312x128) (k0_off37 k) S1x160x128.size (k0_off37_inb k)).toLoadRect (harg12.unread Y)) (View.readAt (Elt F) arg12.view (Rect.unit (s := S16x1312x128) (k0_off38 k) S1x160x128.size (k0_off38_inb k)).toLoadRect (harg12.unread Y)) (View.readAt (Elt F) arg9.view (Rect.unit (s := S16x128x480) (k0_off39 k) S1x128x480.size (k0_off39_inb k)).toLoadRect (harg9.unread x7))
    = tileAt i x0 x2 x3 x7 X Y ⟨k.val, trips2_lt k⟩ 0 := by
  have hb := batch_lt i
  have hk := trips2_lt k
  simp only [View.readAt_eq_ld, harg2.read_unread, harg4.read_unread, harg5.read_unread, harg9.read_unread, harg11.read_unread, harg12.read_unread]
  rw [ld_scale x0 ((i 0).val * 16 + k.val) (by omega) _ (load_off34 i k), ld_head x2 ⟨k.val, hk⟩ _ (load_off35 k), ld_head x3 ⟨k.val, hk⟩ _ (load_off35 k),
    ld_whole x7 ⟨k.val, hk⟩ _ (load_off39 k)]
  have e1 := ld_plane (F := F) (A := 256) (N := 1280) X ⟨k.val, hk⟩ 0 (by omega) (k0_off36_inb k) (load_off36 k)
  have e2 := ld_plane (F := F) (A := 160) (N := 1312) Y ⟨k.val, hk⟩ 0 (by omega) (k0_off37_inb k) (load_off37 k)
  have e3 := ld_plane (F := F) (A := 160) (N := 1312) Y ⟨k.val, hk⟩ 128 (by omega) (k0_off38_inb k) (load_off38 k)
  rw [show View.ld X (Rect.unit (s := S16x1280x128) (k0_off36 k) S1x256x128.size (k0_off36_inb k)) = _ from e1,
    show View.ld Y (Rect.unit (s := S16x1312x128) (k0_off37 k) S1x160x128.size (k0_off37_inb k)) = _ from e2,
    show View.ld Y (Rect.unit (s := S16x1312x128) (k0_off38 k) S1x160x128.size (k0_off38_inb k)) = _ from e3]
  rfl

theorem tile1 (k : Fin k0_t2_loop.trips) (h1) : tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off42 k) S1x256x128.size (k0_off42_inb k)).toLoadRect (harg11.unread X)) (View.readAt (Elt F) arg12.view (Rect.unit (s := S16x1312x128) (k0_off43 k) S1x160x128.size (k0_off43_inb k)).toLoadRect (harg12.unread Y)) (View.readAt (Elt F) arg12.view (Rect.unit (s := S16x1312x128) (k0_off44 k) S1x160x128.size (k0_off44_inb k)).toLoadRect (harg12.unread Y)) (View.readAt (Elt F) arg9.view (Rect.unit (s := S16x128x480) (k0_off39 k) S1x128x480.size (k0_off39_inb k)).toLoadRect (harg9.unread x7))
    = tileAt i x0 x2 x3 x7 X Y ⟨k.val, trips2_lt k⟩ 1 := by
  have hb := batch_lt i
  have hk := trips2_lt k
  simp only [View.readAt_eq_ld, harg2.read_unread, harg4.read_unread, harg5.read_unread, harg9.read_unread, harg11.read_unread, harg12.read_unread]
  rw [ld_scale x0 ((i 0).val * 16 + k.val) (by omega) _ (load_off34 i k), ld_head x2 ⟨k.val, hk⟩ _ (load_off35 k), ld_head x3 ⟨k.val, hk⟩ _ (load_off35 k),
    ld_whole x7 ⟨k.val, hk⟩ _ (load_off39 k)]
  have e1 := ld_plane (F := F) (A := 256) (N := 1280) X ⟨k.val, hk⟩ 256 (by omega) (k0_off42_inb k) (load_off42 k)
  have e2 := ld_plane (F := F) (A := 160) (N := 1312) Y ⟨k.val, hk⟩ 256 (by omega) (k0_off43_inb k) (load_off43 k)
  have e3 := ld_plane (F := F) (A := 160) (N := 1312) Y ⟨k.val, hk⟩ 384 (by omega) (k0_off44_inb k) (load_off44 k)
  rw [show View.ld X (Rect.unit (s := S16x1280x128) (k0_off42 k) S1x256x128.size (k0_off42_inb k)) = _ from e1,
    show View.ld Y (Rect.unit (s := S16x1312x128) (k0_off43 k) S1x160x128.size (k0_off43_inb k)) = _ from e2,
    show View.ld Y (Rect.unit (s := S16x1312x128) (k0_off44 k) S1x160x128.size (k0_off44_inb k)) = _ from e3]
  rfl

theorem tile2 (k : Fin k0_t2_loop.trips) (h1) : tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off47 k) S1x256x128.size (k0_off47_inb k)).toLoadRect (harg11.unread X)) (View.readAt (Elt F) arg12.view (Rect.unit (s := S16x1312x128) (k0_off48 k) S1x160x128.size (k0_off48_inb k)).toLoadRect (harg12.unread Y)) (View.readAt (Elt F) arg12.view (Rect.unit (s := S16x1312x128) (k0_off49 k) S1x160x128.size (k0_off49_inb k)).toLoadRect (harg12.unread Y)) (View.readAt (Elt F) arg9.view (Rect.unit (s := S16x128x480) (k0_off39 k) S1x128x480.size (k0_off39_inb k)).toLoadRect (harg9.unread x7))
    = tileAt i x0 x2 x3 x7 X Y ⟨k.val, trips2_lt k⟩ 2 := by
  have hb := batch_lt i
  have hk := trips2_lt k
  simp only [View.readAt_eq_ld, harg2.read_unread, harg4.read_unread, harg5.read_unread, harg9.read_unread, harg11.read_unread, harg12.read_unread]
  rw [ld_scale x0 ((i 0).val * 16 + k.val) (by omega) _ (load_off34 i k), ld_head x2 ⟨k.val, hk⟩ _ (load_off35 k), ld_head x3 ⟨k.val, hk⟩ _ (load_off35 k),
    ld_whole x7 ⟨k.val, hk⟩ _ (load_off39 k)]
  have e1 := ld_plane (F := F) (A := 256) (N := 1280) X ⟨k.val, hk⟩ 512 (by omega) (k0_off47_inb k) (load_off47 k)
  have e2 := ld_plane (F := F) (A := 160) (N := 1312) Y ⟨k.val, hk⟩ 512 (by omega) (k0_off48_inb k) (load_off48 k)
  have e3 := ld_plane (F := F) (A := 160) (N := 1312) Y ⟨k.val, hk⟩ 640 (by omega) (k0_off49_inb k) (load_off49 k)
  rw [show View.ld X (Rect.unit (s := S16x1280x128) (k0_off47 k) S1x256x128.size (k0_off47_inb k)) = _ from e1,
    show View.ld Y (Rect.unit (s := S16x1312x128) (k0_off48 k) S1x160x128.size (k0_off48_inb k)) = _ from e2,
    show View.ld Y (Rect.unit (s := S16x1312x128) (k0_off49 k) S1x160x128.size (k0_off49_inb k)) = _ from e3]
  rfl

theorem tile3 (k : Fin k0_t2_loop.trips) (h1) : tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off52 k) S1x256x128.size (k0_off52_inb k)).toLoadRect (harg11.unread X)) (View.readAt (Elt F) arg12.view (Rect.unit (s := S16x1312x128) (k0_off53 k) S1x160x128.size (k0_off53_inb k)).toLoadRect (harg12.unread Y)) (View.readAt (Elt F) arg12.view (Rect.unit (s := S16x1312x128) (k0_off54 k) S1x160x128.size (k0_off54_inb k)).toLoadRect (harg12.unread Y)) (View.readAt (Elt F) arg9.view (Rect.unit (s := S16x128x480) (k0_off39 k) S1x128x480.size (k0_off39_inb k)).toLoadRect (harg9.unread x7))
    = tileAt i x0 x2 x3 x7 X Y ⟨k.val, trips2_lt k⟩ 3 := by
  have hb := batch_lt i
  have hk := trips2_lt k
  simp only [View.readAt_eq_ld, harg2.read_unread, harg4.read_unread, harg5.read_unread, harg9.read_unread, harg11.read_unread, harg12.read_unread]
  rw [ld_scale x0 ((i 0).val * 16 + k.val) (by omega) _ (load_off34 i k), ld_head x2 ⟨k.val, hk⟩ _ (load_off35 k), ld_head x3 ⟨k.val, hk⟩ _ (load_off35 k),
    ld_whole x7 ⟨k.val, hk⟩ _ (load_off39 k)]
  have e1 := ld_plane (F := F) (A := 256) (N := 1280) X ⟨k.val, hk⟩ 768 (by omega) (k0_off52_inb k) (load_off52 k)
  have e2 := ld_plane (F := F) (A := 160) (N := 1312) Y ⟨k.val, hk⟩ 768 (by omega) (k0_off53_inb k) (load_off53 k)
  have e3 := ld_plane (F := F) (A := 160) (N := 1312) Y ⟨k.val, hk⟩ 896 (by omega) (k0_off54_inb k) (load_off54 k)
  rw [show View.ld X (Rect.unit (s := S16x1280x128) (k0_off52 k) S1x256x128.size (k0_off52_inb k)) = _ from e1,
    show View.ld Y (Rect.unit (s := S16x1312x128) (k0_off53 k) S1x160x128.size (k0_off53_inb k)) = _ from e2,
    show View.ld Y (Rect.unit (s := S16x1312x128) (k0_off54 k) S1x160x128.size (k0_off54_inb k)) = _ from e3]
  rfl

theorem tile4 (k : Fin k0_t2_loop.trips) (h1) : tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off57 k) S1x256x128.size (k0_off57_inb k)).toLoadRect (harg11.unread X)) (View.readAt (Elt F) arg12.view (Rect.unit (s := S16x1312x128) (k0_off58 k) S1x160x128.size (k0_off58_inb k)).toLoadRect (harg12.unread Y)) (View.readAt (Elt F) arg12.view (Rect.unit (s := S16x1312x128) (k0_off59 k) S1x160x128.size (k0_off59_inb k)).toLoadRect (harg12.unread Y)) (View.readAt (Elt F) arg9.view (Rect.unit (s := S16x128x480) (k0_off39 k) S1x128x480.size (k0_off39_inb k)).toLoadRect (harg9.unread x7))
    = tileAt i x0 x2 x3 x7 X Y ⟨k.val, trips2_lt k⟩ 4 := by
  have hb := batch_lt i
  have hk := trips2_lt k
  simp only [View.readAt_eq_ld, harg2.read_unread, harg4.read_unread, harg5.read_unread, harg9.read_unread, harg11.read_unread, harg12.read_unread]
  rw [ld_scale x0 ((i 0).val * 16 + k.val) (by omega) _ (load_off34 i k), ld_head x2 ⟨k.val, hk⟩ _ (load_off35 k), ld_head x3 ⟨k.val, hk⟩ _ (load_off35 k),
    ld_whole x7 ⟨k.val, hk⟩ _ (load_off39 k)]
  have e1 := ld_plane (F := F) (A := 256) (N := 1280) X ⟨k.val, hk⟩ 1024 (by omega) (k0_off57_inb k) (load_off57 k)
  have e2 := ld_plane (F := F) (A := 160) (N := 1312) Y ⟨k.val, hk⟩ 1024 (by omega) (k0_off58_inb k) (load_off58 k)
  have e3 := ld_plane (F := F) (A := 160) (N := 1312) Y ⟨k.val, hk⟩ 1152 (by omega) (k0_off59_inb k) (load_off59 k)
  rw [show View.ld X (Rect.unit (s := S16x1280x128) (k0_off57 k) S1x256x128.size (k0_off57_inb k)) = _ from e1,
    show View.ld Y (Rect.unit (s := S16x1312x128) (k0_off58 k) S1x160x128.size (k0_off58_inb k)) = _ from e2,
    show View.ld Y (Rect.unit (s := S16x1312x128) (k0_off59 k) S1x160x128.size (k0_off59_inb k)) = _ from e3]
  rfl

set_option maxHeartbeats 4000000 in
theorem trip10 (k : Fin k0_t2_loop.trips) (h1 : 0 < S1.numel) :
    View.PiecesOf (outAt i x0 x2 x3 x7 X Y) (trip_k0_t2 (F := F) Variants.none c none i arg2 harg2 arg3 harg3 arg4 harg4 arg5 harg5 arg6 harg6 arg7 harg7 arg8 harg8 arg9 harg9 arg10 harg10 arg11 harg11 arg12 harg12 a0 v2 v124 v205 (harg2.unread x0) (harg4.unread x2) (harg5.unread x3) (harg9.unread x7) (harg11.unread X) (harg12.unread Y) k).1 := by
  unfold trip_k0_t2
  dsimp only
  refine ⟨pieceOut i x0 x2 x3 x7 X Y ⟨k.val, trips2_lt k⟩ 4 1 (k0_off61_inb k) (store_off61 k) _ (fun r d => (half_hi (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off57 k) S1x256x128.size (k0_off57_inb k)).toLoadRect (harg11.unread X)) (View.readAt (Elt F) arg12.view (Rect.unit (s := S16x1312x128) (k0_off58 k) S1x160x128.size (k0_off58_inb k)).toLoadRect (harg12.unread Y)) (View.readAt (Elt F) arg12.view (Rect.unit (s := S16x1312x128) (k0_off59 k) S1x160x128.size (k0_off59_inb k)).toLoadRect (harg12.unread Y)) (View.readAt (Elt F) arg9.view (Rect.unit (s := S16x128x480) (k0_off39 k) S1x128x480.size (k0_off39_inb k)).toLoadRect (harg9.unread x7))) r d).trans (by rw [tile4]; first | rfl | (congr 2; exact Fin.ext (by simp)))),
    pieceOut i x0 x2 x3 x7 X Y ⟨k.val, trips2_lt k⟩ 4 0 (k0_off60_inb k) (store_off60 k) _ (fun r d => (half_lo (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off57 k) S1x256x128.size (k0_off57_inb k)).toLoadRect (harg11.unread X)) (View.readAt (Elt F) arg12.view (Rect.unit (s := S16x1312x128) (k0_off58 k) S1x160x128.size (k0_off58_inb k)).toLoadRect (harg12.unread Y)) (View.readAt (Elt F) arg12.view (Rect.unit (s := S16x1312x128) (k0_off59 k) S1x160x128.size (k0_off59_inb k)).toLoadRect (harg12.unread Y)) (View.readAt (Elt F) arg9.view (Rect.unit (s := S16x128x480) (k0_off39 k) S1x128x480.size (k0_off39_inb k)).toLoadRect (harg9.unread x7))) r d).trans (by rw [tile4]; first | rfl | (congr 2; exact Fin.ext (by simp)))),
    pieceOut i x0 x2 x3 x7 X Y ⟨k.val, trips2_lt k⟩ 3 1 (k0_off56_inb k) (store_off56 k) _ (fun r d => (half_hi (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off52 k) S1x256x128.size (k0_off52_inb k)).toLoadRect (harg11.unread X)) (View.readAt (Elt F) arg12.view (Rect.unit (s := S16x1312x128) (k0_off53 k) S1x160x128.size (k0_off53_inb k)).toLoadRect (harg12.unread Y)) (View.readAt (Elt F) arg12.view (Rect.unit (s := S16x1312x128) (k0_off54 k) S1x160x128.size (k0_off54_inb k)).toLoadRect (harg12.unread Y)) (View.readAt (Elt F) arg9.view (Rect.unit (s := S16x128x480) (k0_off39 k) S1x128x480.size (k0_off39_inb k)).toLoadRect (harg9.unread x7))) r d).trans (by rw [tile3]; first | rfl | (congr 2; exact Fin.ext (by simp)))),
    pieceOut i x0 x2 x3 x7 X Y ⟨k.val, trips2_lt k⟩ 3 0 (k0_off55_inb k) (store_off55 k) _ (fun r d => (half_lo (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off52 k) S1x256x128.size (k0_off52_inb k)).toLoadRect (harg11.unread X)) (View.readAt (Elt F) arg12.view (Rect.unit (s := S16x1312x128) (k0_off53 k) S1x160x128.size (k0_off53_inb k)).toLoadRect (harg12.unread Y)) (View.readAt (Elt F) arg12.view (Rect.unit (s := S16x1312x128) (k0_off54 k) S1x160x128.size (k0_off54_inb k)).toLoadRect (harg12.unread Y)) (View.readAt (Elt F) arg9.view (Rect.unit (s := S16x128x480) (k0_off39 k) S1x128x480.size (k0_off39_inb k)).toLoadRect (harg9.unread x7))) r d).trans (by rw [tile3]; first | rfl | (congr 2; exact Fin.ext (by simp)))),
    pieceOut i x0 x2 x3 x7 X Y ⟨k.val, trips2_lt k⟩ 2 1 (k0_off51_inb k) (store_off51 k) _ (fun r d => (half_hi (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off47 k) S1x256x128.size (k0_off47_inb k)).toLoadRect (harg11.unread X)) (View.readAt (Elt F) arg12.view (Rect.unit (s := S16x1312x128) (k0_off48 k) S1x160x128.size (k0_off48_inb k)).toLoadRect (harg12.unread Y)) (View.readAt (Elt F) arg12.view (Rect.unit (s := S16x1312x128) (k0_off49 k) S1x160x128.size (k0_off49_inb k)).toLoadRect (harg12.unread Y)) (View.readAt (Elt F) arg9.view (Rect.unit (s := S16x128x480) (k0_off39 k) S1x128x480.size (k0_off39_inb k)).toLoadRect (harg9.unread x7))) r d).trans (by rw [tile2]; first | rfl | (congr 2; exact Fin.ext (by simp)))),
    pieceOut i x0 x2 x3 x7 X Y ⟨k.val, trips2_lt k⟩ 2 0 (k0_off50_inb k) (store_off50 k) _ (fun r d => (half_lo (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off47 k) S1x256x128.size (k0_off47_inb k)).toLoadRect (harg11.unread X)) (View.readAt (Elt F) arg12.view (Rect.unit (s := S16x1312x128) (k0_off48 k) S1x160x128.size (k0_off48_inb k)).toLoadRect (harg12.unread Y)) (View.readAt (Elt F) arg12.view (Rect.unit (s := S16x1312x128) (k0_off49 k) S1x160x128.size (k0_off49_inb k)).toLoadRect (harg12.unread Y)) (View.readAt (Elt F) arg9.view (Rect.unit (s := S16x128x480) (k0_off39 k) S1x128x480.size (k0_off39_inb k)).toLoadRect (harg9.unread x7))) r d).trans (by rw [tile2]; first | rfl | (congr 2; exact Fin.ext (by simp)))),
    pieceOut i x0 x2 x3 x7 X Y ⟨k.val, trips2_lt k⟩ 1 1 (k0_off46_inb k) (store_off46 k) _ (fun r d => (half_hi (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off42 k) S1x256x128.size (k0_off42_inb k)).toLoadRect (harg11.unread X)) (View.readAt (Elt F) arg12.view (Rect.unit (s := S16x1312x128) (k0_off43 k) S1x160x128.size (k0_off43_inb k)).toLoadRect (harg12.unread Y)) (View.readAt (Elt F) arg12.view (Rect.unit (s := S16x1312x128) (k0_off44 k) S1x160x128.size (k0_off44_inb k)).toLoadRect (harg12.unread Y)) (View.readAt (Elt F) arg9.view (Rect.unit (s := S16x128x480) (k0_off39 k) S1x128x480.size (k0_off39_inb k)).toLoadRect (harg9.unread x7))) r d).trans (by rw [tile1]; first | rfl | (congr 2; exact Fin.ext (by simp)))),
    pieceOut i x0 x2 x3 x7 X Y ⟨k.val, trips2_lt k⟩ 1 0 (k0_off45_inb k) (store_off45 k) _ (fun r d => (half_lo (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off42 k) S1x256x128.size (k0_off42_inb k)).toLoadRect (harg11.unread X)) (View.readAt (Elt F) arg12.view (Rect.unit (s := S16x1312x128) (k0_off43 k) S1x160x128.size (k0_off43_inb k)).toLoadRect (harg12.unread Y)) (View.readAt (Elt F) arg12.view (Rect.unit (s := S16x1312x128) (k0_off44 k) S1x160x128.size (k0_off44_inb k)).toLoadRect (harg12.unread Y)) (View.readAt (Elt F) arg9.view (Rect.unit (s := S16x128x480) (k0_off39 k) S1x128x480.size (k0_off39_inb k)).toLoadRect (harg9.unread x7))) r d).trans (by rw [tile1]; first | rfl | (congr 2; exact Fin.ext (by simp)))),
    pieceOut i x0 x2 x3 x7 X Y ⟨k.val, trips2_lt k⟩ 0 1 (k0_off41_inb k) (store_off41 k) _ (fun r d => (half_hi (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off36 k) S1x256x128.size (k0_off36_inb k)).toLoadRect (harg11.unread X)) (View.readAt (Elt F) arg12.view (Rect.unit (s := S16x1312x128) (k0_off37 k) S1x160x128.size (k0_off37_inb k)).toLoadRect (harg12.unread Y)) (View.readAt (Elt F) arg12.view (Rect.unit (s := S16x1312x128) (k0_off38 k) S1x160x128.size (k0_off38_inb k)).toLoadRect (harg12.unread Y)) (View.readAt (Elt F) arg9.view (Rect.unit (s := S16x128x480) (k0_off39 k) S1x128x480.size (k0_off39_inb k)).toLoadRect (harg9.unread x7))) r d).trans (by rw [tile0]; first | rfl | (congr 2; exact Fin.ext (by simp)))),
    pieceOut i x0 x2 x3 x7 X Y ⟨k.val, trips2_lt k⟩ 0 0 (k0_off40_inb k) (store_off40 k) _ (fun r d => (half_lo (tileV (View.readAt (Elt F) arg2.view (Rect.unit (s := S384) (k0_off34 i k) S1.size (k0_off34_inb i k)).toLoadRect (harg2.unread x0) (Shape.Idx.first h1)) (View.readAt (Elt F) arg4.view (Rect.unit (s := S1x16x64x128) (k0_off35 k) S1x1x64x128.size (k0_off35_inb k)).toLoadRect (harg4.unread x2)) (View.readAt (Elt F) arg5.view (Rect.unit (s := S1x16x64x128) (k0_off35 k) S1x1x64x128.size (k0_off35_inb k)).toLoadRect (harg5.unread x3)) (View.readAt (Elt F) arg11.view (Rect.unit (s := S16x1280x128) (k0_off36 k) S1x256x128.size (k0_off36_inb k)).toLoadRect (harg11.unread X)) (View.readAt (Elt F) arg12.view (Rect.unit (s := S16x1312x128) (k0_off37 k) S1x160x128.size (k0_off37_inb k)).toLoadRect (harg12.unread Y)) (View.readAt (Elt F) arg12.view (Rect.unit (s := S16x1312x128) (k0_off38 k) S1x160x128.size (k0_off38_inb k)).toLoadRect (harg12.unread Y)) (View.readAt (Elt F) arg9.view (Rect.unit (s := S16x128x480) (k0_off39 k) S1x128x480.size (k0_off39_inb k)).toLoadRect (harg9.unread x7))) r d).trans (by rw [tile0]; first | rfl | (congr 2; exact Fin.ext (by simp)))), trivial⟩

set_option maxHeartbeats 2000000 in
theorem trip10_cover (k : Fin k0_t2_loop.trips) (y : S1x1280x2048.Idx) (h2 : 128 * k.val ≤ (y 2).val) (h2' : (y 2).val < 128 * k.val + 128) :
    ∃ p ∈ (trip_k0_t2 (F := F) Variants.none c none i arg2 harg2 arg3 harg3 arg4 harg4 arg5 harg5 arg6 harg6 arg7 harg7 arg8 harg8 arg9 harg9 arg10 harg10 arg11 harg11 arg12 harg12 a0 v2 v124 v205 (harg2.unread x0) (harg4.unread x2) (harg5.unread x3) (harg9.unread x7) (harg11.unread X) (harg12.unread Y) k).1, y ∈ p.1.set := by
  have h1 : (y 1).val < 1280 := (y 1).isLt
  unfold trip_k0_t2
  dsimp only
  obtain h | h | h | h | h | h | h | h | h | h : (0 ≤ (y 1).val ∧ (y 1).val < 0 + 128) ∨ (128 ≤ (y 1).val ∧ (y 1).val < 128 + 128) ∨ (256 ≤ (y 1).val ∧ (y 1).val < 256 + 128) ∨ (384 ≤ (y 1).val ∧ (y 1).val < 384 + 128) ∨ (512 ≤ (y 1).val ∧ (y 1).val < 512 + 128) ∨ (640 ≤ (y 1).val ∧ (y 1).val < 640 + 128) ∨ (768 ≤ (y 1).val ∧ (y 1).val < 768 + 128) ∨ (896 ≤ (y 1).val ∧ (y 1).val < 896 + 128) ∨ (1024 ≤ (y 1).val ∧ (y 1).val < 1024 + 128) ∨ (1152 ≤ (y 1).val ∧ (y 1).val < 1152 + 128) := by omega
  · refine ⟨_, .tail _ (.tail _ (.tail _ (.tail _ (.tail _ (.tail _ (.tail _ (.tail _ (.tail _ (.head _))))))))), ?_⟩
    exact memOut (inb := k0_off40_inb k) (store_off40 k) h.1 h.2 h2 h2'
  · refine ⟨_, .tail _ (.tail _ (.tail _ (.tail _ (.tail _ (.tail _ (.tail _ (.tail _ (.head _)))))))), ?_⟩
    exact memOut (inb := k0_off41_inb k) (store_off41 k) h.1 h.2 h2 h2'
  · refine ⟨_, .tail _ (.tail _ (.tail _ (.tail _ (.tail _ (.tail _ (.tail _ (.head _))))))), ?_⟩
    exact memOut (inb := k0_off45_inb k) (store_off45 k) h.1 h.2 h2 h2'
  · refine ⟨_, .tail _ (.tail _ (.tail _ (.tail _ (.tail _ (.tail _ (.head _)))))), ?_⟩
    exact memOut (inb := k0_off46_inb k) (store_off46 k) h.1 h.2 h2 h2'
  · refine ⟨_, .tail _ (.tail _ (.tail _ (.tail _ (.tail _ (.head _))))), ?_⟩
    exact memOut (inb := k0_off50_inb k) (store_off50 k) h.1 h.2 h2 h2'
  · refine ⟨_, .tail _ (.tail _ (.tail _ (.tail _ (.head _)))), ?_⟩
    exact memOut (inb := k0_off51_inb k) (store_off51 k) h.1 h.2 h2 h2'
  · refine ⟨_, .tail _ (.tail _ (.tail _ (.head _))), ?_⟩
    exact memOut (inb := k0_off55_inb k) (store_off55 k) h.1 h.2 h2 h2'
  · refine ⟨_, .tail _ (.tail _ (.head _)), ?_⟩
    exact memOut (inb := k0_off56_inb k) (store_off56 k) h.1 h.2 h2 h2'
  · refine ⟨_, .tail _ (.head _), ?_⟩
    exact memOut (inb := k0_off60_inb k) (store_off60 k) h.1 h.2 h2 h2'
  · refine ⟨_, .head _, ?_⟩
    exact memOut (inb := k0_off61_inb k) (store_off61 k) h.1 h.2 h2 h2'

theorem trips2 : Scf.trips k0_t2_loop.lb k0_t2_loop.ub k0_t2_loop.st = 16 := by decide +kernel

theorem s1_pos : 0 < S1.numel := by decide +kernel

theorem loop2 : ∀ n : ℕ, n ≤ 16 →
    View.PiecesOf (outAt i x0 x2 x3 x7 X Y) (pb_k0_t2 (F := F) Variants.none c none i arg2 harg2 arg3 harg3 arg4 harg4 arg5 harg5 arg6 harg6 arg7 harg7 arg8 harg8 arg9 harg9 arg10 harg10 arg11 harg11 arg12 harg12 a0 v2 v124 v205 (harg2.unread x0) (harg4.unread x2) (harg5.unread x3) (harg9.unread x7) (harg11.unread X) (harg12.unread Y) n)
    ∧ (∀ y : S1x1280x2048.Idx, (y 2).val < 128 * n → ∃ p ∈ pb_k0_t2 (F := F) Variants.none c none i arg2 harg2 arg3 harg3 arg4 harg4 arg5 harg5 arg6 harg6 arg7 harg7 arg8 harg8 arg9 harg9 arg10 harg10 arg11 harg11 arg12 harg12 a0 v2 v124 v205 (harg2.unread x0) (harg4.unread x2) (harg5.unread x3) (harg9.unread x7) (harg11.unread X) (harg12.unread Y) n, y ∈ p.1.set)
  | 0, _ => ⟨trivial, fun y h => absurd h (by omega)⟩
  | n + 1, hn => by
    have ih := loop2 n (by omega)
    have hn' : n < k0_t2_loop.trips := lt_of_lt_of_le (show n < 16 by omega) (by decide +kernel)
    have e := pb_k0_t2_succ (F := F) Variants.none c none i arg2 harg2 arg3 harg3 arg4 harg4 arg5 harg5 arg6 harg6 arg7 harg7 arg8 harg8 arg9 harg9 arg10 harg10 arg11 harg11 arg12 harg12 a0 v2 v124 v205 (harg2.unread x0) (harg4.unread x2) (harg5.unread x3) (harg9.unread x7) (harg11.unread X) (harg12.unread Y) ⟨n, hn'⟩
    rw [show (⟨n, hn'⟩ : Fin k0_t2_loop.trips).val + 1 = n + 1 from rfl] at e
    rw [e]
    refine ⟨piecesOf_append (trip10 c i arg2 harg2 arg3 harg3 arg4 harg4 arg5 harg5 arg6 harg6 arg7 harg7 arg8 harg8 arg9 harg9 arg10 harg10 arg11 harg11 arg12 harg12 a0 v2 v124 v205 x0 x2 x3 x7 X Y ⟨n, hn'⟩ s1_pos) ih.1, fun y h => ?_⟩
    by_cases hy : (y 2).val < 128 * n
    · obtain ⟨p, hp, hm⟩ := ih.2 y hy
      exact ⟨p, List.mem_append_right _ hp, hm⟩
    · obtain ⟨p, hp, hm⟩ := trip10_cover c i arg2 harg2 arg3 harg3 arg4 harg4 arg5 harg5 arg6 harg6 arg7 harg7 arg8 harg8 arg9 harg9 arg10 harg10 arg11 harg11 arg12 harg12 a0 v2 v124 v205 x0 x2 x3 x7 X Y ⟨n, hn'⟩ y (by simpa using hy) (by show _ < 128 * n + 128; omega)
      exact ⟨p, List.mem_append_left _ hp, hm⟩

/-- The output block after the second loop. -/
theorem out_eq (f : BufTy.Contents (Elt F) arg10.view.ty) :
    arg10.view.writes (Elt F) f (pb_k0_t2 (F := F) Variants.none c none i arg2 harg2 arg3 harg3 arg4 harg4 arg5 harg5 arg6 harg6 arg7 harg7 arg8 harg8 arg9 harg9 arg10 harg10 arg11 harg11 arg12 harg12 a0 v2 v124 v205 (harg2.unread x0) (harg4.unread x2) (harg5.unread x3) (harg9.unread x7) (harg11.unread X) (harg12.unread Y) (Scf.trips k0_t2_loop.lb k0_t2_loop.ub k0_t2_loop.st))
      = harg10.unread (outAt i x0 x2 x3 x7 X Y) := by
  rw [trips2]
  have h := loop2 (F := F) c i arg2 harg2 arg3 harg3 arg4 harg4 arg5 harg5 arg6 harg6 arg7 harg7 arg8 harg8 arg9 harg9 arg10 harg10 arg11 harg11 arg12 harg12 a0 v2 v124 v205 x0 x2 x3 x7 X Y 16 le_rfl
  have hc : ∀ y : S1x1280x2048.Idx, ∃ p ∈ pb_k0_t2 (F := F) Variants.none c none i arg2 harg2 arg3 harg3 arg4 harg4 arg5 harg5 arg6 harg6 arg7 harg7 arg8 harg8 arg9 harg9 arg10 harg10 arg11 harg11 arg12 harg12 a0 v2 v124 v205 (harg2.unread x0) (harg4.unread x2) (harg5.unread x3) (harg9.unread x7) (harg11.unread X) (harg12.unread Y) 16, y ∈ p.1.set := fun y => h.2 y (by have : (y 2).val < 2048 := (y 2).isLt; omega)
  refine harg10.eq_unread ?_
  rw [View.read_writes_eq_canon _ _ _ hc]
  exact funext fun y => View.canon_apply_of_pieces _ _ h.1.mem y (hc y)

end trip

end Cert.KernelIdeal.Attend

end
-- ==== Proof.Attend.Run.lean ====
/- The body's run: from the input blocks it ends with the output block at `blockOf`, whatever the output's and the scratch
   buffers held. -/
module

public import proofs.«01_k».proof.Proof.Attend.Tile

@[expose] public section

set_option maxRecDepth 16384

noncomputable section

namespace Cert.KernelIdeal.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The output block from the input blocks. -/
def blockOf (i : grid0.Coords) (x0 : Vec F S384 .f32) (x1 : Vec F S1x20480x128 .fp8e4m3) (x2 : Vec F S1x16x64x128 .fp8e4m3) (x3 : Vec F S1x16x64x128 .bf16)
    (x4 : Vec F S1x20480x128 .bf16) (x5 : Vec F S1x256x128 .bf16) (x6 : Vec F S1x256x128 .bf16) (x7 : Vec F S16x128x480 .bf16) : Vec F S1x1280x2048 .bf16 :=
  outAt i x0 x2 x3 x7 (q8At x1) (v16At (firstBit i) (lastBit i) x4 x5 x6)

set_option maxHeartbeats 4000000 in
theorem body_run (c : Dev nD) (i : grid0.Coords) (arg2 : Memref sig .tc .smem S384 .f32) (harg2 : arg2.IsWhole) (arg3 : Memref sig .tc .vmem S1x20480x128 .fp8e4m3) (harg3 : arg3.IsWhole) (arg4 : Memref sig .tc .vmem S1x16x64x128 .fp8e4m3) (harg4 : arg4.IsWhole) (arg5 : Memref sig .tc .vmem S1x16x64x128 .bf16) (harg5 : arg5.IsWhole) (arg6 : Memref sig .tc .vmem S1x20480x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S16x128x480 .bf16) (harg9 : arg9.IsWhole) (arg10 : Memref sig .tc .vmem S1x1280x2048 .bf16) (harg10 : arg10.IsWhole) (arg11 : Memref sig .tc .vmem S16x1280x128 .fp8e4m3) (harg11 : arg11.IsWhole) (arg12 : Memref sig .tc .vmem S16x1312x128 .bf16) (harg12 : arg12.IsWhole)
    (x0 : Vec F S384 .f32) (x1 : Vec F S1x20480x128 .fp8e4m3) (x2 : Vec F S1x16x64x128 .fp8e4m3) (x3 : Vec F S1x16x64x128 .bf16) (x4 : Vec F S1x20480x128 .bf16) (x5 : Vec F S1x256x128 .bf16) (x6 : Vec F S1x256x128 .bf16) (x7 : Vec F S16x128x480 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (blockOf i x0 x1 x2 x3 x4 x5 x6 x7) ∗ (∃ d, owns (c : Thread nD τ) arg11 fullShare d) ∗ (∃ d, owns (c : Thread nD τ) arg12 fullShare d)) -∗ K ⟨⟩))
          ⊢ wp frame (wpE (defs₀ (F := F)) Variants.none c none) E (cc0_attend i arg2 harg2 arg3 harg3 arg4 harg4 arg5 harg5 arg6 harg6 arg7 harg7 arg8 harg8 arg9 harg9 arg10 harg10 arg11 harg11 arg12 harg12) K := by
  simp only [cc0_attend_eq_skeleton]; unfold cc0_attend_skel
  simp only [k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    unfold blockOf
    rw [← out_eq (F := F) c i arg2 harg2 arg3 harg3 arg4 harg4 arg5 harg5 arg6 harg6 arg7 harg7 arg8 harg8 arg9 harg9 arg10 harg10 arg11 harg11 arg12 harg12 (BitVec.ofNat 32 (i 0).val) (lastBit i) (k0_pay89 (View.readAt (Elt F) arg8.view (Rect.unit (s := S1x256x128) ![0, 0, 0] S1x256x128.size inb_S1x256x128_S1x256x128_0_0_0).toLoadRect (harg8.unread x6))) (k0_pay103 (lastBit i) (k0_pay89 (View.readAt (Elt F) arg8.view (Rect.unit (s := S1x256x128) ![0, 0, 0] S1x256x128.size inb_S1x256x128_S1x256x128_0_0_0).toLoadRect (harg8.unread x6)))) x0 x2 x3 x7 (q8At x1) (v16At (firstBit i) (lastBit i) x4 x5 x6) f8,
      ← codes_eq (F := F) c i arg2 harg2 arg3 harg3 arg4 harg4 arg5 harg5 arg6 harg6 arg7 harg7 arg8 harg8 arg9 harg9 arg10 harg10 arg11 harg11 arg12 harg12 x1 x4 fs0, ← vals_eq (F := F) c i arg2 harg2 arg3 harg3 arg4 harg4 arg5 harg5 arg6 harg6 arg7 harg7 arg8 harg8 arg9 harg9 arg10 harg10 arg11 harg11 arg12 harg12 x1 x4 x5 x6 fs1]
    iexact H8
  isplitl [HS0]
  · iexists _, _; isplitr; swap; · iexact HS0
    ipureintro; rfl
  iexists _, _; isplitr; swap; · iexact HS1
  ipureintro; rfl

end Cert.KernelIdeal.Attend

end
-- ==== Proof.Attend.Launch.lean ====
/- The launch: the pipeline's proof data with the output block named `blockOf` of the point's input blocks, the frame, and
   the output array after the run, block by block. -/
module

public import proofs.«01_k».proof.Proof.Attend.Run
public import Idealize.ShloMosaic.Lib.Pipeline.Value
public import Idealize.ShloMosaic.Lib.Claim

@[expose] public section

set_option maxRecDepth 16384

noncomputable section

namespace Cert.KernelIdeal.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the outputs' staging buffers hold after the body at point `t`: the run's contents at
    the point's memrefs and input blocks. -/
def outsAt0 (c : Dev nD) (t : Fin cfg0.N) : Vec F S1x1280x2048 .bf16 :=
  blockOf (grid0.coords t) (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 8's array: the run's contents for that window after the body (`Gen.outsAt0`), read through the window's block. -/
theorem flushed8 (c : Dev nD) (t : Fin cfg0.N) :
    (dats m 0 c).flushed 8 t = (cfg0.win 8).cut (grid0.coords t) (outsAt0 m c t) := by
  show (cfg0.win 8).cut (grid0.coords t) ((dats m 0 c).after 8 t) = _
  rw [after0_8]

/-- The index map sends distinct grid points to distinct block indices (decided over the 48 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S24x2560x2048.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v37) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v37) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Attend

end
-- ==== Proof.Attend.Softmax.lean ====
/- The softmax over the extended reals: with real logits, `exp2` of a difference scaled by `(log 2)⁻¹` times the reciprocal of
   the sum, and `exp` of the scaled difference divided by the sum, are both the real `exp (x * a l) / ∑ exp (x * a k)`. -/
module

public import Idealize.ShloMosaic.Lib.Pointwise

@[expose] public section

noncomputable section

namespace Cert.Attend

open Idealize.ShloMosaic

/-- The softmax weight of `l` among the logits `x * a k`. -/
def weight {n : ℕ} (x : ℝ) (a : Fin n → ℝ) (l : Fin n) : ℝ := Real.exp (x * a l) / ∑ k, Real.exp (x * a k)

/-- The word of minus infinity is the least extended real. -/
theorem ofBits_negInf : Ideal.ofBits .f32 0xFF800000#32 = ⊥ := by
  simp [Ideal.ofBits, Ideal.ieee]

/-- A sum of coerced reals is the coerced sum. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The maximum of a nonempty family of reals is a real. -/
theorem fold_max_real {n : ℕ} (hn : 0 < n) (a : Fin n → ℝ) :
    ∃ μ : ℝ, Finset.univ.fold max (⊥ : EReal) (fun k => ((a k : ℝ) : EReal)) = (μ : EReal) := by
  have h : ∀ s : Finset (Fin n), s.fold max (⊥ : EReal) (fun k => ((a k : ℝ) : EReal)) = ⊥
      ∨ ∃ μ : ℝ, s.fold max (⊥ : EReal) (fun k => ((a k : ℝ) : EReal)) = (μ : EReal) := by
    intro s
    induction s using Finset.induction_on with
    | empty => left; rfl
    | insert b s hb ih =>
      right
      rw [Finset.fold_insert hb]
      rcases ih with h | ⟨μ, h⟩
      · exact ⟨a b, by rw [h, max_bot_right]⟩
      · exact ⟨max (a b) μ, by rw [h]; exact (EReal.coe_strictMono.monotone.map_max).symm⟩
  rcases h Finset.univ with h | h
  · exfalso
    have hle : ((a ⟨0, hn⟩ : ℝ) : EReal) ≤ Finset.univ.fold max (⊥ : EReal) (fun k => ((a k : ℝ) : EReal)) :=
      (Finset.le_fold_max _).2 (Or.inr ⟨⟨0, hn⟩, Finset.mem_univ _, le_rfl⟩)
    rw [h] at hle
    exact absurd (le_bot_iff.1 hle) (EReal.coe_ne_bot _)
  · exact h

theorem sum_exp_pos {n : ℕ} (hn : 0 < n) (a : Fin n → ℝ) : 0 < ∑ k, Real.exp (a k) :=
  Finset.sum_pos (fun k _ => Real.exp_pos _) ⟨⟨0, hn⟩, Finset.mem_univ _⟩

/-- Shifting every logit by the same real leaves the weights. -/
theorem weight_shift {n : ℕ} (x μ : ℝ) (a : Fin n → ℝ) (l : Fin n) :
    Real.exp (x * a l - μ) / ∑ k, Real.exp (x * a k - μ) = weight x a l := by
  unfold weight
  simp only [Real.exp_sub]
  rw [← Finset.sum_div, div_div_div_cancel_right₀ (Real.exp_ne_zero μ)]

/-- Division of reals, the divisor not zero. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- Two to the power `d * (x * (log 2)⁻¹)` is `exp (d * x)`. -/
theorem rpow_two (d x : ℝ) : Real.rpow 2 (d * (x * (Real.log 2)⁻¹)) = Real.exp (d * x) := by
  show (2 : ℝ) ^ (d * (x * (Real.log 2)⁻¹)) = _
  rw [Real.rpow_def_of_pos (by norm_num)]
  have : Real.log 2 ≠ 0 := (Real.log_pos (by norm_num)).ne'
  congr 1
  field_simp

/-- The weights as the kernel computes them. -/
theorem weight_exp2 {n : ℕ} (hn : 0 < n) (x : ℝ) (a : Fin n → ℝ) (l : Fin n) :
    Ideal.exp2 ((((a l : ℝ) : EReal) - Finset.univ.fold max (⊥ : EReal) (fun k => ((a k : ℝ) : EReal))) * ((x : EReal) * (((Real.log 2)⁻¹ : ℝ) : EReal)))
      * Ideal.div 1 (∑ j, Ideal.exp2 ((((a j : ℝ) : EReal) - Finset.univ.fold max (⊥ : EReal) (fun k => ((a k : ℝ) : EReal))) * ((x : EReal) * (((Real.log 2)⁻¹ : ℝ) : EReal))))
      = ((weight x a l : ℝ) : EReal) := by
  obtain ⟨μ, hμ⟩ := fold_max_real hn a
  have e : ∀ j, Ideal.exp2 ((((a j : ℝ) : EReal) - (μ : EReal)) * ((x : EReal) * (((Real.log 2)⁻¹ : ℝ) : EReal)))
      = ((Real.exp (x * a j - x * μ) : ℝ) : EReal) := fun j => by
    rw [← EReal.coe_sub, ← EReal.coe_mul, ← EReal.coe_mul, Ideal.exp2_coe, rpow_two]
    congr 2; ring
  have hpos := sum_exp_pos hn (fun k => x * a k - x * μ)
  rw [hμ]
  simp only [e]
  rw [coe_sum, ← EReal.coe_one, div_coe _ _ hpos.ne', ← EReal.coe_mul, ← weight_shift x (x * μ) a l, one_div, div_eq_mul_inv]

/-- The weights as the reference computes them: the logits scaled first, their maximum taken (twice against minus infinity). -/
theorem weight_exp {n : ℕ} (hn : 0 < n) (x : ℝ) (a : Fin n → ℝ) (l : Fin n) :
    Ideal.div (Ideal.exp ((x : EReal) * ((a l : ℝ) : EReal) - max ⊥ (Finset.univ.fold max (⊥ : EReal) (fun k => (x : EReal) * ((a k : ℝ) : EReal)))))
      (∑ j, Ideal.exp ((x : EReal) * ((a j : ℝ) : EReal) - max ⊥ (Finset.univ.fold max (⊥ : EReal) (fun k => (x : EReal) * ((a k : ℝ) : EReal)))))
      = ((weight x a l : ℝ) : EReal) := by
  simp only [← EReal.coe_mul]
  obtain ⟨μ, hμ⟩ := fold_max_real hn (fun k => x * a k)
  rw [hμ, max_bot_left]
  have e : ∀ j, Ideal.exp (((x * a j : ℝ) : EReal) - (μ : EReal)) = ((Real.exp (x * a j - μ) : ℝ) : EReal) := fun j => by
    rw [← EReal.coe_sub]; rfl
  have hpos := sum_exp_pos hn (fun k => x * a k - μ)
  simp only [e]
  rw [coe_sum, div_coe _ _ hpos.ne', weight_shift]

/-- One entry of the output: the weights of a row against a column of `z`, and the taps against the values around the row. -/
def attend (x : ℝ) (a : Fin 64 → ℝ) (z : Fin 64 → EReal) (w v : Fin 33 → EReal) : EReal :=
  ∑ l, ((weight x a l : ℝ) : EReal) * z l + ∑ t, w t * v t

/-- A column of values with 16 zeros before it and after it. -/
def padded (v : Fin 2560 → EReal) (p : ℕ) : EReal := if h : 16 ≤ p ∧ p - 16 < 2560 then v ⟨p - 16, h.2⟩ else 0

end Cert.Attend

end
-- ==== Proof.Attend.TileValue.lean ====
/- One tile at an index, over the extended reals: with real logits, the row's softmax weights against `z` plus the band
   matrix's row against the windows' column. The two halves of the tile's columns hold two blocks of rows. -/
module

public import proofs.«01_k».proof.Proof.Attend.Tile
public import proofs.«01_k».proof.Proof.Attend.Softmax
public import Idealize.ShloMosaic.Lib.Pointwise
public import Idealize.ShloMosaic.PureOps.IdealRules

@[expose] public section

set_option maxRecDepth 16384

noncomputable section

namespace Cert.KernelIdeal.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Attend (weight)

section Value

variable (c : Elt Ideal .f32) (kl : Vec Ideal S1x1x64x128 .fp8e4m3) (z : Vec Ideal S1x1x64x128 .bf16) (q : Vec Ideal S1x256x128 .fp8e4m3)
    (w0 w1 : Vec Ideal S1x160x128 .bf16) (t : Vec Ideal S1x128x480 .bf16)

/-- The named constant at the extended reals. -/
theorem log2e : (Named.named κ "log2_e" 0x3FB8AA3B#32 : Ideal .f32) = (((Real.log 2)⁻¹ : ℝ) : EReal) :=
  IdealRules.named_const.ideal_named_scalar _ _ _ _ rfl

/-- The logit of the row `p` against the landmark `l`, unscaled. -/
abbrev logit (l : Fin 64) (p : Fin 256) : EReal := ∑ e : Fin 128, kl (ix4 0 0 l e) * q (ix3 0 p e)

/-- The weight the tile computes for the row `p` and the landmark `l`. -/
abbrev tileWeight (l : Fin 64) (p : Fin 256) : EReal :=
  Ideal.exp2 ((logit kl q l p - Finset.univ.fold max (Ideal.ofBits .f32 0xFF800000#32) (fun k => logit kl q k p)) * (c * (Named.named κ "log2_e" 0x3FB8AA3B#32 : Ideal .f32)))
    * Ideal.div 1 (∑ j, Ideal.exp2 ((logit kl q j p - Finset.univ.fold max (Ideal.ofBits .f32 0xFF800000#32) (fun k => logit kl q k p)) * (c * (Named.named κ "log2_e" 0x3FB8AA3B#32 : Ideal .f32))))

/-- The three copies of a window against a row of the band matrices. -/
abbrev tileConv (w : Vec Ideal S1x160x128 .bf16) (r d : Fin 128) : EReal :=
  ∑ x : Fin 480, t (ix3 0 r x) * (if h : x.val < 160 then w (ix3 0 ⟨x.val, h⟩ d)
    else if h : x.val - 160 < 160 then w (ix3 0 ⟨x.val - 160, h⟩ d) else w (ix3 0 ⟨x.val - 160 - 160, by omega⟩ d))

theorem tile_left (r d : Fin 128) :
    tileV c kl z q w0 w1 t (ix2 r (⟨d.val, by omega⟩ : Fin 256))
      = ∑ l, tileWeight c kl q l ⟨r.val, by omega⟩ * z (ix4 0 0 l d) + tileConv t w0 r d := by
  pointwise [tileV, k0_pay61, k0_pay38, k0_pay39, k0_pay40, k0_pay59, k0_pay60, k0_pay109]
  simp only [mul_zero, Finset.sum_const_zero, add_zero]
  rfl

theorem tile_right (r d : Fin 128) :
    tileV c kl z q w0 w1 t (ix2 r (⟨128 + d.val, by omega⟩ : Fin 256))
      = ∑ l, tileWeight c kl q l ⟨128 + r.val, by omega⟩ * z (ix4 0 0 l d) + tileConv t w1 r d := by
  pointwise [tileV, k0_pay61, k0_pay38, k0_pay39, k0_pay40, k0_pay59, k0_pay60, k0_pay109]
  simp only [mul_zero, Finset.sum_const_zero, zero_add]
  rfl

variable {c kl z q w0 w1 t}

/-- With real codes and a real scale the weight is the softmax's. -/
theorem tileWeight_eq (x : ℝ) (hc : c = (x : EReal)) (a : Fin 64 → ℝ) (p : Fin 256) (ha : ∀ l, logit kl q l p = (a l : EReal)) (l : Fin 64) :
    tileWeight c kl q l p = ((weight x a l : ℝ) : EReal) := by
  simp only [tileWeight, ha, hc, log2e, Cert.Attend.ofBits_negInf]
  exact Cert.Attend.weight_exp2 (by decide) x a l

/-- With the last two thirds of the band matrices zero, the first window's product is left. -/
theorem tileConv_eq (w : Vec Ideal S1x160x128 .bf16) (r d : Fin 128) (h0 : ∀ x : Fin 480, 160 ≤ x.val → t (ix3 0 r x) = 0) :
    tileConv t w r d = ∑ x : Fin 160, t (ix3 0 r ⟨x.val, by omega⟩) * w (ix3 0 x d) := by
  unfold tileConv
  rw [Fin.sum_univ_two_halves 160 320 (by decide)]
  rw [Finset.sum_eq_zero (s := (Finset.univ : Finset (Fin 320))) (fun x _ => by rw [h0 _ (by simp only; omega), zero_mul]), add_zero]
  refine Finset.sum_congr rfl fun x _ => ?_
  rw [dif_pos x.isLt]

/-- A sum over a band of 33 places starting at `r`. -/
theorem sum_band (r : Fin 128) (f : Fin 160 → EReal) (g : Fin 33 → EReal)
    (hin : ∀ t : Fin 33, f ⟨r.val + t.val, by omega⟩ = g t) (hout : ∀ x : Fin 160, ¬ (r.val ≤ x.val ∧ x.val - r.val < 33) → f x = 0) :
    ∑ x, f x = ∑ t, g t := by
  symm
  refine Finset.sum_bij_ne_zero (fun t _ _ => (⟨r.val + t.val, by omega⟩ : Fin 160)) (fun _ _ _ => Finset.mem_univ _) ?_ ?_ ?_
  · intro a _ _ b _ _ h
    have := congrArg Fin.val h
    simp only at this
    exact Fin.ext (by omega)
  · intro x _ hx
    by_cases h : r.val ≤ x.val ∧ x.val - r.val < 33
    · have e : (⟨r.val + (x.val - r.val), by omega⟩ : Fin 160) = x := Fin.ext (by simp only; omega)
      refine ⟨⟨x.val - r.val, h.2⟩, Finset.mem_univ _, ?_, e⟩
      rw [← hin ⟨x.val - r.val, h.2⟩, e]; exact hx
    · exact absurd (hout x h) hx
  · intro t _ _; exact (hin t).symm

end Value

end Cert.KernelIdeal.Attend

end
-- ==== Proof.Attend.BlockValue.lean ====
/- One block of the output at an index, over the extended reals: the softmax weights of its row against `z`, plus 33 taps
   against the rows around it. -/
module

public import proofs.«01_k».proof.Proof.Attend.TileValue

@[expose] public section

set_option maxRecDepth 16384

noncomputable section

namespace Cert.KernelIdeal.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Attend (weight)

/-- A row of the block and a column of a head: with a real scale, real logits and band matrices holding the taps. -/
theorem outAt_apply (i : grid0.Coords) (x0 : Vec Ideal S384 .f32) (x2 : Vec Ideal S1x16x64x128 .fp8e4m3) (x3 : Vec Ideal S1x16x64x128 .bf16)
    (x7 : Vec Ideal S16x128x480 .bf16) (X : Vec Ideal S16x1280x128 .fp8e4m3) (Y : Vec Ideal S16x1312x128 .bf16)
    (k : Fin 16) (R : Fin 1280) (d : Fin 128) (x : ℝ) (a : Fin 64 → ℝ) (w : Fin 33 → EReal)
    (hx : x0 (ix1 ⟨(i 0).val * 16 + k.val, by have := batch_lt i; omega⟩) = (x : EReal))
    (ha : ∀ l, ∑ e : Fin 128, x2 (ix4 0 k l e) * X (ix3 k R e) = (a l : EReal))
    (hband : ∀ (r : Fin 128) (p : Fin 480), x7 (ix3 k r p) = if h : r.val ≤ p.val ∧ p.val - r.val < 33 then w ⟨p.val - r.val, h.2⟩ else 0) :
    outAt i x0 x2 x3 x7 X Y (ix3 0 R (⟨k.val * 128 + d.val, by omega⟩ : Fin 2048))
      = ∑ l, ((weight x a l : ℝ) : EReal) * x3 (ix4 0 k l d) + ∑ t : Fin 33, w t * Y (ix3 k (⟨R.val + t.val, by omega⟩ : Fin 1312) d) := by
  have hb := batch_lt i
  have hk : (⟨(k.val * 128 + d.val) / 128, by omega⟩ : Fin 16) = k := Fin.ext (by simp only; omega)
  have hconv : ∀ (wd : Vec Ideal S1x160x128 .bf16) (t : Vec Ideal S1x128x480 .bf16) (r : Fin 128),
      t = (fun y => x7 (ix3 k (y 1) (y 2))) → (∀ p : Fin 33, wd (ix3 0 (⟨r.val + p.val, by omega⟩ : Fin 160) d) = Y (ix3 k (⟨R.val + p.val, by omega⟩ : Fin 1312) d)) →
      tileConv t wd r d = ∑ t : Fin 33, w t * Y (ix3 k (⟨R.val + t.val, by omega⟩ : Fin 1312) d) := by
    intro wd t r ht hwd
    subst ht
    rw [tileConv_eq wd r d (fun p hp => (hband r p).trans (dif_neg (by omega)))]
    refine sum_band r _ _ (fun p => ?_) (fun p hp => ?_)
    · show x7 (ix3 k r ⟨r.val + p.val, _⟩) * _ = _
      have e : (⟨r.val + p.val - r.val, by omega⟩ : Fin 33) = p := Fin.ext (by simp only; omega)
      rw [hband, dif_pos ⟨by simp only; omega, by simp only; omega⟩, hwd p, e]
    · show x7 (ix3 k r ⟨p.val, _⟩) * _ = _
      rw [hband, dif_neg hp, zero_mul]
  show tileAt i x0 x2 x3 x7 X Y ⟨(k.val * 128 + d.val) / 128, _⟩ ⟨R.val / 256, _⟩ (ix2 ⟨R.val % 128, _⟩ ⟨R.val % 256 / 128 * 128 + (k.val * 128 + d.val) % 128, _⟩) = _
  rw [hk]
  have hd : (k.val * 128 + d.val) % 128 = d.val := by omega
  rcases (show R.val % 256 / 128 = 0 ∨ R.val % 256 / 128 = 1 by omega) with h | h
  · have ec : (⟨R.val % 256 / 128 * 128 + (k.val * 128 + d.val) % 128, by omega⟩ : Fin 256) = ⟨d.val, by omega⟩ := Fin.ext (by simp only; omega)
    rw [ec]
    unfold tileAt
    rw [tile_left _ _ _ _ _ _ _ ⟨R.val % 128, by omega⟩ d]
    have eR : (⟨256 * (R.val / 256) + R.val % 128, by omega⟩ : Fin 1280) = R := Fin.ext (by simp only; omega)
    congr 1
    · refine Finset.sum_congr rfl fun l _ => ?_
      refine congrArg₂ (· * ·) (tileWeight_eq x hx a _ (fun l => ?_) l) rfl
      rw [← ha l]
      exact Finset.sum_congr rfl fun e _ => congrArg (fun p => x2 (ix4 0 k l e) * X (ix3 k p e)) eR
    · refine hconv _ _ _ rfl fun p => ?_
      have e : (⟨256 * (R.val / 256) + (R.val % 128 + p.val), by omega⟩ : Fin 1312) = ⟨R.val + p.val, by omega⟩ := Fin.ext (by simp only; omega)
      exact congrArg (fun p => Y (ix3 k p d)) e
  · have ec : (⟨R.val % 256 / 128 * 128 + (k.val * 128 + d.val) % 128, by omega⟩ : Fin 256) = ⟨128 + d.val, by omega⟩ := Fin.ext (by simp only; omega)
    rw [ec]
    unfold tileAt
    rw [tile_right _ _ _ _ _ _ _ ⟨R.val % 128, by omega⟩ d]
    have eR : (⟨256 * (R.val / 256) + (128 + R.val % 128), by omega⟩ : Fin 1280) = R := Fin.ext (by simp only; omega)
    congr 1
    · refine Finset.sum_congr rfl fun l _ => ?_
      refine congrArg₂ (· * ·) (tileWeight_eq x hx a _ (fun l => ?_) l) rfl
      rw [← ha l]
      exact Finset.sum_congr rfl fun e _ => congrArg (fun p => x2 (ix4 0 k l e) * X (ix3 k p e)) eR
    · refine hconv _ _ _ rfl fun p => ?_
      have e : (⟨256 * (R.val / 256) + 128 + (R.val % 128 + p.val), by omega⟩ : Fin 1312) = ⟨R.val + p.val, by omega⟩ := Fin.ext (by simp only; omega)
      exact congrArg (fun p => Y (ix3 k p d)) e

end Cert.KernelIdeal.Attend

end
-- ==== Proof.Attend.Operands.lean ====
/- What the host prepares for the call, operand by operand: the codes cast to the eight-bit format, the scales' product, the
   value rows flattened, and the convolution's band matrices (three terms of a split, laid side by side). -/
module

public import proofs.«01_k».proof.Proof.Attend.Tile
public import Idealize.ShloMosaic.Lib.Pointwise
public import Idealize.ShloMosaic.Lib.Claim

@[expose] public section

set_option maxRecDepth 16384

noncomputable section

namespace Cert.KernelIdeal.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.StableHlo

section Host

variable (m : (ℓ : Loc nD τ sig) → Buf (Elt F) ℓ) (c : Dev nD)

/-- The column's distance from the row, as a word. -/
def dist : IVec S128x160 32 :=
  subi (broadcastInDim S128x160 ![0, 1] bcast_S1x160_S128x160_0_1 (broadcastInDim S1x160 ![1] bcast_S160_S1x160_1 (iotaInDim S160 32 0)))
    (broadcastInDim S128x160 ![0, 1] bcast_S128x1_S128x160_0_1 (broadcastInDim S128x1 ![0] bcast_S128_S128x1_0 (iotaInDim S128 32 0)))

/-- Whether the distance names a tap. -/
def inBand : IVec S128x160 1 :=
  andi (cmpi .sge dist (broadcastInDim S128x160 ![] bcast_S_S128x160 (constantI S_ 32 0#32)))
    (cmpi .slt dist (broadcastInDim S128x160 ![] bcast_S_S128x160 (constantI S_ 32 33#32)))

/-- The distance, clipped to the taps. -/
def clipped : IVec S128x160 32 :=
  minsi (broadcastInDim S128x160 ![] bcast_S_S128x160 (id (constantI S_ 32 32#32)))
    (maxsi (broadcastInDim S128x160 ![] bcast_S_S128x160 (id (constantI S_ 32 0#32))) dist)

/-- The clipped distance, a negative one counted from the end. -/
def tapIdx : IVec S128x160x1 32 :=
  broadcastInDim S128x160x1 ![0, 1] bcast_S128x160_S128x160x1_0_1
    (select (cmpi .slt clipped (broadcastInDim S128x160 ![] bcast_S_S128x160 (constantI S_ 32 0#32)))
      (addi clipped (broadcastInDim S128x160 ![] bcast_S_S128x160 (constantI S_ 32 33#32))) clipped)

/-- The band matrix of each head: entry `(r, c)` is tap `c - r`, or zero. -/
def band (w : Vec F S16x33 .f32) : Vec F S16x128x160 .f32 :=
  select (broadcastInDim S16x128x160 ![0, 1, 2] bcast_S1x128x160_S16x128x160_0_1_2 (broadcastInDim S1x128x160 ![1, 2] bcast_S128x160_S1x128x160_1_2 inBand))
    (Host.gather gather_S16x33_S128x160x1_S16x128x160_0_1_n_n_1_2_161 w tapIdx)
    (broadcastInDim S16x128x160 ![] bcast_S_S16x128x160 (id (constant S_ .f32 0x00000000#32)))

/-- What a cast to bf16 leaves out. -/
def rest (x : Vec F S16x128x160 .f32) : Vec F S16x128x160 .f32 := subf x (extf .f32 (truncf .bf16 x bitsLt_bf16_f32 : FVec F S16x128x160 .bf16) bitsLt_bf16_f32)

set_option maxRecDepth 8192 in
set_option maxHeartbeats 2000000 in
theorem V_scales : V m c main_v36 = shapeCast S384 (mulf (mulf (broadcastInDim S24x16 ![] bcast_S_S24x16 (constant S_ .f32 0x3DB504F3#32))
    (m ((c : Thread nD τ).loc main_arg1))) (m ((c : Thread nD τ).loc main_arg3))) shapeCasts_S24x16_S384 := by
  show after (List.flatten [hostOps0, hostOps0_1, hostOps0_2, hostOps0_3, hostOps0_4]) (fun b => m (c, b)) (Proc.devRef .tc main_v36) = _
  simp only [hostOps0, hostOps0_1, hostOps0_2, hostOps0_3, hostOps0_4, TRef.binary, TRef.unary, TRef.ternary, TRef.toBuf, TRef.ofBuf, cast_eq, List.flatten_cons, List.flatten_nil, List.append_nil, List.cons_append, List.nil_append]
  after_results_simp
  rfl

set_option maxRecDepth 8192 in
set_option maxHeartbeats 2000000 in
theorem V_q : V m c main_v0 = (Host.convertf .fp8e4m3 (m ((c : Thread nD τ).loc main_arg0)) : Vec F S24x40960x128 .fp8e4m3) := by
  show after (List.flatten [hostOps0, hostOps0_1, hostOps0_2, hostOps0_3, hostOps0_4]) (fun b => m (c, b)) (Proc.devRef .tc main_v0) = _
  simp only [hostOps0, hostOps0_1, hostOps0_2, hostOps0_3, hostOps0_4, TRef.binary, TRef.unary, TRef.ternary, TRef.toBuf, TRef.ofBuf, cast_eq, List.flatten_cons, List.flatten_nil, List.append_nil, List.cons_append, List.nil_append]
  after_results_simp

set_option maxRecDepth 8192 in
set_option maxHeartbeats 2000000 in
theorem V_kl : V m c main_v1 = (Host.convertf .fp8e4m3 (m ((c : Thread nD τ).loc main_arg2)) : Vec F S24x16x64x128 .fp8e4m3) := by
  show after (List.flatten [hostOps0, hostOps0_1, hostOps0_2, hostOps0_3, hostOps0_4]) (fun b => m (c, b)) (Proc.devRef .tc main_v1) = _
  simp only [hostOps0, hostOps0_1, hostOps0_2, hostOps0_3, hostOps0_4, TRef.binary, TRef.unary, TRef.ternary, TRef.toBuf, TRef.ofBuf, cast_eq, List.flatten_cons, List.flatten_nil, List.append_nil, List.cons_append, List.nil_append]
  after_results_simp

set_option maxRecDepth 8192 in
set_option maxHeartbeats 2000000 in
theorem V_v : V m c main_v2 = shapeCast S24x40960x128 (m ((c : Thread nD τ).loc main_arg5)) shapeCasts_S24x2560x16x128_S24x40960x128 := by
  show after (List.flatten [hostOps0, hostOps0_1, hostOps0_2, hostOps0_3, hostOps0_4]) (fun b => m (c, b)) (Proc.devRef .tc main_v2) = _
  simp only [hostOps0, hostOps0_1, hostOps0_2, hostOps0_3, hostOps0_4, TRef.binary, TRef.unary, TRef.ternary, TRef.toBuf, TRef.ofBuf, cast_eq, List.flatten_cons, List.flatten_nil, List.append_nil, List.cons_append, List.nil_append]
  after_results_simp
  rfl

/-- The last operations: the three terms joined. -/
theorem joined (W : Valuation τ sig (Elt F)) : after (List.drop 7 hostOps0_4) W (Proc.devRef .tc main_v32) =
    concatenate S16x128x480 2 [⟨S16x128x160, (W (Proc.devRef .tc main_v25) : FVec F S16x128x160 .bf16)⟩,
     ⟨S16x128x160, (W (Proc.devRef .tc main_v28) : FVec F S16x128x160 .bf16)⟩,
     ⟨S16x128x160, (W (Proc.devRef .tc main_v31) : FVec F S16x128x160 .bf16)⟩] concatenates_S16x128x160_S16x128x160_S16x128x160_S16x128x480_d2 := by
  simp only [hostOps0_4, List.drop_succ_cons, List.drop_zero]
  after_results_simp
  rfl

theorem part_full (W : Valuation τ sig (Elt F)) : after (List.take 7 hostOps0_4) W (Proc.devRef .tc main_v25) =
    truncf .bf16 (W (Proc.devRef .tc main_v24) : FVec F S16x128x160 .f32) bitsLt_bf16_f32 := by
  simp only [hostOps0_4, List.take_succ_cons, List.take_zero]
  after_results_simp <;> rfl

theorem part_mid (W : Valuation τ sig (Elt F)) : after (List.take 7 hostOps0_4) W (Proc.devRef .tc main_v28) =
    truncf .bf16 (rest (W (Proc.devRef .tc main_v24))) bitsLt_bf16_f32 := by
  simp only [hostOps0_4, List.take_succ_cons, List.take_zero]
  after_results_simp <;> rfl

theorem part_low (W : Valuation τ sig (Elt F)) : after (List.take 7 hostOps0_4) W (Proc.devRef .tc main_v31) =
    truncf .bf16 (rest (rest (W (Proc.devRef .tc main_v24)))) bitsLt_bf16_f32 := by
  simp only [hostOps0_4, List.take_succ_cons, List.take_zero]
  after_results_simp <;> rfl

set_option maxRecDepth 8192 in
set_option maxHeartbeats 2000000 in
theorem part_band : after (List.flatten [hostOps0, hostOps0_1, hostOps0_2, hostOps0_3]) (fun b => m (c, b)) (Proc.devRef .tc main_v24)
    = band (m ((c : Thread nD τ).loc main_arg6)) := by
  simp only [hostOps0, hostOps0_1, hostOps0_2, hostOps0_3, TRef.binary, TRef.unary, TRef.ternary, TRef.toBuf, TRef.ofBuf, cast_eq, List.flatten_cons, List.flatten_nil, List.append_nil, List.cons_append, List.nil_append]
  after_results_simp
  rfl

/-- The band matrices as the call receives them. -/
theorem V_t : V m c main_v32 = concatenate S16x128x480 2
    [⟨S16x128x160, (truncf .bf16 (band (m ((c : Thread nD τ).loc main_arg6))) bitsLt_bf16_f32 : FVec F S16x128x160 .bf16)⟩,
     ⟨S16x128x160, (truncf .bf16 (rest (band (m ((c : Thread nD τ).loc main_arg6)))) bitsLt_bf16_f32 : FVec F S16x128x160 .bf16)⟩,
     ⟨S16x128x160, (truncf .bf16 (rest (rest (band (m ((c : Thread nD τ).loc main_arg6))))) bitsLt_bf16_f32 : FVec F S16x128x160 .bf16)⟩] concatenates_S16x128x160_S16x128x160_S16x128x160_S16x128x480_d2 := by
  have h : V m c main_v32 = after (List.drop 7 hostOps0_4) (after (List.take 7 hostOps0_4) (after (List.flatten [hostOps0, hostOps0_1, hostOps0_2, hostOps0_3]) (fun b => m (c, b)))) (Proc.devRef .tc main_v32) := rfl
  rw [h, joined, part_full, part_mid, part_low, part_band]

end Host

/-! ## The band matrix at an index -/

/-- The gather of the taps, read at an index: the head's tap at the index word, read signed and clamped. -/
theorem gather_taps {α : Type} (x : S16x33.Idx → α) (idx : IVec S128x160x1 32) (h : Fin 16) (r : Fin 128) (c : Fin 160) :
    Host.gather gather_S16x33_S128x160x1_S16x128x160_0_1_n_n_1_2_161 x idx (ix3 h r c)
      = x (ix2 h ⟨min (idx (ix3 r c 0)).toInt.toNat 32, by omega⟩) := by
  unfold Host.gather
  congr 1
  funext a
  refine Fin.ext ?_
  show (gather_S16x33_S128x160x1_S16x128x160_0_1_n_n_1_2_161).start (ix3 h r c) idx a + (gather_S16x33_S128x160x1_S16x128x160_0_1_n_n_1_2_161).batchCoord (ix3 h r c) a
     + (gather_S16x33_S128x160x1_S16x128x160_0_1_n_n_1_2_161).offCoord (ix3 h r c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by decide), dif_pos (by decide)]
    show 0 + 0 + _ = _
    simp only [Nat.zero_add]
    rfl
  · rw [GatherDims.offCoord_eq_zero _ _ _ (by decide)]
    unfold GatherDims.start
    rw [dif_pos (by decide)]
    show min (idx _).toInt.toNat 32 = min _ 32
    congr 4
    funext b
    refine Fin.ext ?_
    match b with
    | ⟨0, _⟩ => rfl
    | ⟨1, _⟩ => rfl
    | ⟨2, _⟩ => rfl

/-- The distance of a column at or right of the row. -/
theorem dist_right (r : Fin 128) (c : Fin 160) (h : r.val ≤ c.val) : dist (ix2 r c) = BitVec.ofNat 32 (c.val - r.val) := by
  pointwise [dist]
  have := r.isLt; have := c.isLt
  show BitVec.ofNat 32 c.val - BitVec.ofNat 32 r.val = _
  apply BitVec.eq_of_toNat_eq
  simp only [BitVec.toNat_sub, BitVec.toNat_ofNat]
  omega

/-- The distance of a column left of the row is negative. -/
theorem dist_left (r : Fin 128) (c : Fin 160) (h : c.val < r.val) : dist (ix2 r c) = - BitVec.ofNat 32 (r.val - c.val) := by
  pointwise [dist]
  have := r.isLt; have := c.isLt
  show BitVec.ofNat 32 c.val - BitVec.ofNat 32 r.val = _
  apply BitVec.eq_of_toNat_eq
  simp only [BitVec.toNat_sub, BitVec.toNat_neg, BitVec.toNat_ofNat]
  omega

theorem band_bits_right : ∀ e : Fin 160, IntOp.andi (IntOp.cmpi CmpIPredicate.sge (BitVec.ofNat 32 e.val) 0#32)
    (IntOp.cmpi CmpIPredicate.slt (BitVec.ofNat 32 e.val) 33#32) = if e.val < 33 then 1#1 else 0#1 := by decide

theorem band_bits_left : ∀ e : Fin 128, 0 < e.val → IntOp.andi (IntOp.cmpi CmpIPredicate.sge (- BitVec.ofNat 32 e.val) 0#32)
    (IntOp.cmpi CmpIPredicate.slt (- BitVec.ofNat 32 e.val) 33#32) = 0#1 := by decide

theorem tap_word : ∀ e : Fin 33, (Scalar.select (IntOp.cmpi CmpIPredicate.slt (IntOp.minsi 32#32 (IntOp.maxsi 0#32 (BitVec.ofNat 32 e.val))) 0#32)
    (IntOp.addi (IntOp.minsi 32#32 (IntOp.maxsi 0#32 (BitVec.ofNat 32 e.val))) 33#32)
    (IntOp.minsi 32#32 (IntOp.maxsi 0#32 (BitVec.ofNat 32 e.val)))).toInt.toNat = e.val := by decide

theorem inBand_apply (r : Fin 128) (c : Fin 160) : inBand (ix2 r c) = if r.val ≤ c.val ∧ c.val - r.val < 33 then 1#1 else 0#1 := by
  pointwise [inBand]
  have := r.isLt; have := c.isLt
  by_cases h : r.val ≤ c.val
  · rw [dist_right r c h, band_bits_right ⟨c.val - r.val, by omega⟩]
    simp only [h, true_and]
  · rw [dist_left r c (by omega), band_bits_left ⟨r.val - c.val, by omega⟩ (by simp only; omega), if_neg (by omega)]

theorem tapIdx_apply (r : Fin 128) (c : Fin 160) (h : r.val ≤ c.val) (h' : c.val - r.val < 33) : (tapIdx (ix3 r c 0)).toInt.toNat = c.val - r.val := by
  pointwise [tapIdx, clipped]
  rw [dist_right r c h]
  exact tap_word ⟨c.val - r.val, h'⟩

/-- The band matrix at an index. -/
theorem band_apply (w : Vec Ideal S16x33 .f32) (k : Fin 16) (r : Fin 128) (c : Fin 160) :
    band w (ix3 k r c) = if h : r.val ≤ c.val ∧ c.val - r.val < 33 then w (ix2 k ⟨c.val - r.val, h.2⟩) else 0 := by
  pointwise [band]
  rw [inBand_apply, gather_taps]
  by_cases h : r.val ≤ c.val ∧ c.val - r.val < 33
  · have e : (⟨min (tapIdx (ix3 r c 0)).toInt.toNat 32, by omega⟩ : Fin 33) = ⟨c.val - r.val, h.2⟩ := Fin.ext (by
      show min (tapIdx (ix3 r c 0)).toInt.toNat 32 = c.val - r.val
      rw [tapIdx_apply r c h.1 h.2]
      omega)
    rw [if_pos h, dif_pos h, ValueIdx.select_one, e]
  · rw [if_neg h, dif_neg h]
    show Ideal.ofBits .f32 0x00000000#32 = 0
    simp [Ideal.ofBits, Ideal.ieee]

/-- Nothing is left of a real after the identity cast. -/
theorem rest_apply (x : Vec Ideal S16x128x160 .f32) (y : S16x128x160.Idx) (a : ℝ) (h : x y = (a : EReal)) : rest x y = 0 := by
  show x y - x y = 0
  rw [h, ← EReal.coe_sub, sub_self, EReal.coe_zero]

/-- The matrices the call receives, at an index: with real taps the first 160 columns are the band and the others zero. -/
theorem t_apply (m : (ℓ : Loc nD τ sig) → Buf (Elt Ideal) ℓ) (c : Dev nD) (a : Fin 16 → Fin 33 → ℝ)
    (ha : ∀ k t, m ((c : Thread nD τ).loc main_arg6) (ix2 k t) = (a k t : EReal)) (k : Fin 16) (r : Fin 128) (x : Fin 480) :
    V m c main_v32 (ix3 k r x) = if h : x.val < 160 then band (m ((c : Thread nD τ).loc main_arg6)) (ix3 k r ⟨x.val, h⟩) else 0 := by
  have hb : ∀ cc : Fin 160, ∃ b : ℝ, band (m ((c : Thread nD τ).loc main_arg6)) (ix3 k r cc) = (b : EReal) := fun cc => by
    rw [band_apply]
    split
    · exact ⟨_, ha _ _⟩
    · exact ⟨0, EReal.coe_zero.symm⟩
  have h1 : ∀ cc : Fin 160, rest (band (m ((c : Thread nD τ).loc main_arg6))) (ix3 k r cc) = 0 := fun cc => by
    obtain ⟨b, e⟩ := hb cc
    exact rest_apply _ _ b e
  have h2 : ∀ cc : Fin 160, rest (rest (band (m ((c : Thread nD τ).loc main_arg6)))) (ix3 k r cc) = 0 := fun cc =>
    rest_apply _ _ 0 ((h1 cc).trans EReal.coe_zero.symm)
  rw [V_t]
  pointwise
  simp only [h1, h2]
  split_ifs <;> rfl

/-- The scale of a head: the three factors multiplied. -/
theorem scale_apply (m : (ℓ : Loc nD τ sig) → Buf (Elt Ideal) ℓ) (c : Dev nD) (b : Fin 24) (k : Fin 16) :
    V m c main_v36 (ix1 ⟨b.val * 16 + k.val, by omega⟩)
      = Ideal.ofBits .f32 0x3DB504F3#32 * m ((c : Thread nD τ).loc main_arg1) (ix2 b k) * m ((c : Thread nD τ).loc main_arg3) (ix2 b k) := by
  rw [V_scales]
  pointwise

theorem flat_rows {α : Type} (x : S24x2560x16x128.Idx → α) (b : Fin 24) (R : Fin 40960) (d : Fin 128) :
    shapeCast S24x40960x128 x shapeCasts_S24x2560x16x128_S24x40960x128 (ix3 b R d)
      = x (ix4 b ⟨R.val / 16, by omega⟩ ⟨R.val % 16, by omega⟩ d) := by
  pointwise

/-- A value row, the heads interleaved. -/
theorem v_apply (m : (ℓ : Loc nD τ sig) → Buf (Elt Ideal) ℓ) (c : Dev nD) (b : Fin 24) (s : Fin 2560) (k : Fin 16) (d : Fin 128) :
    V m c main_v2 (ix3 b ⟨s.val * 16 + k.val, by omega⟩ d) = m ((c : Thread nD τ).loc main_arg5) (ix4 b s k d) := by
  rw [V_v]
  rw [flat_rows]
  congr 2 <;> apply Fin.ext <;> simp only <;> omega

theorem q_apply (m : (ℓ : Loc nD τ sig) → Buf (Elt Ideal) ℓ) (c : Dev nD) (y : S24x40960x128.Idx) :
    V m c main_v0 y = m ((c : Thread nD τ).loc main_arg0) y := by
  rw [V_q]; rfl

theorem kl_apply (m : (ℓ : Loc nD τ sig) → Buf (Elt Ideal) ℓ) (c : Dev nD) (y : S24x16x64x128.Idx) :
    V m c main_v1 y = m ((c : Thread nD τ).loc main_arg2) y := by
  rw [V_kl]; rfl

end Cert.KernelIdeal.Attend

end
-- ==== Proof.Attend.KernelValue.lean ====
/- The kernel's result at an index: the grid point that writes it, the blocks that point reads, and what they hold of the
   arguments. -/
module

public import proofs.«01_k».proof.Proof.Attend.Launch
public import proofs.«01_k».proof.Proof.Attend.BlockValue
public import proofs.«01_k».proof.Proof.Attend.Operands
public import Idealize.ShloMosaic.Lib.Pipeline.ValueKit

@[expose] public section

set_option maxRecDepth 16384

noncomputable section

namespace Cert.KernelIdeal.Attend

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Attend (weight attend padded)

variable (m : (ℓ : Loc nD τ sig) → Buf (Elt F) ℓ)

/-! ## The index maps -/

theorem index0 : ∀ t : Fin cfg0.N, win0_0.index t = ![0] := (by decide +kernel : ∀ t : Fin grid0.N, _)
theorem index1 : ∀ t : Fin cfg0.N, win0_1.index t = ![(grid0.coords t 0).val, (grid0.coords t 1).val, 0] := (by decide +kernel : ∀ t : Fin grid0.N, _)
theorem index2 : ∀ t : Fin cfg0.N, win0_2.index t = ![(grid0.coords t 0).val, 0, 0, 0] := (by decide +kernel : ∀ t : Fin grid0.N, _)
theorem index3 : ∀ t : Fin cfg0.N, win0_3.index t = ![(grid0.coords t 0).val, 0, 0, 0] := (by decide +kernel : ∀ t : Fin grid0.N, _)
theorem index4 : ∀ t : Fin cfg0.N, win0_4.index t = ![(grid0.coords t 0).val, (grid0.coords t 1).val, 0] := (by decide +kernel : ∀ t : Fin grid0.N, _)
theorem index5 : ∀ t : Fin cfg0.N, win0_5.index t = ![(grid0.coords t 0).val, (grid0.coords t 1).val * 80 - 1, 0] := (by decide +kernel : ∀ t : Fin grid0.N, _)
theorem index6 : ∀ t : Fin cfg0.N, win0_6.index t = ![(grid0.coords t 0).val, min (((grid0.coords t 1).val + 1) * 80) 159, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![(grid0.coords t 0).val, (grid0.coords t 1).val, 0] := (by decide +kernel : ∀ t : Fin grid0.N, _)
theorem flush8 : ∀ t : Fin cfg0.N, (cfg0.win 8).flush t = true := (by decide +kernel : ∀ t : Fin grid0.N, win0_8.flush t = true)

/-- The grid point of a batch and a half of its rows. -/
theorem exists_point : ∀ (b : Fin 24) (j : Fin 2), ∃ t : Fin cfg0.N, (grid0.coords t 0).val = b.val ∧ (grid0.coords t 1).val = j.val :=
  fun b j => ⟨(⟨b.val * 2 + j.val, by have : grid0.N = 48 := by decide +kernel
                                      omega⟩ : Fin grid0.N), by revert b j; decide +kernel⟩

/-! ## The blocks a point reads -/

section blocks
variable (c : Dev nD) (t : Fin cfg0.N) (b : Fin 24) (j : Fin 2) (hb : (grid0.coords t 0).val = b.val) (hj : (grid0.coords t 1).val = j.val)
include hb hj

theorem blk0 (x : Fin 384) : iblk m c 0 t (ix1 x) = V m c main_v36 (ix1 x) := by
  blk_simp [iblk]; blk_ext [index0]

theorem blk1 (r : Fin 20480) (l : Fin 128) :
    iblk m c 1 t (ix3 0 r l) = V m c main_v0 (ix3 b (⟨j.val * 20480 + r.val, by omega⟩ : Fin 40960) l) := by
  blk_simp [iblk]; blk_ext [index1, hb, hj]

theorem blk2 (k : Fin 16) (l : Fin 64) (e : Fin 128) : iblk m c 2 t (ix4 0 k l e) = V m c main_v1 (ix4 b k l e) := by
  blk_simp [iblk]; blk_ext [index2, hb, hj]

theorem blk3 (k : Fin 16) (l : Fin 64) (e : Fin 128) : iblk m c 3 t (ix4 0 k l e) = V m c main_arg4 (ix4 b k l e) := by
  blk_simp [iblk]; blk_ext [index3, hb, hj]

theorem blk4 (r : Fin 20480) (l : Fin 128) :
    iblk m c 4 t (ix3 0 r l) = V m c main_v2 (ix3 b (⟨j.val * 20480 + r.val, by omega⟩ : Fin 40960) l) := by
  blk_simp [iblk]; blk_ext [index4, hb, hj]

theorem blk5 (h : j.val = 1) (r : Fin 256) (l : Fin 128) :
    iblk m c 5 t (ix3 0 r l) = V m c main_v2 (ix3 b (⟨79 * 256 + r.val, by omega⟩ : Fin 40960) l) := by
  blk_simp [iblk]; blk_ext [index5, hb, hj, h]

theorem blk6 (h : j.val = 0) (r : Fin 256) (l : Fin 128) :
    iblk m c 6 t (ix3 0 r l) = V m c main_v2 (ix3 b (⟨80 * 256 + r.val, by omega⟩ : Fin 40960) l) := by
  blk_simp [iblk]; blk_ext [index6, hb, hj, h]

theorem blk7 (k : Fin 16) (r : Fin 128) (x : Fin 480) : iblk m c 7 t (ix3 k r x) = V m c main_v32 (ix3 k r x) := by
  blk_simp [iblk]; blk_ext [index7]

end blocks

/-- The element of the output under the grid point's block. -/
theorem out_at (c : Dev nD) (t : Fin cfg0.N) (b : Fin 24) (j : Fin 2) (hb : (grid0.coords t 0).val = b.val) (hj : (grid0.coords t 1).val = j.val)
    (R : Fin 1280) (x : Fin 2048) :
    (dats m 0 c).arrAt 8 cfg0.N (ix3 b (⟨j.val * 1280 + R.val, by omega⟩ : Fin 2560) x) = outsAt0 m c t (ix3 0 R x) := by
  have h := (dats m 0 c).arrAt_emb_eq_flushed 8 disjoint8 t (flush8 t) (ix3 0 R x)
  have e : ((cfg0.win 8).blk t).view.emb (ix3 0 R x) = ix3 b (⟨j.val * 1280 + R.val, by omega⟩ : Fin 2560) x := by
    blk_ext [index8, hb, hj]
  rw [e] at h
  rw [h]
  blk_simp
  rw [after0_8]

section scratch
variable (v1 v2 : BitVec 1) (x4 : Vec F S1x20480x128 .bf16) (x5 x6 : Vec F S1x256x128 .bf16) (k : Fin 16) (p : Fin 1312) (d : Fin 128)

theorem v16_first (h : p.val < 16) : v16At v1 v2 x4 x5 x6 (ix3 k p d)
    = Scalar.select v1 (Scalar.ofBits .bf16 0x0000#16) (x5 (ix3 0 (⟨p.val * 16 + k.val, by omega⟩ : Fin 256) d)) := dif_pos h

theorem v16_mid (h : ¬ p.val < 16) (h2 : p.val < 1296) : v16At v1 v2 x4 x5 x6 (ix3 k p d)
    = x4 (ix3 0 (⟨(p.val - 16) * 16 + k.val, by omega⟩ : Fin 20480) d) := (dif_neg h).trans (dif_pos h2)

theorem v16_last (h : ¬ p.val < 16) (h2 : ¬ p.val < 1296) : v16At v1 v2 x4 x5 x6 (ix3 k p d)
    = Scalar.select v2 (Scalar.ofBits .bf16 0x0000#16) (x6 (ix3 0 (⟨(p.val - 1296) * 16 + k.val, by omega⟩ : Fin 256) d)) :=
  (dif_neg h).trans (dif_neg h2)

end scratch

/-- What the scratch of the values holds: the values with zeros around them. -/
theorem v16_apply (m : (ℓ : Loc nD τ sig) → Buf (Elt Ideal) ℓ) (c : Dev nD) (t : Fin cfg0.N) (b : Fin 24) (j : Fin 2) (hb : (grid0.coords t 0).val = b.val) (hj : (grid0.coords t 1).val = j.val)
    (k : Fin 16) (p : Fin 1312) (d : Fin 128) :
    v16At (firstBit (grid0.coords t)) (lastBit (grid0.coords t)) (iblk m c 4 t) (iblk m c 5 t) (iblk m c 6 t) (ix3 k p d)
      = padded (fun s => m ((c : Thread nD τ).loc main_arg5) (ix4 b s k d)) (j.val * 1280 + p.val) := by
  have hv : ∀ (q : Fin 2560) (n : Fin 40960), n.val = q.val * 16 + k.val → V m c main_v2 (ix3 b n d) = m ((c : Thread nD τ).loc main_arg5) (ix4 b q k d) := fun q n hn => by
    have e : n = ⟨q.val * 16 + k.val, by omega⟩ := Fin.ext hn
    rw [e, v_apply]
  have h0 : (Scalar.ofBits .bf16 0x0000#16 : Ideal .bf16) = 0 := Ideal.ofBits_zero_bf16
  unfold padded
  by_cases h1 : p.val < 16
  · rw [v16_first _ _ _ _ _ k p d h1]
    rcases (show j.val = 0 ∨ j.val = 1 by omega) with h | h
    · have e : firstBit (grid0.coords t) = 1#1 := by unfold firstBit; rw [hj, h]; rfl
      rw [e, ValueIdx.select_one, dif_neg (by omega)]
      exact h0
    · have e : firstBit (grid0.coords t) = 0#1 := by unfold firstBit; rw [hj, h]; rfl
      rw [e, ValueIdx.select_zero, dif_pos (by omega)]
      exact (blk5 m c t b j hb hj h ⟨p.val * 16 + k.val, by omega⟩ d).trans (hv _ _ (by simp only; omega))
  · by_cases h2 : p.val < 1296
    · rw [v16_mid _ _ _ _ _ k p d h1 h2, dif_pos (by omega)]
      exact (blk4 m c t b j hb hj ⟨(p.val - 16) * 16 + k.val, by omega⟩ d).trans (hv _ _ (by simp only; omega))
    · rw [v16_last _ _ _ _ _ k p d h1 h2]
      rcases (show j.val = 0 ∨ j.val = 1 by omega) with h | h
      · have e : lastBit (grid0.coords t) = 0#1 := by unfold lastBit; rw [hj, h]; rfl
        rw [e, ValueIdx.select_zero, dif_pos (by omega)]
        exact (blk6 m c t b j hb hj h ⟨(p.val - 1296) * 16 + k.val, by omega⟩ d).trans (hv _ _ (by simp only; omega))
      · have e : lastBit (grid0.coords t) = 1#1 := by unfold lastBit; rw [hj, h]; rfl
        rw [e, ValueIdx.select_one, dif_neg (by omega)]
        exact h0

set_option maxHeartbeats 1000000 in
/-- THE KERNEL'S RESULT AT AN INDEX, of arguments whose codes, scales and taps are real. -/
theorem kernel_apply (m : (ℓ : Loc nD τ sig) → Buf (Elt Ideal) ℓ) (c : Dev nD) (b : Fin 24) (s : Fin 2560) (k : Fin 16) (d : Fin 128)
    (A0 : Vec Ideal S24x40960x128 .f32) (A2 : Vec Ideal S24x16x64x128 .f32)
    (h0 : m ((c : Thread nD τ).loc main_arg0) = A0) (h2 : m ((c : Thread nD τ).loc main_arg2) = A2)
    (x : ℝ) (a : Fin 64 → ℝ) (w : Fin 16 → Fin 33 → ℝ)
    (hx : Ideal.ofBits .f32 0x3DB504F3#32 * m ((c : Thread nD τ).loc main_arg1) (ix2 b k) * m ((c : Thread nD τ).loc main_arg3) (ix2 b k) = (x : EReal))
    (ha : ∀ l, ∑ e : Fin 128, A2 (ix4 b k l e) * A0 (ix3 b (⟨s.val * 16 + k.val, by omega⟩ : Fin 40960) e) = (a l : EReal))
    (hw : ∀ k t, m ((c : Thread nD τ).loc main_arg6) (ix2 k t) = (w k t : EReal)) :
    (dats m 0 c).arrAt 8 cfg0.N (ix3 b s (⟨k.val * 128 + d.val, by omega⟩ : Fin 2048))
      = attend x a (fun l => m ((c : Thread nD τ).loc main_arg4) (ix4 b k l d)) (fun t => m ((c : Thread nD τ).loc main_arg6) (ix2 k t))
          (fun t => padded (fun s => m ((c : Thread nD τ).loc main_arg5) (ix4 b s k d)) (s.val + t.val)) := by
  obtain ⟨t, hb, hj⟩ := exists_point b ⟨s.val / 1280, by omega⟩
  have hs : s = (⟨s.val / 1280 * 1280 + s.val % 1280, by omega⟩ : Fin 2560) := Fin.ext (by simp only; omega)
  refine (congrArg (fun s => (dats m 0 c).arrAt 8 cfg0.N (ix3 b s (⟨k.val * 128 + d.val, by omega⟩ : Fin 2048))) hs).trans ?_
  refine (out_at m c t b ⟨s.val / 1280, by omega⟩ hb hj ⟨s.val % 1280, by omega⟩ _).trans ?_
  unfold outsAt0 blockOf
  refine (outAt_apply (grid0.coords t) _ _ _ _ _ _ k ⟨s.val % 1280, by omega⟩ d x a (fun p => m ((c : Thread nD τ).loc main_arg6) (ix2 k p)) ?_ ?_ ?_).trans ?_
  · refine (blk0 m c t b _ hb hj _).trans ?_
    rw [← hx, ← scale_apply m c b k]
    refine congrArg (fun n => V m c main_v36 (ix1 n)) ?_
    apply Fin.ext
    simp only [hb]
  · intro l
    rw [← ha l]
    refine Finset.sum_congr rfl fun e _ => ?_
    refine congrArg₂ (· * ·) ?_ ?_
    · refine (blk2 m c t b _ hb hj k l e).trans ?_
      rw [kl_apply, h2]
    · refine (blk1 m c t b ⟨s.val / 1280, by omega⟩ hb hj ⟨s.val % 1280 * 16 + k.val, by omega⟩ e).trans ?_
      rw [q_apply, h0]
      refine congrArg (fun n => A0 (ix3 b n e)) (Fin.ext ?_)
      simp only; omega
  · intro r p
    refine (blk7 m c t b _ hb hj k r p).trans ?_
    rw [t_apply m c w hw]
    by_cases h : p.val < 160
    · rw [dif_pos h, band_apply]
    · rw [dif_neg h, dif_neg (by omega)]
  · unfold attend
    refine congrArg₂ (· + ·) (Finset.sum_congr rfl fun l _ => ?_) (Finset.sum_congr rfl fun p _ => ?_)
    · refine congrArg _ ((blk3 m c t b _ hb hj k l d).trans ?_)
      rw [V_main_arg4]
    · refine congrArg _ ((v16_apply m c t b ⟨s.val / 1280, by omega⟩ hb hj k ⟨s.val % 1280 + p.val, by omega⟩ d).trans ?_)
      refine congrArg _ ?_
      simp only; omega

end Cert.KernelIdeal.Attend

end
-- ==== Proof.Attend.RefRun.lean ====
/- The reference program's run, read off its frame module: two host operations, one region (the decode of the two code
   arrays), then the operations of the mathematics. `run` states the result as the later operations' composed term of the
   arguments and of the region's two outputs (`reg_main_v2_0`, `reg_main_v2_1`). It is the generated module of that name with
   one step of `fin_main_v47` closed by `rfl`. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v2_0` (window 2's): not opened here. -/
def reg_main_v2_0 (c : Dev nD) : Buf (Elt F) ((c.tc : Thread nD τ).loc main_v2_0) := (Gen.dats m 0 c).arrAt 2 cfg0.N
/-- What the kernel region leaves in its result array `main_v2_1` (window 3's): not opened here. -/
def reg_main_v2_1 (c : Dev nD) : Buf (Elt F) ((c.tc : Thread nD τ).loc main_v2_1) := (Gen.dats m 0 c).arrAt 3 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at argument `main_arg6`: as launched. -/
theorem exit_main_arg6 (c : Dev nD) : exitV m c (Proc.devRef .tc main_arg6) = m ((c.tc : Thread nD τ).loc main_arg6) :=
  (Pipeline.withArrays_of_ne _ c (Gen.V0 m c) _ main_arg6 (by exact (by decide : ∀ w, Pipeline.arrRef spec0 w ≠ main_arg6))).trans (Gen.V_main_arg6 m c)
/-- The exit contents at the region's result array `main_v2_0`. -/
theorem exit_main_v2_0 (c : Dev nD) : exitV m c (Proc.devRef .tc main_v2_0) = reg_main_v2_0 m c :=
  Pipeline.withArrays_arr spec0 Gen.launch0.win.arr_inj c (Gen.V0 m c) _ 2
/-- The exit contents at the region's result array `main_v2_1`. -/
theorem exit_main_v2_1 (c : Dev nD) : exitV m c (Proc.devRef .tc main_v2_1) = reg_main_v2_1 m c :=
  Pipeline.withArrays_arr spec0 Gen.launch0.win.arr_inj c (Gen.V0 m c) _ 3

set_option maxRecDepth 8192 in
/-- `main_v47`'s composed term of the arguments and the region's results (named: it is long). -/
def res_main_v47 (c : Dev nD) : Buf (Elt F) ((c.tc : Thread nD τ).loc main_v47) :=
  truncf .bf16 (addf (shapeCast _ (transpose S24x2560x16x128 [0, 3, 1, 2] (Host.dotGeneral dot_S24x16x64x128_S24x16x2560x64_S24x16x128x2560_2_3_3_2_01_01 none (m ((c.tc : Thread nD τ).loc main_arg4)) (truncf .bf16 (Host.divf (Host.exp (subf (mulf (broadcastInDim S24x16x2560x64 ![0, 1, 2, 3] bcast_S24x16x1x1_S24x16x2560x64_0_1_2_3 (mulf (mulf (broadcastInDim S24x16x1x1 ![] bcast_S_S24x16x1x1 (constant S_ .f32 0x3DB504F3#32)) (broadcastInDim S24x16x1x1 ![0, 1] bcast_S24x16_S24x16x1x1_0_1 (m ((c.tc : Thread nD τ).loc main_arg1)))) (broadcastInDim S24x16x1x1 ![0, 1] bcast_S24x16_S24x16x1x1_0_1 (m ((c.tc : Thread nD τ).loc main_arg3))))) (Host.dotGeneral dot_S24x2560x16x128_S24x16x64x128_S24x16x2560x64_3_3_1_2_02_01 none (shapeCast _ (reg_main_v2_0 m c) shapeCasts_S24x40960x128_S24x2560x16x128) (reg_main_v2_1 m c))) (broadcastInDim S24x16x2560x64 ![0, 1, 2, 3] bcast_S24x16x2560x1_S24x16x2560x64_0_1_2_3 (broadcastInDim S24x16x2560x1 ![0, 1, 2] bcast_S24x16x2560_S24x16x2560x1_0_1_2 (maximumf (broadcastInDim S24x16x2560 ![] bcast_S_S24x16x2560 (constant S_ .f32 0xFF800000#32)) (Host.reduce FloatOps.maximumf (mulf (broadcastInDim S24x16x2560x64 ![0, 1, 2, 3] bcast_S24x16x1x1_S24x16x2560x64_0_1_2_3 (mulf (mulf (broadcastInDim S24x16x1x1 ![] bcast_S_S24x16x1x1 (constant S_ .f32 0x3DB504F3#32)) (broadcastInDim S24x16x1x1 ![0, 1] bcast_S24x16_S24x16x1x1_0_1 (m ((c.tc : Thread nD τ).loc main_arg1)))) (broadcastInDim S24x16x1x1 ![0, 1] bcast_S24x16_S24x16x1x1_0_1 (m ((c.tc : Thread nD τ).loc main_arg3))))) (Host.dotGeneral dot_S24x2560x16x128_S24x16x64x128_S24x16x2560x64_3_3_1_2_02_01 none (shapeCast _ (reg_main_v2_0 m c) shapeCasts_S24x40960x128_S24x2560x16x128) (reg_main_v2_1 m c))) (constant S_ .f32 0xFF800000#32) reducesTo_S24x16x2560x64_S24x16x2560_d3 h_S_)))))) (broadcastInDim S24x16x2560x64 ![0, 1, 2, 3] bcast_S24x16x2560x1_S24x16x2560x64_0_1_2_3 (broadcastInDim S24x16x2560x1 ![0, 1, 2] bcast_S24x16x2560_S24x16x2560x1_0_1_2 (Host.reduceAdd (Host.exp (subf (mulf (broadcastInDim S24x16x2560x64 ![0, 1, 2, 3] bcast_S24x16x1x1_S24x16x2560x64_0_1_2_3 (mulf (mulf (broadcastInDim S24x16x1x1 ![] bcast_S_S24x16x1x1 (constant S_ .f32 0x3DB504F3#32)) (broadcastInDim S24x16x1x1 ![0, 1] bcast_S24x16_S24x16x1x1_0_1 (m ((c.tc : Thread nD τ).loc main_arg1)))) (broadcastInDim S24x16x1x1 ![0, 1] bcast_S24x16_S24x16x1x1_0_1 (m ((c.tc : Thread nD τ).loc main_arg3))))) (Host.dotGeneral dot_S24x2560x16x128_S24x16x64x128_S24x16x2560x64_3_3_1_2_02_01 none (shapeCast _ (reg_main_v2_0 m c) shapeCasts_S24x40960x128_S24x2560x16x128) (reg_main_v2_1 m c))) (broadcastInDim S24x16x2560x64 ![0, 1, 2, 3] bcast_S24x16x2560x1_S24x16x2560x64_0_1_2_3 (broadcastInDim S24x16x2560x1 ![0, 1, 2] bcast_S24x16x2560_S24x16x2560x1_0_1_2 (maximumf (broadcastInDim S24x16x2560 ![] bcast_S_S24x16x2560 (constant S_ .f32 0xFF800000#32)) (Host.reduce FloatOps.maximumf (mulf (broadcastInDim S24x16x2560x64 ![0, 1, 2, 3] bcast_S24x16x1x1_S24x16x2560x64_0_1_2_3 (mulf (mulf (broadcastInDim S24x16x1x1 ![] bcast_S_S24x16x1x1 (constant S_ .f32 0x3DB504F3#32)) (broadcastInDim S24x16x1x1 ![0, 1] bcast_S24x16_S24x16x1x1_0_1 (m ((c.tc : Thread nD τ).loc main_arg1)))) (broadcastInDim S24x16x1x1 ![0, 1] bcast_S24x16_S24x16x1x1_0_1 (m ((c.tc : Thread nD τ).loc main_arg3))))) (Host.dotGeneral dot_S24x2560x16x128_S24x16x64x128_S24x16x2560x64_3_3_1_2_02_01 none (shapeCast _ (reg_main_v2_0 m c) shapeCasts_S24x40960x128_S24x2560x16x128) (reg_main_v2_1 m c))) (constant S_ .f32 0xFF800000#32) reducesTo_S24x16x2560x64_S24x16x2560_d3 h_S_)))))) (constant S_ .f32 0x00000000#32) reducesTo_S24x16x2560x64_S24x16x2560_d3 h_S_)))) bitsLt_bf16_f32)) transposes_S24x16x128x2560_S24x2560x16x128_0_3_1_2) shapeCasts_S24x2560x16x128_S24x2560x2048) (shapeCast _ (transpose S24x2560x16x128 [1, 2, 0, 3] (Host.dotGeneral dot_S16x33_S24x2560x33x16x128_S16x24x2560x128_1_2_n_014_0_3 (some .fp32) (m ((c.tc : Thread nD τ).loc main_arg6)) (Host.gather gather_S24x2592x16x128_S2560x33x1_S24x2560x33x16x128_034_1_n_n_1_2_24116128 (pad S24x2592x16x128 ![0, 16, 0, 0] ![0, 16, 0, 0] ![0, 0, 0, 0] (extf .f32 (m ((c.tc : Thread nD τ).loc main_arg5)) bitsLt_bf16_f32) (sitofp .f32 (constantI S_ 32 0#32)) pads_S24x2560x16x128_S24x2592x16x128_000_16160_000_000 h_S_) (broadcastInDim S2560x33x1 ![0, 1] bcast_S2560x33_S2560x33x1_0_1 (select (cmpi .slt (addi (broadcastInDim S2560x33 ![0, 1] bcast_S2560x1_S2560x33_0_1 (broadcastInDim S2560x1 ![0] bcast_S2560_S2560x1_0 (iotaInDim S2560 32 0))) (broadcastInDim S2560x33 ![0, 1] bcast_S1x33_S2560x33_0_1 (broadcastInDim S1x33 ![1] bcast_S33_S1x33_1 (iotaInDim S33 32 0)))) (broadcastInDim S2560x33 ![] bcast_S_S2560x33 (constantI S_ 32 0#32))) (addi (addi (broadcastInDim S2560x33 ![0, 1] bcast_S2560x1_S2560x33_0_1 (broadcastInDim S2560x1 ![0] bcast_S2560_S2560x1_0 (iotaInDim S2560 32 0))) (broadcastInDim S2560x33 ![0, 1] bcast_S1x33_S2560x33_0_1 (broadcastInDim S1x33 ![1] bcast_S33_S1x33_1 (iotaInDim S33 32 0)))) (broadcastInDim S2560x33 ![] bcast_S_S2560x33 (constantI S_ 32 2592#32))) (addi (broadcastInDim S2560x33 ![0, 1] bcast_S2560x1_S2560x33_0_1 (broadcastInDim S2560x1 ![0] bcast_S2560_S2560x1_0 (iotaInDim S2560 32 0))) (broadcastInDim S2560x33 ![0, 1] bcast_S1x33_S2560x33_0_1 (broadcastInDim S1x33 ![1] bcast_S33_S1x33_1 (iotaInDim S33 32 0)))))))) transposes_S16x24x2560x128_S24x2560x16x128_1_2_0_3) shapeCasts_S24x2560x16x128_S24x2560x2048)) bitsLt_bf16_f32

/-- `res_main_v47` by its position among the values @main returns, 0 counting from 0: the name for hand proofs to cite, since
    a re-print renumbers `main_v47`. An abbreviation: it unfolds to the `res_main_v47` that `run` states. -/
abbrev res_out0 (c : Dev nD) : Buf (Elt F) ((c.tc : Thread nD τ).loc main_v47) := res_main_v47 m c

set_option maxRecDepth 8192 in
set_option maxHeartbeats 2000000 in
/-- The later operations from any contents `V0`, read at result `main_v47`. -/
theorem tail_main_v47 (V0 : Valuation τ sig (Elt F)) :
    after (List.flatten [Gen.hostOps1, Gen.hostOps1_1, Gen.hostOps1_2]) V0 (Proc.devRef .tc main_v47) = truncf .bf16 (addf (shapeCast _ (transpose S24x2560x16x128 [0, 3, 1, 2] (Host.dotGeneral dot_S24x16x64x128_S24x16x2560x64_S24x16x128x2560_2_3_3_2_01_01 none (V0 (Proc.devRef .tc main_arg4)) (truncf .bf16 (Host.divf (Host.exp (subf (mulf (broadcastInDim S24x16x2560x64 ![0, 1, 2, 3] bcast_S24x16x1x1_S24x16x2560x64_0_1_2_3 (mulf (mulf (broadcastInDim S24x16x1x1 ![] bcast_S_S24x16x1x1 (constant S_ .f32 0x3DB504F3#32)) (broadcastInDim S24x16x1x1 ![0, 1] bcast_S24x16_S24x16x1x1_0_1 (V0 (Proc.devRef .tc main_arg1)))) (broadcastInDim S24x16x1x1 ![0, 1] bcast_S24x16_S24x16x1x1_0_1 (V0 (Proc.devRef .tc main_arg3))))) (Host.dotGeneral dot_S24x2560x16x128_S24x16x64x128_S24x16x2560x64_3_3_1_2_02_01 none (shapeCast _ (V0 (Proc.devRef .tc main_v2_0)) shapeCasts_S24x40960x128_S24x2560x16x128) (V0 (Proc.devRef .tc main_v2_1)))) (broadcastInDim S24x16x2560x64 ![0, 1, 2, 3] bcast_S24x16x2560x1_S24x16x2560x64_0_1_2_3 (broadcastInDim S24x16x2560x1 ![0, 1, 2] bcast_S24x16x2560_S24x16x2560x1_0_1_2 (maximumf (broadcastInDim S24x16x2560 ![] bcast_S_S24x16x2560 (constant S_ .f32 0xFF800000#32)) (Host.reduce FloatOps.maximumf (mulf (broadcastInDim S24x16x2560x64 ![0, 1, 2, 3] bcast_S24x16x1x1_S24x16x2560x64_0_1_2_3 (mulf (mulf (broadcastInDim S24x16x1x1 ![] bcast_S_S24x16x1x1 (constant S_ .f32 0x3DB504F3#32)) (broadcastInDim S24x16x1x1 ![0, 1] bcast_S24x16_S24x16x1x1_0_1 (V0 (Proc.devRef .tc main_arg1)))) (broadcastInDim S24x16x1x1 ![0, 1] bcast_S24x16_S24x16x1x1_0_1 (V0 (Proc.devRef .tc main_arg3))))) (Host.dotGeneral dot_S24x2560x16x128_S24x16x64x128_S24x16x2560x64_3_3_1_2_02_01 none (shapeCast _ (V0 (Proc.devRef .tc main_v2_0)) shapeCasts_S24x40960x128_S24x2560x16x128) (V0 (Proc.devRef .tc main_v2_1)))) (constant S_ .f32 0xFF800000#32) reducesTo_S24x16x2560x64_S24x16x2560_d3 h_S_)))))) (broadcastInDim S24x16x2560x64 ![0, 1, 2, 3] bcast_S24x16x2560x1_S24x16x2560x64_0_1_2_3 (broadcastInDim S24x16x2560x1 ![0, 1, 2] bcast_S24x16x2560_S24x16x2560x1_0_1_2 (Host.reduceAdd (Host.exp (subf (mulf (broadcastInDim S24x16x2560x64 ![0, 1, 2, 3] bcast_S24x16x1x1_S24x16x2560x64_0_1_2_3 (mulf (mulf (broadcastInDim S24x16x1x1 ![] bcast_S_S24x16x1x1 (constant S_ .f32 0x3DB504F3#32)) (broadcastInDim S24x16x1x1 ![0, 1] bcast_S24x16_S24x16x1x1_0_1 (V0 (Proc.devRef .tc main_arg1)))) (broadcastInDim S24x16x1x1 ![0, 1] bcast_S24x16_S24x16x1x1_0_1 (V0 (Proc.devRef .tc main_arg3))))) (Host.dotGeneral dot_S24x2560x16x128_S24x16x64x128_S24x16x2560x64_3_3_1_2_02_01 none (shapeCast _ (V0 (Proc.devRef .tc main_v2_0)) shapeCasts_S24x40960x128_S24x2560x16x128) (V0 (Proc.devRef .tc main_v2_1)))) (broadcastInDim S24x16x2560x64 ![0, 1, 2, 3] bcast_S24x16x2560x1_S24x16x2560x64_0_1_2_3 (broadcastInDim S24x16x2560x1 ![0, 1, 2] bcast_S24x16x2560_S24x16x2560x1_0_1_2 (maximumf (broadcastInDim S24x16x2560 ![] bcast_S_S24x16x2560 (constant S_ .f32 0xFF800000#32)) (Host.reduce FloatOps.maximumf (mulf (broadcastInDim S24x16x2560x64 ![0, 1, 2, 3] bcast_S24x16x1x1_S24x16x2560x64_0_1_2_3 (mulf (mulf (broadcastInDim S24x16x1x1 ![] bcast_S_S24x16x1x1 (constant S_ .f32 0x3DB504F3#32)) (broadcastInDim S24x16x1x1 ![0, 1] bcast_S24x16_S24x16x1x1_0_1 (V0 (Proc.devRef .tc main_arg1)))) (broadcastInDim S24x16x1x1 ![0, 1] bcast_S24x16_S24x16x1x1_0_1 (V0 (Proc.devRef .tc main_arg3))))) (Host.dotGeneral dot_S24x2560x16x128_S24x16x64x128_S24x16x2560x64_3_3_1_2_02_01 none (shapeCast _ (V0 (Proc.devRef .tc main_v2_0)) shapeCasts_S24x40960x128_S24x2560x16x128) (V0 (Proc.devRef .tc main_v2_1)))) (constant S_ .f32 0xFF800000#32) reducesTo_S24x16x2560x64_S24x16x2560_d3 h_S_)))))) (constant S_ .f32 0x00000000#32) reducesTo_S24x16x2560x64_S24x16x2560_d3 h_S_)))) bitsLt_bf16_f32)) transposes_S24x16x128x2560_S24x2560x16x128_0_3_1_2) shapeCasts_S24x2560x16x128_S24x2560x2048) (shapeCast _ (transpose S24x2560x16x128 [1, 2, 0, 3] (Host.dotGeneral dot_S16x33_S24x2560x33x16x128_S16x24x2560x128_1_2_n_014_0_3 (some .fp32) (V0 (Proc.devRef .tc main_arg6)) (Host.gather gather_S24x2592x16x128_S2560x33x1_S24x2560x33x16x128_034_1_n_n_1_2_24116128 (pad S24x2592x16x128 ![0, 16, 0, 0] ![0, 16, 0, 0] ![0, 0, 0, 0] (extf .f32 (V0 (Proc.devRef .tc main_arg5)) bitsLt_bf16_f32) (sitofp .f32 (constantI S_ 32 0#32)) pads_S24x2560x16x128_S24x2592x16x128_000_16160_000_000 h_S_) (broadcastInDim S2560x33x1 ![0, 1] bcast_S2560x33_S2560x33x1_0_1 (select (cmpi .slt (addi (broadcastInDim S2560x33 ![0, 1] bcast_S2560x1_S2560x33_0_1 (broadcastInDim S2560x1 ![0] bcast_S2560_S2560x1_0 (iotaInDim S2560 32 0))) (broadcastInDim S2560x33 ![0, 1] bcast_S1x33_S2560x33_0_1 (broadcastInDim S1x33 ![1] bcast_S33_S1x33_1 (iotaInDim S33 32 0)))) (broadcastInDim S2560x33 ![] bcast_S_S2560x33 (constantI S_ 32 0#32))) (addi (addi (broadcastInDim S2560x33 ![0, 1] bcast_S2560x1_S2560x33_0_1 (broadcastInDim S2560x1 ![0] bcast_S2560_S2560x1_0 (iotaInDim S2560 32 0))) (broadcastInDim S2560x33 ![0, 1] bcast_S1x33_S2560x33_0_1 (broadcastInDim S1x33 ![1] bcast_S33_S1x33_1 (iotaInDim S33 32 0)))) (broadcastInDim S2560x33 ![] bcast_S_S2560x33 (constantI S_ 32 2592#32))) (addi (broadcastInDim S2560x33 ![0, 1] bcast_S2560x1_S2560x33_0_1 (broadcastInDim S2560x1 ![0] bcast_S2560_S2560x1_0 (iotaInDim S2560 32 0))) (broadcastInDim S2560x33 ![0, 1] bcast_S1x33_S2560x33_0_1 (broadcastInDim S1x33 ![1] bcast_S33_S1x33_1 (iotaInDim S33 32 0)))))))) transposes_S16x24x2560x128_S24x2560x16x128_1_2_0_3) shapeCasts_S24x2560x16x128_S24x2560x2048)) bitsLt_bf16_f32 := by
  simp only [Gen.hostOps1, Gen.hostOps1_1, Gen.hostOps1_2, TRef.binary, TRef.unary, TRef.toBuf, TRef.ofBuf, cast_eq, List.flatten_cons, List.flatten_nil, List.append_nil, List.cons_append, List.nil_append]
  after_results_simp <;> rfl
/-- Result `main_v47` after the later operations from the region's exit contents. -/
theorem fin_main_v47 (c : Dev nD) :
    Pipeline.afterTail₀ cfgs (Gen.dats m) 0 (Gen.V0 m) [Gen.hostOps1, Gen.hostOps1_1, Gen.hostOps1_2] c main_v47 = res_main_v47 m c :=
  by unfold res_main_v47; exact (tail_main_v47 (exitV m c)).trans (by rw [exit_main_arg1, exit_main_arg3, exit_main_arg4, exit_main_arg5, exit_main_arg6, exit_main_v2_0, exit_main_v2_1]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v47) = res_main_v47 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v47 (Pipeline.mem_restRefs_of main_v47 (by decide) (by decide))).trans (fin_main_v47 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c)⟩) (Gen.run_main m ρ)

end Cert.ReferenceIdeal.Value

end
-- ==== Proof.Attend.RefStages.lean ====
/- The reference's result at an index: the stages of its later operations, each read at an index, and their meeting with the
   softmax's weights. -/
module

public import proofs.«01_k».proof.Proof.Attend.RefRun
public import proofs.«01_k».proof.Proof.Attend.Softmax
public import Idealize.ShloMosaic.Lib.Pointwise
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Attend (weight attend padded)

variable {F : FTy → Type} [FloatOps F]

/-- The product of the scales, head by head. -/
def scales (s1 : Vec F S24x16 .f32) (s3 : Vec F S24x16 .f32) : FVec F S24x16x1x1 .f32 :=
  mulf (mulf (broadcastInDim S24x16x1x1 ![] bcast_S_S24x16x1x1 (constant S_ .f32 0x3DB504F3#32)) (broadcastInDim S24x16x1x1 ![0, 1] bcast_S24x16_S24x16x1x1_0_1 s1)) (broadcastInDim S24x16x1x1 ![0, 1] bcast_S24x16_S24x16x1x1_0_1 s3)

/-- The rows against the landmarks. -/
def raws (q : Vec F S24x40960x128 .f32) (kl : Vec F S24x16x64x128 .f32) : FVec F S24x16x2560x64 .f32 :=
  Host.dotGeneral dot_S24x2560x16x128_S24x16x64x128_S24x16x2560x64_3_3_1_2_02_01 none (shapeCast _ q shapeCasts_S24x40960x128_S24x2560x16x128) kl

/-- The logits. -/
def logits (q : Vec F S24x40960x128 .f32) (kl : Vec F S24x16x64x128 .f32) (s1 : Vec F S24x16 .f32) (s3 : Vec F S24x16 .f32) : FVec F S24x16x2560x64 .f32 :=
  mulf (broadcastInDim S24x16x2560x64 ![0, 1, 2, 3] bcast_S24x16x1x1_S24x16x2560x64_0_1_2_3 (scales s1 s3)) (raws q kl)

/-- The largest logit of a row. -/
def tops (q : Vec F S24x40960x128 .f32) (kl : Vec F S24x16x64x128 .f32) (s1 : Vec F S24x16 .f32) (s3 : Vec F S24x16 .f32) : FVec F S24x16x2560 .f32 :=
  maximumf (broadcastInDim S24x16x2560 ![] bcast_S_S24x16x2560 (constant S_ .f32 0xFF800000#32)) (Host.reduce FloatOps.maximumf (logits q kl s1 s3) (constant S_ .f32 0xFF800000#32) reducesTo_S24x16x2560x64_S24x16x2560_d3 h_S_)

/-- The exponentials. -/
def expos (q : Vec F S24x40960x128 .f32) (kl : Vec F S24x16x64x128 .f32) (s1 : Vec F S24x16 .f32) (s3 : Vec F S24x16 .f32) : FVec F S24x16x2560x64 .f32 :=
  Host.exp (subf (logits q kl s1 s3) (broadcastInDim S24x16x2560x64 ![0, 1, 2, 3] bcast_S24x16x2560x1_S24x16x2560x64_0_1_2_3 (broadcastInDim S24x16x2560x1 ![0, 1, 2] bcast_S24x16x2560_S24x16x2560x1_0_1_2 (tops q kl s1 s3))))

/-- The weights. -/
def weights (q : Vec F S24x40960x128 .f32) (kl : Vec F S24x16x64x128 .f32) (s1 : Vec F S24x16 .f32) (s3 : Vec F S24x16 .f32) : FVec F S24x16x2560x64 .bf16 :=
  truncf .bf16 (Host.divf (expos q kl s1 s3) (broadcastInDim S24x16x2560x64 ![0, 1, 2, 3] bcast_S24x16x2560x1_S24x16x2560x64_0_1_2_3 (broadcastInDim S24x16x2560x1 ![0, 1, 2] bcast_S24x16x2560_S24x16x2560x1_0_1_2 (Host.reduceAdd (expos q kl s1 s3) (constant S_ .f32 0x00000000#32) reducesTo_S24x16x2560x64_S24x16x2560_d3 h_S_)))) bitsLt_bf16_f32

/-- Row plus tap. -/
def places  : IVec S2560x33 32 :=
  addi (broadcastInDim S2560x33 ![0, 1] bcast_S2560x1_S2560x33_0_1 (broadcastInDim S2560x1 ![0] bcast_S2560_S2560x1_0 (iotaInDim S2560 32 0))) (broadcastInDim S2560x33 ![0, 1] bcast_S1x33_S2560x33_0_1 (broadcastInDim S1x33 ![1] bcast_S33_S1x33_1 (iotaInDim S33 32 0)))

/-- The gather's index: row plus tap, a negative one counted from the end. -/
def index  : IVec S2560x33x1 32 :=
  broadcastInDim S2560x33x1 ![0, 1] bcast_S2560x33_S2560x33x1_0_1 (select (cmpi .slt places (broadcastInDim S2560x33 ![] bcast_S_S2560x33 (constantI S_ 32 0#32))) (addi places (broadcastInDim S2560x33 ![] bcast_S_S2560x33 (constantI S_ 32 2592#32))) places)

/-- The values with 16 rows of zeros before and after. -/
def around (v : Vec F S24x2560x16x128 .bf16) : FVec F S24x2592x16x128 .f32 :=
  pad S24x2592x16x128 ![0, 16, 0, 0] ![0, 16, 0, 0] ![0, 0, 0, 0] (extf .f32 v bitsLt_bf16_f32) (sitofp .f32 (constantI S_ 32 0#32)) pads_S24x2560x16x128_S24x2592x16x128_000_16160_000_000 h_S_

/-- The weighted sums over the landmarks. -/
def landmarks (q : Vec F S24x40960x128 .f32) (kl : Vec F S24x16x64x128 .f32) (s1 : Vec F S24x16 .f32) (s3 : Vec F S24x16 .f32) (z : Vec F S24x16x64x128 .bf16) : FVec F S24x2560x2048 .f32 :=
  shapeCast _ (transpose S24x2560x16x128 [0, 3, 1, 2] (Host.dotGeneral dot_S24x16x64x128_S24x16x2560x64_S24x16x128x2560_2_3_3_2_01_01 none z (weights q kl s1 s3)) transposes_S24x16x128x2560_S24x2560x16x128_0_3_1_2) shapeCasts_S24x2560x16x128_S24x2560x2048

/-- The taps against the values around a row. -/
def taps (v : Vec F S24x2560x16x128 .bf16) (w : Vec F S16x33 .f32) : FVec F S24x2560x2048 .f32 :=
  shapeCast _ (transpose S24x2560x16x128 [1, 2, 0, 3] (Host.dotGeneral dot_S16x33_S24x2560x33x16x128_S16x24x2560x128_1_2_n_014_0_3 (some .fp32) w (Host.gather gather_S24x2592x16x128_S2560x33x1_S24x2560x33x16x128_034_1_n_n_1_2_24116128 (around v) index)) transposes_S16x24x2560x128_S24x2560x16x128_1_2_0_3) shapeCasts_S24x2560x16x128_S24x2560x2048

/-- The result. -/
def result (q : Vec F S24x40960x128 .f32) (kl : Vec F S24x16x64x128 .f32) (s1 : Vec F S24x16 .f32) (s3 : Vec F S24x16 .f32) (z : Vec F S24x16x64x128 .bf16) (v : Vec F S24x2560x16x128 .bf16) (w : Vec F S16x33 .f32) : FVec F S24x2560x2048 .bf16 :=
  truncf .bf16 (addf (landmarks q kl s1 s3 z) (taps v w)) bitsLt_bf16_f32

variable (m : (ℓ : Loc nD τ sig) → Buf (Elt F) ℓ)

/-- The composed term is the last stage. -/
theorem res_eq (c : Dev nD) : res_main_v47 m c = result (reg_main_v2_0 m c) (reg_main_v2_1 m c) (m ((c : Thread nD τ).loc main_arg1))
    (m ((c : Thread nD τ).loc main_arg3)) (m ((c : Thread nD τ).loc main_arg4)) (m ((c : Thread nD τ).loc main_arg5)) (m ((c : Thread nD τ).loc main_arg6)) := by
  unfold res_main_v47 result taps landmarks weights expos tops logits raws scales around index places
  rfl

/-! ## The region: the two code arrays, decoded -/

theorem index_in0 : ∀ t : Fin cfg0.N, win0_0.index t = ![0, 0, 0] := (by decide +kernel : ∀ t : Fin grid0.N, _)
theorem index_in1 : ∀ t : Fin cfg0.N, win0_1.index t = ![0, 0, 0, 0] := (by decide +kernel : ∀ t : Fin grid0.N, _)
theorem index_out2 : ∀ t : Fin cfg0.N, win0_2.index t = ![0, 0, 0] := (by decide +kernel : ∀ t : Fin grid0.N, _)
theorem index_out3 : ∀ t : Fin cfg0.N, win0_3.index t = ![0, 0, 0, 0] := (by decide +kernel : ∀ t : Fin grid0.N, _)

/-- The query codes the region is given. -/
theorem V_codes (c : Dev nD) : Gen.V m c main_v0 = Host.convertf .fp8e4m3 (m ((c : Thread nD τ).loc main_arg0)) := by
  show after (List.flatten [hostOps0]) (fun b => m (c, b)) (Proc.devRef .tc main_v0) = _
  simp only [hostOps0, TRef.unary, TRef.toBuf, TRef.ofBuf, cast_eq, List.flatten_cons, List.flatten_nil, List.append_nil, List.cons_append, List.nil_append]
  after_results_simp

/-- The landmark codes the region is given. -/
theorem V_lms (c : Dev nD) : Gen.V m c main_v1 = Host.convertf .fp8e4m3 (m ((c : Thread nD τ).loc main_arg2)) := by
  show after (List.flatten [hostOps0]) (fun b => m (c, b)) (Proc.devRef .tc main_v1) = _
  simp only [hostOps0, TRef.unary, TRef.toBuf, TRef.ofBuf, cast_eq, List.flatten_cons, List.flatten_nil, List.append_nil, List.cons_append, List.nil_append]
  after_results_simp

end Cert.ReferenceIdeal.Value

end
-- ==== Proof.Attend.RefValue.lean ====
/- The reference's result at an index: the region's two decoded arrays, then stage by stage. -/
module

public import proofs.«01_k».proof.Proof.Attend.RefStages

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Attend (weight attend padded)

variable {F : FTy → Type} [FloatOps F]

/-- The decoded queries, over the extended reals: the argument. -/
theorem reg0_apply (m : (ℓ : Loc nD τ sig) → Buf (Elt Ideal) ℓ) (c : Dev nD) : reg_main_v2_0 m c = m ((c : Thread nD τ).loc main_arg0) := by
  unfold reg_main_v2_0
  refine (Gen.dats m 0 c).arrAt_eq_of_covers 2 _ (by decide +kernel) fun t hf y => ?_
  blk_simp
  rw [Gen.after0_2]
  frame_out
  pointwise [k0_pay1]
  blk_simp [Gen.iblk]
  rw [V_codes]
  show m ((c : Thread nD τ).loc main_arg0) ((win0_0.blk t).view.emb y) = _
  blk_ext [index_in0, index_out2]

/-- The decoded landmarks, over the extended reals: the argument. -/
theorem reg1_apply (m : (ℓ : Loc nD τ sig) → Buf (Elt Ideal) ℓ) (c : Dev nD) : reg_main_v2_1 m c = m ((c : Thread nD τ).loc main_arg2) := by
  unfold reg_main_v2_1
  refine (Gen.dats m 0 c).arrAt_eq_of_covers 3 _ (by decide +kernel) fun t hf y => ?_
  blk_simp
  rw [Gen.after0_3]
  frame_out
  pointwise [k0_pay2]
  blk_simp [Gen.iblk]
  rw [V_lms]
  show m ((c : Thread nD τ).loc main_arg2) ((win0_1.blk t).view.emb y) = _
  blk_ext [index_in1, index_out3]

section stages
variable (q : Vec Ideal S24x40960x128 .f32) (kl : Vec Ideal S24x16x64x128 .f32) (s1 s3 : Vec Ideal S24x16 .f32) (z : Vec Ideal S24x16x64x128 .bf16)
  (v : Vec Ideal S24x2560x16x128 .bf16) (w : Vec Ideal S16x33 .f32) (b : Fin 24) (s : Fin 2560) (k : Fin 16) (d : Fin 128) (l : Fin 64)

theorem raws_apply : raws q kl (ix4 b k s l) = ∑ e : Fin 128, kl (ix4 b k l e) * q (ix3 b (⟨s.val * 16 + k.val, by omega⟩ : Fin 40960) e) := by
  pointwise [raws]
  exact Finset.sum_congr rfl fun e _ => mul_comm _ _

theorem logits_apply : logits q kl s1 s3 (ix4 b k s l) = Ideal.ofBits .f32 0x3DB504F3#32 * s1 (ix2 b k) * s3 (ix2 b k) * raws q kl (ix4 b k s l) := by
  pointwise [logits, scales]

theorem max_apply (X : FVec Ideal S24x16x2560x64 .f32) :
    (Host.reduce FloatOps.maximumf X (constant S_ .f32 0xFF800000#32) reducesTo_S24x16x2560x64_S24x16x2560_d3 h_S_ : FVec Ideal S24x16x2560 .f32) (ix3 b k s)
      = Finset.fold max (Ideal.ofBits .f32 0xFF800000#32) (fun l => X (ix4 b k s l)) Finset.univ := by
  pointwise

/-- Two arrays' larger entries. -/
theorem max2_apply (A B : FVec Ideal S24x16x2560 .f32) (y : S24x16x2560.Idx) : maximumf A B y = max (A y) (B y) := by
  pointwise

theorem low_apply : (broadcastInDim S24x16x2560 ![] bcast_S_S24x16x2560 (constant S_ .f32 0xFF800000#32) : FVec Ideal S24x16x2560 .f32) (ix3 b k s) = Ideal.ofBits .f32 0xFF800000#32 := by
  pointwise

theorem tops_apply : tops q kl s1 s3 (ix3 b k s) = max (Ideal.ofBits .f32 0xFF800000#32) (Finset.fold max (Ideal.ofBits .f32 0xFF800000#32) (fun l => logits q kl s1 s3 (ix4 b k s l)) Finset.univ) := by
  unfold tops
  rw [max2_apply, max_apply, low_apply]

theorem expos_apply : expos q kl s1 s3 (ix4 b k s l) = Ideal.exp (logits q kl s1 s3 (ix4 b k s l) - tops q kl s1 s3 (ix3 b k s)) := by
  pointwise [expos]

theorem weights_apply : weights q kl s1 s3 (ix4 b k s l) = Ideal.div (expos q kl s1 s3 (ix4 b k s l)) (∑ j, expos q kl s1 s3 (ix4 b k s j)) := by
  pointwise [weights]

theorem landmarks_apply : landmarks q kl s1 s3 z (ix3 b s (⟨k.val * 128 + d.val, by omega⟩ : Fin 2048)) = ∑ l, weights q kl s1 s3 (ix4 b k s l) * z (ix4 b k l d) := by
  pointwise [landmarks]
  exact Finset.sum_congr rfl fun e _ => mul_comm _ _

theorem around_apply (p : Fin 2592) : around v (ix4 b p k d) = padded (fun s => v (ix4 b s k d)) p.val := by
  pointwise [around]
  unfold padded
  have h0 : (FloatOps.sitofp .f32 (0#32 : BitVec 32) : Ideal .f32) = 0 := by
    show ((((0#32 : BitVec 32).toInt : ℝ)) : EReal) = 0
    simp
  rw [h0]

/-- The gather of the rows, read at an index: the row at the index word, read signed and clamped. -/
theorem gather_rows {α : Type} (x : S24x2592x16x128.Idx → α) (idx : IVec S2560x33x1 32) (t : Fin 33) :
    Host.gather gather_S24x2592x16x128_S2560x33x1_S24x2560x33x16x128_034_1_n_n_1_2_24116128 x idx (ix5 b s t k d)
      = x (ix4 b ⟨min (idx (ix3 s t 0)).toInt.toNat 2591, by omega⟩ k d) := by
  unfold Host.gather
  congr 1
  funext a
  refine Fin.ext ?_
  show (gather_S24x2592x16x128_S2560x33x1_S24x2560x33x16x128_034_1_n_n_1_2_24116128).start (ix5 b s t k d) idx a + (gather_S24x2592x16x128_S2560x33x1_S24x2560x33x16x128_034_1_n_n_1_2_24116128).batchCoord (ix5 b s t k d) a
     + (gather_S24x2592x16x128_S2560x33x1_S24x2560x33x16x128_034_1_n_n_1_2_24116128).offCoord (ix5 b s t k d) a = _
  rw [GatherDims.batchCoord_eq_zero _ _ _ List.not_mem_nil]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · unfold GatherDims.start GatherDims.offCoord
    rw [dif_neg (by decide), dif_pos (by decide)]
    show 0 + 0 + _ = _
    simp only [Nat.zero_add]
    rfl
  · rw [GatherDims.offCoord_eq_zero _ _ _ (by decide)]
    unfold GatherDims.start
    rw [dif_pos (by decide)]
    show min (idx _).toInt.toNat 2591 = min _ 2591
    congr 4
    funext b
    refine Fin.ext ?_
    match b with
    | ⟨0, _⟩ => rfl
    | ⟨1, _⟩ => rfl
    | ⟨2, _⟩ => rfl
  · unfold GatherDims.start GatherDims.offCoord
    rw [dif_neg (by decide), dif_pos (by decide)]
    show 0 + 0 + _ = _
    simp only [Nat.zero_add]
    rfl
  · unfold GatherDims.start GatherDims.offCoord
    rw [dif_neg (by decide), dif_pos (by decide)]
    show 0 + 0 + _ = _
    simp only [Nat.zero_add]
    rfl

theorem places_apply (t : Fin 33) : places (ix2 s t) = BitVec.ofNat 32 (s.val + t.val) := by
  pointwise [places]
  show BitVec.ofNat 32 s.val + BitVec.ofNat 32 t.val = _
  rw [← BitVec.ofNat_add]

theorem index_word : ∀ e : Fin 2592, (Scalar.select (IntOp.cmpi CmpIPredicate.slt (BitVec.ofNat 32 e.val) 0#32)
    (IntOp.addi (BitVec.ofNat 32 e.val) 2592#32) (BitVec.ofNat 32 e.val)).toInt.toNat = e.val := by decide +kernel

theorem index_apply (t : Fin 33) : (index (ix3 s t 0)).toInt.toNat = s.val + t.val := by
  pointwise [index]
  rw [places_apply]
  exact index_word ⟨s.val + t.val, by omega⟩

theorem taps_apply : taps v w (ix3 b s (⟨k.val * 128 + d.val, by omega⟩ : Fin 2048)) = ∑ t : Fin 33, w (ix2 k t) * padded (fun s => v (ix4 b s k d)) (s.val + t.val) := by
  pointwise [taps]
  refine Finset.sum_congr rfl fun t _ => ?_
  rw [gather_rows, around_apply]
  refine congrArg (fun n => w (ix2 k t) * padded (fun s => v (ix4 b s k d)) n) ?_
  show min (index (ix3 s t 0)).toInt.toNat 2591 = s.val + t.val
  rw [index_apply]
  omega

/-- With real logits the result is the softmax's weights and the taps. -/
theorem result_apply (x : ℝ) (a : Fin 64 → ℝ)
    (hx : Ideal.ofBits .f32 0x3DB504F3#32 * s1 (ix2 b k) * s3 (ix2 b k) = (x : EReal))
    (ha : ∀ l, ∑ e : Fin 128, kl (ix4 b k l e) * q (ix3 b (⟨s.val * 16 + k.val, by omega⟩ : Fin 40960) e) = (a l : EReal)) :
    result q kl s1 s3 z v w (ix3 b s (⟨k.val * 128 + d.val, by omega⟩ : Fin 2048))
      = attend x a (fun l => z (ix4 b k l d)) (fun t => w (ix2 k t)) (fun t => padded (fun s => v (ix4 b s k d)) (s.val + t.val)) := by
  have hl : ∀ l, logits q kl s1 s3 (ix4 b k s l) = (x : EReal) * (a l : EReal) := fun l => by rw [logits_apply, raws_apply, hx, ha]
  have hw : ∀ l, weights q kl s1 s3 (ix4 b k s l) = ((weight x a l : ℝ) : EReal) := fun l => by
    rw [weights_apply]
    simp only [expos_apply, tops_apply, hl, Cert.Attend.ofBits_negInf]
    exact Cert.Attend.weight_exp (by decide) x a l
  have e : result q kl s1 s3 z v w (ix3 b s (⟨k.val * 128 + d.val, by omega⟩ : Fin 2048))
      = landmarks q kl s1 s3 z (ix3 b s (⟨k.val * 128 + d.val, by omega⟩ : Fin 2048)) + taps v w (ix3 b s (⟨k.val * 128 + d.val, by omega⟩ : Fin 2048)) := by
    pointwise [result]
  rw [e, landmarks_apply, taps_apply]
  unfold attend
  refine congrArg₂ (· + ·) (Finset.sum_congr rfl fun l _ => ?_) rfl
  rw [hw]

end stages

end Cert.ReferenceIdeal.Value

end
-- ==== Proof.Attend.Equal.lean ====
/- The kernel's result and the reference's are one array: both are `Cert.Attend.attend` at every index. -/
module

public import proofs.«01_k».proof.Defs
public import proofs.«01_k».proof.Proof.Attend.Finite
public import proofs.«01_k».proof.Proof.Attend.KernelValue
public import proofs.«01_k».proof.Proof.Attend.RefValue

@[expose] public section

set_option maxRecDepth 16384

noncomputable section

namespace Cert.Attend

open Idealize.ShloMosaic Idealize.ShloMosaic.TcCoe

/-- The factor `1/√128` of the logits, as the number its word denotes. -/
theorem factor_real : ∃ r : ℝ, Ideal.ofBits .f32 0x3DB504F3#32 = (r : EReal) := by
  refine ⟨EReal.toReal (Ideal.ofBits .f32 0x3DB504F3#32), ?_⟩
  simp [Ideal.ofBits, Ideal.ieee, -EReal.coe_mul]

/-- A sum of products of reals is a real. -/
theorem sum_real {n : ℕ} (f g : Fin n → EReal) (hf : ∀ i, ∃ r : ℝ, f i = (r : EReal)) (hg : ∀ i, ∃ r : ℝ, g i = (r : EReal)) :
    ∃ r : ℝ, ∑ i, f i * g i = (r : EReal) := by
  choose p hp using hf
  choose q hq using hg
  refine ⟨∑ i, p i * q i, ?_⟩
  rw [← coe_sum]
  exact Finset.sum_congr rfl fun i _ => by rw [hp, hq, EReal.coe_mul]

/-- Where the codes, scales and taps are real numbers, the two results are equal. -/
theorem result_eq (hPre : Cert.Pre_finite.Facts)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.ReferenceIdeal.Value.res_main_v47 m' c : Vec Ideal Cert.ReferenceIdeal.S24x2560x2048 .bf16)
      = (Cert.KernelIdeal.Attend.dats m 0 c).arrAt 8 Cert.KernelIdeal.cfg0.N := by
  obtain ⟨r0, r1, r2, r3, r6⟩ := Cert.Pre_finite.reals _ _ _ _ _ _ _ (hm c)
  funext y
  obtain ⟨b, s, j, rfl⟩ : ∃ (b : Fin 24) (s : Fin 2560) (j : Fin 2048), y = ix3 b s j := ⟨y 0, y 1, y 2, eq_ix3 y⟩
  obtain ⟨k, d, rfl⟩ : ∃ (k : Fin 16) (d : Fin 128), j = ⟨k.val * 128 + d.val, by omega⟩ :=
    ⟨⟨j.val / 128, by omega⟩, ⟨j.val % 128, by omega⟩, Fin.ext (by show j.val = j.val / 128 * 128 + j.val % 128; omega)⟩
  obtain ⟨β, hβ⟩ := factor_real
  obtain ⟨σ, hσ⟩ := r1 (ix2 b k)
  obtain ⟨τ, hτ⟩ := r3 (ix2 b k)
  have hx : Ideal.ofBits .f32 0x3DB504F3#32 * m ((c : Thread Cert.KernelIdeal.nD Cert.KernelIdeal.τ).loc Cert.KernelIdeal.main_arg1) (ix2 b k)
      * m ((c : Thread Cert.KernelIdeal.nD Cert.KernelIdeal.τ).loc Cert.KernelIdeal.main_arg3) (ix2 b k) = ((β * σ * τ : ℝ) : EReal) := by
    rw [EReal.coe_mul, EReal.coe_mul, ← hβ, ← hσ, ← hτ]
  obtain ⟨A0, hA0⟩ : ∃ A : Vec Ideal Cert.KernelIdeal.S24x40960x128 .f32, m ((c : Thread Cert.KernelIdeal.nD Cert.KernelIdeal.τ).loc Cert.KernelIdeal.main_arg0) = A := ⟨_, rfl⟩
  obtain ⟨A2, hA2⟩ : ∃ A : Vec Ideal Cert.KernelIdeal.S24x16x64x128 .f32, m ((c : Thread Cert.KernelIdeal.nD Cert.KernelIdeal.τ).loc Cert.KernelIdeal.main_arg2) = A := ⟨_, rfl⟩
  have r0' : ∀ i, ∃ r : ℝ, A0 i = (r : EReal) := hA0 ▸ r0
  have r2' : ∀ i, ∃ r : ℝ, A2 i = (r : EReal) := hA2 ▸ r2
  have ha : ∀ l : Fin 64, ∃ r : ℝ, ∑ e : Fin 128, A2 (ix4 b k l e) * A0 (ix3 b (⟨s.val * 16 + k.val, by omega⟩ : Fin 40960) e) = (r : EReal) :=
    fun l => sum_real _ _ (fun e => r2' _) (fun e => r0' _)
  choose a ha using ha
  choose w hw using r6
  refine Eq.trans ?_ (Cert.KernelIdeal.Attend.kernel_apply m c b s k d A0 A2 hA0 hA2 (β * σ * τ) a (fun k t => w (ix2 k t)) hx ha (fun k t => hw (ix2 k t))).symm
  rw [Cert.ReferenceIdeal.Value.res_eq, Cert.ReferenceIdeal.Value.reg0_apply, Cert.ReferenceIdeal.Value.reg1_apply]
  refine (Cert.ReferenceIdeal.Value.result_apply _ _ _ _ _ _ _ b s k d (β * σ * τ) a ?_ ?_).trans ?_
  · refine Eq.trans ?_ hx
    exact congrArg₂ (fun (p q : Vec Ideal Cert.KernelIdeal.S24x16 .f32) => Ideal.ofBits .f32 0x3DB504F3#32 * p (ix2 b k) * q (ix2 b k)) h1 h3
  · intro l
    refine Eq.trans ?_ (ha l)
    exact congrArg₂ (fun (p : Vec Ideal Cert.KernelIdeal.S24x16x64x128 .f32) (q : Vec Ideal Cert.KernelIdeal.S24x40960x128 .f32) =>
      ∑ e : Fin 128, p (ix4 b k l e) * q (ix3 b (⟨s.val * 16 + k.val, by omega⟩ : Fin 40960) e)) (h2.trans hA2) (h0.trans hA0)
  · have e4 : ∀ l : Fin 64, (m' ((c.tc : Thread Cert.ReferenceIdeal.nD Cert.ReferenceIdeal.τ).loc Cert.ReferenceIdeal.main_arg4) : Vec Ideal Cert.KernelIdeal.S24x16x64x128 .bf16) (ix4 b k l d) = _ :=
      fun l => congrFun h4 (ix4 b k l d)
    have e5 : ∀ s : Fin 2560, (m' ((c.tc : Thread Cert.ReferenceIdeal.nD Cert.ReferenceIdeal.τ).loc Cert.ReferenceIdeal.main_arg5) : Vec Ideal Cert.KernelIdeal.S24x2560x16x128 .bf16) (ix4 b s k d) = _ :=
      fun s => congrFun h5 (ix4 b s k d)
    have e6 : ∀ t : Fin 33, (m' ((c.tc : Thread Cert.ReferenceIdeal.nD Cert.ReferenceIdeal.τ).loc Cert.ReferenceIdeal.main_arg6) : Vec Ideal Cert.KernelIdeal.S16x33 .f32) (ix2 k t) = _ :=
      fun t => congrFun h6 (ix2 k t)
    have f4 := funext e4
    have f5 := funext e5
    have f6 := funext e6
    exact congr (congr (congrArg (attend (β * σ * τ) a) f4) f6)
      (funext fun t => congrArg (fun v => padded v (s.val + t.val)) f5)

end Cert.Attend

end
-- ==== Proof.Pinv.BitsTrip.lean ====
/- One trip of the iteration as a function of the four carried iterates. -/
module

public import proofs.«01_k».proof.Proof.Gen.Pinv.Loops

@[expose] public section

set_option maxRecDepth 65536

noncomputable section

namespace Cert.Pinv.Invert

open Cert.Pinv Cert.Pinv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The leading bf16 part. -/
def hi (x : FVec F S64x256 .f32) : FVec F S64x256 .bf16 := truncf .bf16 x bitsLt_bf16_f32
/-- What the leading part leaves. -/
def rest (x : FVec F S64x256 .f32) : FVec F S64x256 .f32 := subf x (extf .f32 (hi x) bitsLt_bf16_f32)
/-- Four 64 by 64 blocks side by side as the diagonal blocks of a 256 by 256 array. -/
def rows (m0 m1 m2 m3 : IVec S64x256 1) (p : FVec F S64x256 .bf16) : FVec F S256x256 .bf16 :=
  concatenate S256x256 0 [⟨S64x256, select m0 p (broadcast S64x256 (Scalar.ofBits .bf16 0x0000#16))⟩, ⟨S64x256, select m1 p (broadcast S64x256 (Scalar.ofBits .bf16 0x0000#16))⟩,
    ⟨S64x256, select m2 p (broadcast S64x256 (Scalar.ofBits .bf16 0x0000#16))⟩, ⟨S64x256, select m3 p (broadcast S64x256 (Scalar.ofBits .bf16 0x0000#16))⟩] concatenates_S64x256_S64x256_S64x256_S64x256_S256x256_d0
/-- One product into f32. -/
def dot (x : FVec F S64x256 .bf16) (y : FVec F S256x256 .bf16) : FVec F S64x256 .f32 :=
  matmul dot_S64x256_S256x256_S64x256_1_0_0_1_n_n none x y (constant S64x256 .f32 0x00000000#32)
/-- The six products of two values in three parts. -/
def six (x0 x1 x2 : FVec F S64x256 .bf16) (y0 y1 y2 : FVec F S256x256 .bf16) : FVec F S64x256 .f32 :=
  addf (addf (addf (addf (dot x0 y2) (dot x1 y1)) (dot x2 y0)) (addf (dot x0 y1) (dot x1 y0))) (dot x0 y0)
/-- The product of a left factor in three parts with `y`, head by head. -/
def mm (m0 m1 m2 m3 : IVec S64x256 1) (x0 x1 x2 : FVec F S64x256 .bf16) (y : FVec F S64x256 .f32) : FVec F S64x256 .f32 :=
  six x0 x1 x2 (rows m0 m1 m2 m3 (hi y)) (rows m0 m1 m2 m3 (hi (rest y))) (rows m0 m1 m2 m3 (hi (rest (rest y))))
/-- The product of `x` with `w · eye - y`. -/
def shifted (m0 m1 m2 m3 : IVec S64x256 1) (eye : FVec F S64x256 .f32) (w : BitVec 32) (x y : FVec F S64x256 .f32) : FVec F S64x256 .f32 :=
  mm m0 m1 m2 m3 (hi x) (hi (rest x)) (hi (rest (rest x))) (subf (mulf (broadcast S64x256 (Scalar.ofBits .f32 w)) eye) y)
/-- One step of the iteration for four heads side by side. -/
def newton (m0 m1 m2 m3 : IVec S64x256 1) (eye : FVec F S64x256 .f32) (a0 a1 a2 : FVec F S64x256 .bf16) (z : FVec F S64x256 .f32) : FVec F S64x256 .f32 :=
  shifted m0 m1 m2 m3 eye 0x41500000#32 (mulf (broadcast S64x256 (Scalar.ofBits .f32 0x3E800000#32)) z)
    (shifted m0 m1 m2 m3 eye 0x41700000#32 (mm m0 m1 m2 m3 a0 a1 a2 z)
      (shifted m0 m1 m2 m3 eye 0x40E00000#32 (mm m0 m1 m2 m3 a0 a1 a2 z) (mm m0 m1 m2 m3 a0 a1 a2 z)))

/-- One trip for the sixteen heads of the block. -/
def step (m0 m1 m2 m3 : IVec S64x256 1) (eye : FVec F S64x256 .f32) (a0 a1 a2 b0 b1 b2 c0 c1 c2 d0 d1 d2 : FVec F S64x256 .bf16)
    (z : FVec F S64x256 .f32 × FVec F S64x256 .f32 × FVec F S64x256 .f32 × FVec F S64x256 .f32) :
    FVec F S64x256 .f32 × FVec F S64x256 .f32 × FVec F S64x256 .f32 × FVec F S64x256 .f32 :=
  (newton m0 m1 m2 m3 eye a0 a1 a2 z.1, newton m0 m1 m2 m3 eye b0 b1 b2 z.2.1, newton m0 m1 m2 m3 eye c0 c1 c2 z.2.2.1, newton m0 m1 m2 m3 eye d0 d1 d2 z.2.2.2)

set_option maxHeartbeats 4000000 in
/-- The loop's region is that function of the carried values. -/
theorem trip_eq (i : grid0.Coords) (arg1 : Memref sig .tc .vmem S4x64x256 .f32) (harg1 : arg1.IsWhole) (arg2 : Memref sig .tc .vmem S4x4x64x128 .f32) (harg2 : arg2.IsWhole) (arg3 : Memref sig .tc .vmem S4x4x64x64 .f32) (harg3 : arg3.IsWhole) (arg4 : Memref sig .tc .vmem S4x4x64x128 .bf16) (harg4 : arg4.IsWhole) (v26 : IVec S64x256 1) (v28 : IVec S64x256 1) (v30 : IVec S64x256 1) (v32 : IVec S64x256 1) (v54 : FVec F S64x256 .f32) (v78 : IVec S64x256 32) (v158 : FVec F S64x256 .f32) (v159 : FVec F S64x256 .bf16) (v162 : FVec F S64x256 .bf16) (v165 : FVec F S64x256 .bf16) (v245 : FVec F S64x256 .f32) (v246 : FVec F S64x256 .bf16) (v249 : FVec F S64x256 .bf16) (v252 : FVec F S64x256 .bf16) (v332 : FVec F S64x256 .f32) (v333 : FVec F S64x256 .bf16) (v336 : FVec F S64x256 .bf16) (v339 : FVec F S64x256 .bf16) (v341 : FVec F S64x256 .f32) (v347 : FVec F S64x256 .f32) (v349 : FVec F S1x256 .f32) (v401 : FVec F S64x256 .f32) (c3_i32_126 : BitVec 32)
    (k : Fin k0_t1_loop.trips) (acc : FVec F S64x256 .f32 × FVec F S64x256 .f32 × FVec F S64x256 .f32 × FVec F S64x256 .f32) :
    k0_t1_body (F := F) i arg1 harg1 arg2 harg2 arg3 harg3 arg4 harg4 v26 v28 v30 v32 v54 v78 v158 v159 v162 v165 v245 v246 v249 v252 v332 v333 v336 v339 v341 v347 v349 v401 c3_i32_126 k acc
      = pure (step v26 v28 v30 v32 v54 v159 v162 v165 v246 v249 v252 v333 v336 v339 (hi v341) (hi (rest v341)) (hi (rest (rest v341))) acc) := rfl

end Cert.Pinv.Invert

end
-- ==== Proof.Pinv.BitsStart.lean ====
/- The starting iterate, the landmark products, and the two output blocks, as functions of the input blocks. -/
module

public import proofs.«01_k».proof.Proof.Pinv.BitsTrip
public import Idealize.ShloMosaic.Lib.Pipeline.FrameBody
public import Idealize.ShloMosaic.Lib.Pipeline.ReadBack

@[expose] public section

set_option maxRecDepth 65536

noncomputable section

namespace Cert.Pinv.Invert

open Cert.Pinv Cert.Pinv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Lane `64 n + j` belongs to head `n`. -/
def mask (v : BitVec 32) : IVec S64x256 1 := cmpi .eq k0_pay176 (broadcast S64x256 v)
/-- The same, as the scale computes it. -/
def on (v : BitVec 32) : IVec S64x256 1 := cmpi .eq (k0_pay185 (iota .tc S64x256 32 [1] iota_S64x256_d1_w32)) (broadcast S64x256 v)
/-- The four identity blocks side by side. -/
def eyes : FVec F S64x256 .f32 :=
  k0_pay184 (iota .tc S64x256 32 [0] iota_S64x256_d0_w32) (Scalar.select (Scalar.cmpi .eq 64#32 0#32) 1#32 64#32) k0_pay181 k0_pay182 k0_pay183
/-- The four heads of the block, each transposed. -/
def turned (a : FVec F S64x256 .f32) : FVec F S64x256 .f32 :=
  concatenate S64x256 1 [⟨S64x64, extractStridedSlice S64x64 ![0, 0] (transpose S256x64 [1, 0] a transposes_S64x256_p1_0_S256x64) slices_S256x64_o0_0_S64x64⟩,
    ⟨S64x64, extractStridedSlice S64x64 ![64, 0] (transpose S256x64 [1, 0] a transposes_S64x256_p1_0_S256x64) slices_S256x64_o64_0_S64x64⟩,
    ⟨S64x64, extractStridedSlice S64x64 ![128, 0] (transpose S256x64 [1, 0] a transposes_S64x256_p1_0_S256x64) slices_S256x64_o128_0_S64x64⟩,
    ⟨S64x64, extractStridedSlice S64x64 ![192, 0] (transpose S256x64 [1, 0] a transposes_S64x256_p1_0_S256x64) slices_S256x64_o192_0_S64x64⟩] concatenates_S64x64_S64x64_S64x64_S64x64_S64x256_d1
/-- The column sums. -/
def colsum (a : FVec F S64x256 .f32) : FVec F S1x256 .f32 :=
  shapeCast S1x256 (multiReduction .add [0] S256 a 0x00000000#32 reduces_S64x256_S256 (.inl rfl) rfl) shapeCasts_S256_S1x256
/-- The largest row sum of a head. -/
def rowmax (v : BitVec 32) (a : FVec F S64x256 .f32) : FVec F S1x1 .f32 :=
  shapeCast S1x1 (multiReduction .maximumf [0] S1 (shapeCast S64x1 (multiReduction .add [1] S64 (select (on v) a (broadcast S64x256 (Scalar.ofBits .f32 0x00000000#32))) 0x00000000#32 reduces_S64x256_S64 (.inl rfl) rfl) shapeCasts_S64_S64x1) 0xFF800000#32 reduces_S64x1_S1 (.inl rfl) rfl) shapeCasts_S1_S1x1
/-- The largest column sum of a head, or 0 if that is larger. -/
def colmax (v : BitVec 32) (a : FVec F S64x256 .f32) : FVec F S1x1 .f32 :=
  shapeCast S1x1 (multiReduction .maximumf [1] S1 (select (extractStridedSlice S1x256 ![0, 0] (on v) slices_S64x256_o0_0_S1x256) (colsum a) (broadcast S1x256 (Scalar.ofBits .f32 0x00000000#32))) 0xFF800000#32 reduces_S1x256_S1 (.inl rfl) rfl) shapeCasts_S1_S1x1
/-- The scale of one head written over the others' lanes. -/
def scaled (v : BitVec 32) (a prev : FVec F S64x256 .f32) : FVec F S64x256 .f32 :=
  select (on v) (broadcastTo S64x256 (shapeCast S1x1 (mulf (colmax v a) (rowmax v a)) shapeCasts_S1x1_S1x1) broadcasts_S1x1_S64x256) prev
/-- The scale of the four heads. -/
def scale (a : FVec F S64x256 .f32) : FVec F S64x256 .f32 :=
  scaled 3#32 a (scaled 2#32 a (scaled 1#32 a (scaled 0#32 a (broadcast S64x256 (Scalar.ofBits .f32 0x00000000#32)))))
/-- The starting iterate. -/
def start (a : FVec F S64x256 .f32) : FVec F S64x256 .f32 := divf (turned a) (scale a)

/-- Four heads of the block. -/
def quad0 (x : Vec F S4x64x256 .f32) : FVec F S64x256 .f32 := shapeCast S64x256 (View.ld x (Rect.unit (s := S4x64x256) ![0, 0, 0] S1x64x256.size inb_S4x64x256_S1x64x256_0_0_0)) shapeCasts_S1x64x256_S64x256
def quad1 (x : Vec F S4x64x256 .f32) : FVec F S64x256 .f32 := shapeCast S64x256 (View.ld x (Rect.unit (s := S4x64x256) ![1, 0, 0] S1x64x256.size inb_S4x64x256_S1x64x256_1_0_0)) shapeCasts_S1x64x256_S64x256
def quad2 (x : Vec F S4x64x256 .f32) : FVec F S64x256 .f32 := shapeCast S64x256 (View.ld x (Rect.unit (s := S4x64x256) ![2, 0, 0] S1x64x256.size inb_S4x64x256_S1x64x256_2_0_0)) shapeCasts_S1x64x256_S64x256
def quad3 (x : Vec F S4x64x256 .f32) : FVec F S64x256 .f32 := shapeCast S64x256 (View.ld x (Rect.unit (s := S4x64x256) ![3, 0, 0] S1x64x256.size inb_S4x64x256_S1x64x256_3_0_0)) shapeCasts_S1x64x256_S64x256

/-- One trip, from the four blocks themselves. -/
def tripOf (a b c d : FVec F S64x256 .f32) :=
  step (F := F) (mask 0#32) (mask 1#32) (mask 2#32) (mask 3#32) eyes (hi a) (hi (rest a)) (hi (rest (rest a))) (hi b) (hi (rest b)) (hi (rest (rest b)))
    (hi c) (hi (rest c)) (hi (rest (rest c))) (hi d) (hi (rest d)) (hi (rest (rest d)))
/-- The iterates after the loop, from the four blocks. -/
def iterOf (a b c d : FVec F S64x256 .f32) : FVec F S64x256 .f32 × FVec F S64x256 .f32 × FVec F S64x256 .f32 × FVec F S64x256 .f32 :=
  (tripOf a b c d)^[k0_t1_loop.trips] (start a, start b, start c, start d)
/-- The same from the input block. -/
def iterates (x : Vec F S4x64x256 .f32) : FVec F S64x256 .f32 × FVec F S64x256 .f32 × FVec F S64x256 .f32 × FVec F S64x256 .f32 :=
  iterOf (quad0 x) (quad1 x) (quad2 x) (quad3 x)

/-- The leading bf16 part, and what it leaves, of the landmark values. -/
def hiB (x : FVec F S256x128 .f32) : FVec F S256x128 .bf16 := truncf .bf16 x bitsLt_bf16_f32
def restB (x : FVec F S256x128 .f32) : FVec F S256x128 .f32 := subf x (extf .f32 (hiB x) bitsLt_bf16_f32)
def dotB (x : FVec F S256x256 .bf16) (y : FVec F S256x128 .bf16) : FVec F S256x128 .f32 :=
  matmul dot_S256x256_S256x128_S256x128_1_0_0_1_n_n none x y (constant S256x128 .f32 0x00000000#32)
def sixB (x0 x1 x2 : FVec F S256x256 .bf16) (y0 y1 y2 : FVec F S256x128 .bf16) : FVec F S256x128 .f32 :=
  addf (addf (addf (addf (dotB x0 y2) (dotB x1 y1)) (dotB x2 y0)) (addf (dotB x0 y1) (dotB x1 y0))) (dotB x0 y0)
/-- The inverses of four heads times their landmark values. -/
def prodB (z : FVec F S64x256 .f32) (v : FVec F S256x128 .f32) : FVec F S256x128 .f32 :=
  sixB (rows (mask 0#32) (mask 1#32) (mask 2#32) (mask 3#32) (hi z)) (rows (mask 0#32) (mask 1#32) (mask 2#32) (mask 3#32) (hi (rest z))) (rows (mask 0#32) (mask 1#32) (mask 2#32) (mask 3#32) (hi (rest (rest z))))
    (hiB v) (hiB (restB v)) (hiB (restB (restB v)))
def outB (z : FVec F S64x256 .f32) (v : Vec F S1x4x64x128 .f32) : FVec F S1x4x64x128 .bf16 :=
  shapeCast S1x4x64x128 (truncf .bf16 (shapeCast S4x64x128 (prodB z (shapeCast S256x128 (shapeCast S4x64x128 v shapeCasts_S1x4x64x128_S4x64x128) shapeCasts_S4x64x128_S256x128)) shapeCasts_S256x128_S4x64x128) bitsLt_bf16_f32) shapeCasts_S4x64x128_S1x4x64x128

/-- The stores of the block of inverses, the last first. -/
def zPieces (z0 z1 z2 z3 : FVec F S64x256 .f32) : List (View.Piece (Elt F) S4x4x64x64 .f32) :=
  [⟨Rect.unit (s := S4x4x64x64) ![3, 3, 0, 0] S1x1x64x64.size inb_S4x4x64x64_S1x1x64x64_3_3_0_0, shapeCast S1x1x64x64 (extractStridedSlice S64x64 ![0, 192] z3 slices_S64x256_o0_192_S64x64) shapeCasts_S64x64_S1x1x64x64⟩,
    ⟨Rect.unit (s := S4x4x64x64) ![3, 2, 0, 0] S1x1x64x64.size inb_S4x4x64x64_S1x1x64x64_3_2_0_0, shapeCast S1x1x64x64 (extractStridedSlice S64x64 ![0, 128] z3 slices_S64x256_o0_128_S64x64) shapeCasts_S64x64_S1x1x64x64⟩,
    ⟨Rect.unit (s := S4x4x64x64) ![3, 1, 0, 0] S1x1x64x64.size inb_S4x4x64x64_S1x1x64x64_3_1_0_0, shapeCast S1x1x64x64 (extractStridedSlice S64x64 ![0, 64] z3 slices_S64x256_o0_64_S64x64) shapeCasts_S64x64_S1x1x64x64⟩,
    ⟨Rect.unit (s := S4x4x64x64) ![3, 0, 0, 0] S1x1x64x64.size inb_S4x4x64x64_S1x1x64x64_3_0_0_0, shapeCast S1x1x64x64 (extractStridedSlice S64x64 ![0, 0] z3 slices_S64x256_o0_0_S64x64) shapeCasts_S64x64_S1x1x64x64⟩,
    ⟨Rect.unit (s := S4x4x64x64) ![2, 3, 0, 0] S1x1x64x64.size inb_S4x4x64x64_S1x1x64x64_2_3_0_0, shapeCast S1x1x64x64 (extractStridedSlice S64x64 ![0, 192] z2 slices_S64x256_o0_192_S64x64) shapeCasts_S64x64_S1x1x64x64⟩,
    ⟨Rect.unit (s := S4x4x64x64) ![2, 2, 0, 0] S1x1x64x64.size inb_S4x4x64x64_S1x1x64x64_2_2_0_0, shapeCast S1x1x64x64 (extractStridedSlice S64x64 ![0, 128] z2 slices_S64x256_o0_128_S64x64) shapeCasts_S64x64_S1x1x64x64⟩,
    ⟨Rect.unit (s := S4x4x64x64) ![2, 1, 0, 0] S1x1x64x64.size inb_S4x4x64x64_S1x1x64x64_2_1_0_0, shapeCast S1x1x64x64 (extractStridedSlice S64x64 ![0, 64] z2 slices_S64x256_o0_64_S64x64) shapeCasts_S64x64_S1x1x64x64⟩,
    ⟨Rect.unit (s := S4x4x64x64) ![2, 0, 0, 0] S1x1x64x64.size inb_S4x4x64x64_S1x1x64x64_2_0_0_0, shapeCast S1x1x64x64 (extractStridedSlice S64x64 ![0, 0] z2 slices_S64x256_o0_0_S64x64) shapeCasts_S64x64_S1x1x64x64⟩,
    ⟨Rect.unit (s := S4x4x64x64) ![1, 3, 0, 0] S1x1x64x64.size inb_S4x4x64x64_S1x1x64x64_1_3_0_0, shapeCast S1x1x64x64 (extractStridedSlice S64x64 ![0, 192] z1 slices_S64x256_o0_192_S64x64) shapeCasts_S64x64_S1x1x64x64⟩,
    ⟨Rect.unit (s := S4x4x64x64) ![1, 2, 0, 0] S1x1x64x64.size inb_S4x4x64x64_S1x1x64x64_1_2_0_0, shapeCast S1x1x64x64 (extractStridedSlice S64x64 ![0, 128] z1 slices_S64x256_o0_128_S64x64) shapeCasts_S64x64_S1x1x64x64⟩,
    ⟨Rect.unit (s := S4x4x64x64) ![1, 1, 0, 0] S1x1x64x64.size inb_S4x4x64x64_S1x1x64x64_1_1_0_0, shapeCast S1x1x64x64 (extractStridedSlice S64x64 ![0, 64] z1 slices_S64x256_o0_64_S64x64) shapeCasts_S64x64_S1x1x64x64⟩,
    ⟨Rect.unit (s := S4x4x64x64) ![1, 0, 0, 0] S1x1x64x64.size inb_S4x4x64x64_S1x1x64x64_1_0_0_0, shapeCast S1x1x64x64 (extractStridedSlice S64x64 ![0, 0] z1 slices_S64x256_o0_0_S64x64) shapeCasts_S64x64_S1x1x64x64⟩,
    ⟨Rect.unit (s := S4x4x64x64) ![0, 3, 0, 0] S1x1x64x64.size inb_S4x4x64x64_S1x1x64x64_0_3_0_0, shapeCast S1x1x64x64 (extractStridedSlice S64x64 ![0, 192] z0 slices_S64x256_o0_192_S64x64) shapeCasts_S64x64_S1x1x64x64⟩,
    ⟨Rect.unit (s := S4x4x64x64) ![0, 2, 0, 0] S1x1x64x64.size inb_S4x4x64x64_S1x1x64x64_0_2_0_0, shapeCast S1x1x64x64 (extractStridedSlice S64x64 ![0, 128] z0 slices_S64x256_o0_128_S64x64) shapeCasts_S64x64_S1x1x64x64⟩,
    ⟨Rect.unit (s := S4x4x64x64) ![0, 1, 0, 0] S1x1x64x64.size inb_S4x4x64x64_S1x1x64x64_0_1_0_0, shapeCast S1x1x64x64 (extractStridedSlice S64x64 ![0, 64] z0 slices_S64x256_o0_64_S64x64) shapeCasts_S64x64_S1x1x64x64⟩,
    ⟨Rect.unit (s := S4x4x64x64) ![0, 0, 0, 0] S1x1x64x64.size inb_S4x4x64x64_S1x1x64x64_0_0_0_0, shapeCast S1x1x64x64 (extractStridedSlice S64x64 ![0, 0] z0 slices_S64x256_o0_0_S64x64) shapeCasts_S64x64_S1x1x64x64⟩]
/-- The stores of the block of products, the last first. -/
def bPieces (z0 z1 z2 z3 : FVec F S64x256 .f32) (x : Vec F S4x4x64x128 .f32) : List (View.Piece (Elt F) S4x4x64x128 .bf16) :=
  [⟨(Rect.unit (s := S4x4x64x128) ![3, 0, 0, 0] S1x4x64x128.size inb_S4x4x64x128_S1x4x64x128_3_0_0_0), outB z3 (View.ld x (Rect.unit (s := S4x4x64x128) ![3, 0, 0, 0] S1x4x64x128.size inb_S4x4x64x128_S1x4x64x128_3_0_0_0))⟩,
    ⟨(Rect.unit (s := S4x4x64x128) ![2, 0, 0, 0] S1x4x64x128.size inb_S4x4x64x128_S1x4x64x128_2_0_0_0), outB z2 (View.ld x (Rect.unit (s := S4x4x64x128) ![2, 0, 0, 0] S1x4x64x128.size inb_S4x4x64x128_S1x4x64x128_2_0_0_0))⟩,
    ⟨(Rect.unit (s := S4x4x64x128) ![1, 0, 0, 0] S1x4x64x128.size inb_S4x4x64x128_S1x4x64x128_1_0_0_0), outB z1 (View.ld x (Rect.unit (s := S4x4x64x128) ![1, 0, 0, 0] S1x4x64x128.size inb_S4x4x64x128_S1x4x64x128_1_0_0_0))⟩,
    ⟨(Rect.unit (s := S4x4x64x128) ![0, 0, 0, 0] S1x4x64x128.size inb_S4x4x64x128_S1x4x64x128_0_0_0_0), outB z0 (View.ld x (Rect.unit (s := S4x4x64x128) ![0, 0, 0, 0] S1x4x64x128.size inb_S4x4x64x128_S1x4x64x128_0_0_0_0))⟩]

/-- The block of inverses and the block of products. -/
def zBlock (x0 : Vec F S4x64x256 .f32) : Vec F S4x4x64x64 .f32 :=
  View.canon (zPieces (iterates x0).1 (iterates x0).2.1 (iterates x0).2.2.1 (iterates x0).2.2.2)
def bBlock (x0 : Vec F S4x64x256 .f32) (x1 : Vec F S4x4x64x128 .f32) : Vec F S4x4x64x128 .bf16 :=
  View.canon (bPieces (iterates x0).1 (iterates x0).2.1 (iterates x0).2.2.1 (iterates x0).2.2.2 x1)

theorem z_cover (z0 z1 z2 z3 : FVec F S64x256 .f32) (y : S4x4x64x64.Idx) : ∃ p ∈ zPieces z0 z1 z2 z3, y ∈ p.1.set :=
  View.cover_of_tiled (zPieces z0 z1 z2 z3) S1x1x64x64.size (by rfl) y
theorem b_cover (z0 z1 z2 z3 : FVec F S64x256 .f32) (x : Vec F S4x4x64x128 .f32) (y : S4x4x64x128.Idx) : ∃ p ∈ bPieces z0 z1 z2 z3 x, y ∈ p.1.set :=
  View.cover_of_tiled (bPieces z0 z1 z2 z3 x) S1x4x64x128.size (by rfl) y

end Cert.Pinv.Invert

end
-- ==== Proof.Pinv.BitsRun.lean ====
/- The body's run: from the input blocks it ends with the two output blocks, whatever these held. -/
module

public import proofs.«01_k».proof.Proof.Pinv.BitsStart
public import Idealize.ShloMosaic.Lib.WholeRead

@[expose] public section

set_option maxRecDepth 65536

noncomputable section

namespace Cert.Pinv.Invert

open Cert.Pinv Cert.Pinv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load from a staging buffer that holds `x` is that part of `x`. -/
theorem ld_eq {e : EltTy} {s : Shape} (arg : Memref sig .tc .vmem s e) (h : arg.IsWhole) (x : Vec F s e) (r : Rect s) :
    View.readAt (Elt F) arg.view r.toLoadRect (h.unread x) = View.ld x r :=
  funext fun y => h.readAt_unread x _ y

section run

variable (c : Dev nD) (i : grid0.Coords) (arg1 : Memref sig .tc .vmem S4x64x256 .f32) (harg1 : arg1.IsWhole) (arg2 : Memref sig .tc .vmem S4x4x64x128 .f32) (harg2 : arg2.IsWhole) (arg3 : Memref sig .tc .vmem S4x4x64x64 .f32) (harg3 : arg3.IsWhole) (arg4 : Memref sig .tc .vmem S4x4x64x128 .bf16) (harg4 : arg4.IsWhole)

set_option warn.classDefReducibility false in
/-- Before trip `k` the carried iterates are `k` steps from the starting ones. -/
@[sl_loop] def newtonInv (E : Set ℕ) (v26 : IVec S64x256 1) (v28 : IVec S64x256 1) (v30 : IVec S64x256 1) (v32 : IVec S64x256 1) (v54 : FVec F S64x256 .f32) (v78 : IVec S64x256 32) (v158 : FVec F S64x256 .f32) (v159 : FVec F S64x256 .bf16) (v162 : FVec F S64x256 .bf16) (v165 : FVec F S64x256 .bf16) (v245 : FVec F S64x256 .f32) (v246 : FVec F S64x256 .bf16) (v249 : FVec F S64x256 .bf16) (v252 : FVec F S64x256 .bf16) (v332 : FVec F S64x256 .f32) (v333 : FVec F S64x256 .bf16) (v336 : FVec F S64x256 .bf16) (v339 : FVec F S64x256 .bf16) (v341 : FVec F S64x256 .f32) (v347 : FVec F S64x256 .f32) (v349 : FVec F S1x256 .f32) (v401 : FVec F S64x256 .f32) (c3_i32_126 : BitVec 32) (init : FVec F S64x256 .f32 × FVec F S64x256 .f32 × FVec F S64x256 .f32 × FVec F S64x256 .f32) :
    LoopInvTy_k0_t1 (F := F) Unit ℕ (UR sig nD τ) ℕ Variants.none c none E i arg1 harg1 arg2 harg2 arg3 harg3 arg4 harg4 v26 v28 v30 v32 v54 v78 v158 v159 v162 v165 v245 v246 v249 v252 v332 v333 v336 v339 v341 v347 v349 v401 c3_i32_126 init where
  inv k acc := iprop(⌜acc = (step v26 v28 v30 v32 v54 v159 v162 v165 v246 v249 v252 v333 v336 v339 (hi v341) (hi (rest v341)) (hi (rest (rest v341))))^[k] init⌝)
  step k acc := by
    rw [trip_eq]
    iintro %h
    sl_step
    ipureintro
    rw [Function.iterate_succ_apply', ← h]

set_option maxHeartbeats 8000000 in
theorem body_run (x0 : Vec F S4x64x256 .f32) (x1 : Vec F S4x4x64x128 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ owns (c : Thread nD τ) arg3 fullShare (zBlock x0) ∗ owns (c : Thread nD τ) arg4 fullShare (bBlock x0 x1)) -∗ K ⟨⟩))
          ⊢ wp frame (wpE (defs₀ (F := F)) Variants.none c none) E (cc0_pinv i arg1 harg1 arg2 harg2 arg3 harg3 arg4 harg4) K := by
  simp only [cc0_pinv_eq_skeleton]; unfold cc0_pinv_skel
  simp only [k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton]
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    have e : arg3.view.writes (Elt F) f2 _ = arg3.view.writes (Elt F) f2 (zPieces (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).1 (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.1 (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.2.1 (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.2.2) := rfl
    refine Eq.trans (congrArg _ e) ?_
    rw [ld_eq, ld_eq, ld_eq, ld_eq]
    exact View.read_writes_eq_canon _ _ _ (z_cover _ _ _ _)
  iexists _; isplitr; swap; · iexact H3
  ipureintro
  have e : arg4.view.writes (Elt F) f3 _ = arg4.view.writes (Elt F) f3
      [⟨(Rect.unit (s := S4x4x64x128) ![3, 0, 0, 0] S1x4x64x128.size inb_S4x4x64x128_S1x4x64x128_3_0_0_0), outB (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.2.2 (View.readAt (Elt F) arg2.view (Rect.unit (s := S4x4x64x128) ![3, 0, 0, 0] S1x4x64x128.size inb_S4x4x64x128_S1x4x64x128_3_0_0_0).toLoadRect (harg2.unread x1))⟩,
        ⟨(Rect.unit (s := S4x4x64x128) ![2, 0, 0, 0] S1x4x64x128.size inb_S4x4x64x128_S1x4x64x128_2_0_0_0), outB (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.2.1 (View.readAt (Elt F) arg2.view (Rect.unit (s := S4x4x64x128) ![2, 0, 0, 0] S1x4x64x128.size inb_S4x4x64x128_S1x4x64x128_2_0_0_0).toLoadRect (harg2.unread x1))⟩,
        ⟨(Rect.unit (s := S4x4x64x128) ![1, 0, 0, 0] S1x4x64x128.size inb_S4x4x64x128_S1x4x64x128_1_0_0_0), outB (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.1 (View.readAt (Elt F) arg2.view (Rect.unit (s := S4x4x64x128) ![1, 0, 0, 0] S1x4x64x128.size inb_S4x4x64x128_S1x4x64x128_1_0_0_0).toLoadRect (harg2.unread x1))⟩,
        ⟨(Rect.unit (s := S4x4x64x128) ![0, 0, 0, 0] S1x4x64x128.size inb_S4x4x64x128_S1x4x64x128_0_0_0_0), outB (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).1 (View.readAt (Elt F) arg2.view (Rect.unit (s := S4x4x64x128) ![0, 0, 0, 0] S1x4x64x128.size inb_S4x4x64x128_S1x4x64x128_0_0_0_0).toLoadRect (harg2.unread x1))⟩] := rfl
  refine Eq.trans (congrArg _ e) ?_
  rw [ld_eq, ld_eq, ld_eq, ld_eq, ld_eq, ld_eq, ld_eq, ld_eq]
  exact View.read_writes_eq_canon _ _ _ (b_cover _ _ _ _ x1)

end run

end Cert.Pinv.Invert

end
-- ==== Proof.Pinv.BitsLaunch.lean ====
/- The launch of the program as it stands, and its frame. -/
module

public import proofs.«01_k».proof.Proof.Pinv.BitsRun
public import proofs.«01_k».proof.Proof.Gen.Pinv.Frame
public import Idealize.ShloMosaic.Lib.Pipeline.Value
public import Idealize.ShloMosaic.Lib.Claim

@[expose] public section

set_option maxRecDepth 65536

noncomputable section

namespace Cert.Pinv.Invert

open Cert.Pinv Cert.Pinv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the region finds them; after the body at a point each
    input's buffer at its block and each output's at the block the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => zBlock (iblk m c 0 t)
    | ⟨3, _⟩ => bBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = zBlock (iblk m c 0 t) := by dsimp only [dats]
theorem after0_3 (c : Dev nD) (t : Fin cfg0.N) : (dats m 0 c).after 3 t = bBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' memrefs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (body_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) (iblk m c 0 t) (iblk m c 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame, with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Pinv.Invert

end
-- ==== Proof.Pinv.Nonnegative.lean ====
/- What the precondition says: no entry of the heads is negative, no landmark value is plus infinity. -/
module

public import proofs.«01_k».proof.Pre_nonnegative
public import Idealize.ShloMosaic.Lib.ReduceAll
public import Idealize.ShloMosaic.Lib.Affine
public import Idealize.ShloMosaic.Lib.Pointwise

@[expose] public section

set_option maxRecDepth 16384

noncomputable section

namespace Cert.Pre_nonnegative

open Idealize.ShloMosaic

/-- The shape relations the predicate takes. -/
theorem facts : Facts where
  bcast_S_S96x64x256 := by decide
  reducesTo_S96x64x256_S_d0_1_2 := by decide
  h_S_ := by decide
  bcast_S_S96x4x64x128 := by decide
  reducesTo_S96x4x64x128_S_d0_1_2_3 := by decide

instance : Subsingleton S_.Idx := ⟨fun _ _ => funext fun i => i.elim0⟩

theorem ofBits_inf : Ideal.ofBits .f32 0x7F800000#32 = ⊤ := by simp [Ideal.ofBits, Ideal.ieee]

/-- A value below `+∞`. -/
theorem ne_top_of_below (x : Ideal .f32) (h : FloatOps.cmpf .olt x (FloatOps.ofBits (F := Ideal) .f32 0x7F800000#32) = 1#1) : (x : EReal) ≠ ⊤ := by
  have h' : Ideal.cmp .olt (x : EReal) (Ideal.ofBits .f32 0x7F800000#32) = 1#1 := h
  exact (ofBits_inf ▸ (Ideal.cmp_olt_eq_one _ _).1 h' : (x : EReal) < ⊤).ne

/-- A value at or above zero. -/
theorem nonneg_of_above (x : Ideal .f32) (h : FloatOps.cmpf .oge x (FloatOps.ofBits (F := Ideal) .f32 0x00000000#32) = 1#1) : (0 : EReal) ≤ x := by
  have h' : Ideal.cmp .oge (x : EReal) (Ideal.ofBits .f32 0x00000000#32) = 1#1 := h
  have := (Ideal.cmp_oge_eq_one _ _).1 h'
  rwa [show Ideal.ofBits .f32 0x00000000#32 = (0 : EReal) from by simp [Ideal.ofBits, Ideal.ieee]] at this

variable [Facts]

/-- Where the predicate holds, no entry is negative and no landmark value is `+∞`. -/
theorem bounds (a0 : FVec Ideal S96x64x256 .f32) (a1 : FVec Ideal S96x4x64x128 .f32) (h : fn (F := Ideal) a0 a1 = fun _ => 1#1) :
    (∀ i, (0 : EReal) ≤ a0 i) ∧ ∀ i, (a1 i : EReal) ≠ ⊤ := by
  have e := congrFun h (Shape.Idx.first Facts.h_S_)
  dsimp only [fn] at e
  obtain ⟨h0, h1⟩ := IntOp.andi_eq_one.1 e
  exact ⟨fun i => nonneg_of_above _ (Host.reduce_andi_all _ _ _ _ _ h0 i), fun i => ne_top_of_below _ (Host.reduce_andi_all _ _ _ _ _ h1 i)⟩

end Cert.Pre_nonnegative

end
-- ==== Proof.Pinv.Trip.lean ====
/- One trip of the iteration as a function of the four carried iterates. -/
module

public import proofs.«01_k».proof.Proof.Gen.PinvIdeal.Loops

@[expose] public section

set_option maxRecDepth 65536

noncomputable section

namespace Cert.PinvIdeal.Invert

open Cert.PinvIdeal Cert.PinvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The leading bf16 part. -/
def hi (x : FVec F S64x256 .f32) : FVec F S64x256 .bf16 := truncf .bf16 x bitsLt_bf16_f32
/-- What the leading part leaves. -/
def rest (x : FVec F S64x256 .f32) : FVec F S64x256 .f32 := subf x (extf .f32 (hi x) bitsLt_bf16_f32)
/-- Four 64 by 64 blocks side by side as the diagonal blocks of a 256 by 256 array. -/
def rows (m0 m1 m2 m3 : IVec S64x256 1) (p : FVec F S64x256 .bf16) : FVec F S256x256 .bf16 :=
  concatenate S256x256 0 [⟨S64x256, select m0 p (broadcast S64x256 (Scalar.ofBits .bf16 0x0000#16))⟩, ⟨S64x256, select m1 p (broadcast S64x256 (Scalar.ofBits .bf16 0x0000#16))⟩,
    ⟨S64x256, select m2 p (broadcast S64x256 (Scalar.ofBits .bf16 0x0000#16))⟩, ⟨S64x256, select m3 p (broadcast S64x256 (Scalar.ofBits .bf16 0x0000#16))⟩] concatenates_S64x256_S64x256_S64x256_S64x256_S256x256_d0
/-- One product into f32. -/
def dot (x : FVec F S64x256 .bf16) (y : FVec F S256x256 .bf16) : FVec F S64x256 .f32 :=
  matmul dot_S64x256_S256x256_S64x256_1_0_0_1_n_n none x y (constant S64x256 .f32 0x00000000#32)
/-- The six products of two values in three parts. -/
def six (x0 x1 x2 : FVec F S64x256 .bf16) (y0 y1 y2 : FVec F S256x256 .bf16) : FVec F S64x256 .f32 :=
  addf (addf (addf (addf (dot x0 y2) (dot x1 y1)) (dot x2 y0)) (addf (dot x0 y1) (dot x1 y0))) (dot x0 y0)
/-- The product of a left factor in three parts with `y`, head by head. -/
def mm (m0 m1 m2 m3 : IVec S64x256 1) (x0 x1 x2 : FVec F S64x256 .bf16) (y : FVec F S64x256 .f32) : FVec F S64x256 .f32 :=
  six x0 x1 x2 (rows m0 m1 m2 m3 (hi y)) (rows m0 m1 m2 m3 (hi (rest y))) (rows m0 m1 m2 m3 (hi (rest (rest y))))
/-- The product of `x` with `w · eye - y`. -/
def shifted (m0 m1 m2 m3 : IVec S64x256 1) (eye : FVec F S64x256 .f32) (w : BitVec 32) (x y : FVec F S64x256 .f32) : FVec F S64x256 .f32 :=
  mm m0 m1 m2 m3 (hi x) (hi (rest x)) (hi (rest (rest x))) (subf (mulf (broadcast S64x256 (Scalar.ofBits .f32 w)) eye) y)
/-- One step of the iteration for four heads side by side. -/
def newton (m0 m1 m2 m3 : IVec S64x256 1) (eye : FVec F S64x256 .f32) (a0 a1 a2 : FVec F S64x256 .bf16) (z : FVec F S64x256 .f32) : FVec F S64x256 .f32 :=
  shifted m0 m1 m2 m3 eye 0x41500000#32 (mulf (broadcast S64x256 (Scalar.ofBits .f32 0x3E800000#32)) z)
    (shifted m0 m1 m2 m3 eye 0x41700000#32 (mm m0 m1 m2 m3 a0 a1 a2 z)
      (shifted m0 m1 m2 m3 eye 0x40E00000#32 (mm m0 m1 m2 m3 a0 a1 a2 z) (mm m0 m1 m2 m3 a0 a1 a2 z)))

/-- One trip for the sixteen heads of the block. -/
def step (m0 m1 m2 m3 : IVec S64x256 1) (eye : FVec F S64x256 .f32) (a0 a1 a2 b0 b1 b2 c0 c1 c2 d0 d1 d2 : FVec F S64x256 .bf16)
    (z : FVec F S64x256 .f32 × FVec F S64x256 .f32 × FVec F S64x256 .f32 × FVec F S64x256 .f32) :
    FVec F S64x256 .f32 × FVec F S64x256 .f32 × FVec F S64x256 .f32 × FVec F S64x256 .f32 :=
  (newton m0 m1 m2 m3 eye a0 a1 a2 z.1, newton m0 m1 m2 m3 eye b0 b1 b2 z.2.1, newton m0 m1 m2 m3 eye c0 c1 c2 z.2.2.1, newton m0 m1 m2 m3 eye d0 d1 d2 z.2.2.2)

set_option maxHeartbeats 4000000 in
/-- The loop's region is that function of the carried values. -/
theorem trip_eq (i : grid0.Coords) (arg1 : Memref sig .tc .vmem S4x64x256 .f32) (harg1 : arg1.IsWhole) (arg2 : Memref sig .tc .vmem S4x4x64x128 .f32) (harg2 : arg2.IsWhole) (arg3 : Memref sig .tc .vmem S4x4x64x64 .f32) (harg3 : arg3.IsWhole) (arg4 : Memref sig .tc .vmem S4x4x64x128 .bf16) (harg4 : arg4.IsWhole) (v26 : IVec S64x256 1) (v28 : IVec S64x256 1) (v30 : IVec S64x256 1) (v32 : IVec S64x256 1) (v54 : FVec F S64x256 .f32) (v78 : IVec S64x256 32) (v158 : FVec F S64x256 .f32) (v159 : FVec F S64x256 .bf16) (v162 : FVec F S64x256 .bf16) (v165 : FVec F S64x256 .bf16) (v245 : FVec F S64x256 .f32) (v246 : FVec F S64x256 .bf16) (v249 : FVec F S64x256 .bf16) (v252 : FVec F S64x256 .bf16) (v332 : FVec F S64x256 .f32) (v333 : FVec F S64x256 .bf16) (v336 : FVec F S64x256 .bf16) (v339 : FVec F S64x256 .bf16) (v341 : FVec F S64x256 .f32) (v347 : FVec F S64x256 .f32) (v349 : FVec F S1x256 .f32) (v401 : FVec F S64x256 .f32) (c3_i32_126 : BitVec 32)
    (k : Fin k0_t1_loop.trips) (acc : FVec F S64x256 .f32 × FVec F S64x256 .f32 × FVec F S64x256 .f32 × FVec F S64x256 .f32) :
    k0_t1_body (F := F) i arg1 harg1 arg2 harg2 arg3 harg3 arg4 harg4 v26 v28 v30 v32 v54 v78 v158 v159 v162 v165 v245 v246 v249 v252 v332 v333 v336 v339 v341 v347 v349 v401 c3_i32_126 k acc
      = pure (step v26 v28 v30 v32 v54 v159 v162 v165 v246 v249 v252 v333 v336 v339 (hi v341) (hi (rest v341)) (hi (rest (rest v341))) acc) := rfl

end Cert.PinvIdeal.Invert

end
-- ==== Proof.Pinv.Start.lean ====
/- The starting iterate, the landmark products, and the two output blocks, as functions of the input blocks. -/
module

public import proofs.«01_k».proof.Proof.Pinv.Trip
public import Idealize.ShloMosaic.Lib.Pipeline.FrameBody
public import Idealize.ShloMosaic.Lib.Pipeline.ReadBack

@[expose] public section

set_option maxRecDepth 65536

noncomputable section

namespace Cert.PinvIdeal.Invert

open Cert.PinvIdeal Cert.PinvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Lane `64 n + j` belongs to head `n`. -/
def mask (v : BitVec 32) : IVec S64x256 1 := cmpi .eq k0_pay176 (broadcast S64x256 v)
/-- The same, as the scale computes it. -/
def on (v : BitVec 32) : IVec S64x256 1 := cmpi .eq (k0_pay185 (iota .tc S64x256 32 [1] iota_S64x256_d1_w32)) (broadcast S64x256 v)
/-- The four identity blocks side by side. -/
def eyes : FVec F S64x256 .f32 :=
  k0_pay184 (iota .tc S64x256 32 [0] iota_S64x256_d0_w32) (Scalar.select (Scalar.cmpi .eq 64#32 0#32) 1#32 64#32) k0_pay181 k0_pay182 k0_pay183
/-- The four heads of the block, each transposed. -/
def turned (a : FVec F S64x256 .f32) : FVec F S64x256 .f32 :=
  concatenate S64x256 1 [⟨S64x64, extractStridedSlice S64x64 ![0, 0] (transpose S256x64 [1, 0] a transposes_S64x256_p1_0_S256x64) slices_S256x64_o0_0_S64x64⟩,
    ⟨S64x64, extractStridedSlice S64x64 ![64, 0] (transpose S256x64 [1, 0] a transposes_S64x256_p1_0_S256x64) slices_S256x64_o64_0_S64x64⟩,
    ⟨S64x64, extractStridedSlice S64x64 ![128, 0] (transpose S256x64 [1, 0] a transposes_S64x256_p1_0_S256x64) slices_S256x64_o128_0_S64x64⟩,
    ⟨S64x64, extractStridedSlice S64x64 ![192, 0] (transpose S256x64 [1, 0] a transposes_S64x256_p1_0_S256x64) slices_S256x64_o192_0_S64x64⟩] concatenates_S64x64_S64x64_S64x64_S64x64_S64x256_d1
/-- The column sums. -/
def colsum (a : FVec F S64x256 .f32) : FVec F S1x256 .f32 :=
  shapeCast S1x256 (multiReduction .add [0] S256 a 0x00000000#32 reduces_S64x256_S256 (.inl rfl) rfl) shapeCasts_S256_S1x256
/-- The largest row sum of a head. -/
def rowmax (v : BitVec 32) (a : FVec F S64x256 .f32) : FVec F S1x1 .f32 :=
  shapeCast S1x1 (multiReduction .maximumf [0] S1 (shapeCast S64x1 (multiReduction .add [1] S64 (select (on v) a (broadcast S64x256 (Scalar.ofBits .f32 0x00000000#32))) 0x00000000#32 reduces_S64x256_S64 (.inl rfl) rfl) shapeCasts_S64_S64x1) 0xFF800000#32 reduces_S64x1_S1 (.inl rfl) rfl) shapeCasts_S1_S1x1
/-- The largest column sum of a head, or 0 if that is larger. -/
def colmax (v : BitVec 32) (a : FVec F S64x256 .f32) : FVec F S1x1 .f32 :=
  shapeCast S1x1 (multiReduction .maximumf [1] S1 (select (extractStridedSlice S1x256 ![0, 0] (on v) slices_S64x256_o0_0_S1x256) (colsum a) (broadcast S1x256 (Scalar.ofBits .f32 0x00000000#32))) 0xFF800000#32 reduces_S1x256_S1 (.inl rfl) rfl) shapeCasts_S1_S1x1
/-- The scale of one head written over the others' lanes. -/
def scaled (v : BitVec 32) (a prev : FVec F S64x256 .f32) : FVec F S64x256 .f32 :=
  select (on v) (broadcastTo S64x256 (shapeCast S1x1 (mulf (colmax v a) (rowmax v a)) shapeCasts_S1x1_S1x1) broadcasts_S1x1_S64x256) prev
/-- The scale of the four heads. -/
def scale (a : FVec F S64x256 .f32) : FVec F S64x256 .f32 :=
  scaled 3#32 a (scaled 2#32 a (scaled 1#32 a (scaled 0#32 a (broadcast S64x256 (Scalar.ofBits .f32 0x00000000#32)))))
/-- The starting iterate. -/
def start (a : FVec F S64x256 .f32) : FVec F S64x256 .f32 := divf (turned a) (scale a)

/-- Four heads of the block. -/
def quad0 (x : Vec F S4x64x256 .f32) : FVec F S64x256 .f32 := shapeCast S64x256 (View.ld x (Rect.unit (s := S4x64x256) ![0, 0, 0] S1x64x256.size inb_S4x64x256_S1x64x256_0_0_0)) shapeCasts_S1x64x256_S64x256
def quad1 (x : Vec F S4x64x256 .f32) : FVec F S64x256 .f32 := shapeCast S64x256 (View.ld x (Rect.unit (s := S4x64x256) ![1, 0, 0] S1x64x256.size inb_S4x64x256_S1x64x256_1_0_0)) shapeCasts_S1x64x256_S64x256
def quad2 (x : Vec F S4x64x256 .f32) : FVec F S64x256 .f32 := shapeCast S64x256 (View.ld x (Rect.unit (s := S4x64x256) ![2, 0, 0] S1x64x256.size inb_S4x64x256_S1x64x256_2_0_0)) shapeCasts_S1x64x256_S64x256
def quad3 (x : Vec F S4x64x256 .f32) : FVec F S64x256 .f32 := shapeCast S64x256 (View.ld x (Rect.unit (s := S4x64x256) ![3, 0, 0] S1x64x256.size inb_S4x64x256_S1x64x256_3_0_0)) shapeCasts_S1x64x256_S64x256

/-- One trip, from the four blocks themselves. -/
def tripOf (a b c d : FVec F S64x256 .f32) :=
  step (F := F) (mask 0#32) (mask 1#32) (mask 2#32) (mask 3#32) eyes (hi a) (hi (rest a)) (hi (rest (rest a))) (hi b) (hi (rest b)) (hi (rest (rest b)))
    (hi c) (hi (rest c)) (hi (rest (rest c))) (hi d) (hi (rest d)) (hi (rest (rest d)))
/-- The iterates after the loop, from the four blocks. -/
def iterOf (a b c d : FVec F S64x256 .f32) : FVec F S64x256 .f32 × FVec F S64x256 .f32 × FVec F S64x256 .f32 × FVec F S64x256 .f32 :=
  (tripOf a b c d)^[k0_t1_loop.trips] (start a, start b, start c, start d)
/-- The same from the input block. -/
def iterates (x : Vec F S4x64x256 .f32) : FVec F S64x256 .f32 × FVec F S64x256 .f32 × FVec F S64x256 .f32 × FVec F S64x256 .f32 :=
  iterOf (quad0 x) (quad1 x) (quad2 x) (quad3 x)

/-- The leading bf16 part, and what it leaves, of the landmark values. -/
def hiB (x : FVec F S256x128 .f32) : FVec F S256x128 .bf16 := truncf .bf16 x bitsLt_bf16_f32
def restB (x : FVec F S256x128 .f32) : FVec F S256x128 .f32 := subf x (extf .f32 (hiB x) bitsLt_bf16_f32)
def dotB (x : FVec F S256x256 .bf16) (y : FVec F S256x128 .bf16) : FVec F S256x128 .f32 :=
  matmul dot_S256x256_S256x128_S256x128_1_0_0_1_n_n none x y (constant S256x128 .f32 0x00000000#32)
def sixB (x0 x1 x2 : FVec F S256x256 .bf16) (y0 y1 y2 : FVec F S256x128 .bf16) : FVec F S256x128 .f32 :=
  addf (addf (addf (addf (dotB x0 y2) (dotB x1 y1)) (dotB x2 y0)) (addf (dotB x0 y1) (dotB x1 y0))) (dotB x0 y0)
/-- The inverses of four heads times their landmark values. -/
def prodB (z : FVec F S64x256 .f32) (v : FVec F S256x128 .f32) : FVec F S256x128 .f32 :=
  sixB (rows (mask 0#32) (mask 1#32) (mask 2#32) (mask 3#32) (hi z)) (rows (mask 0#32) (mask 1#32) (mask 2#32) (mask 3#32) (hi (rest z))) (rows (mask 0#32) (mask 1#32) (mask 2#32) (mask 3#32) (hi (rest (rest z))))
    (hiB v) (hiB (restB v)) (hiB (restB (restB v)))
def outB (z : FVec F S64x256 .f32) (v : Vec F S1x4x64x128 .f32) : FVec F S1x4x64x128 .bf16 :=
  shapeCast S1x4x64x128 (truncf .bf16 (shapeCast S4x64x128 (prodB z (shapeCast S256x128 (shapeCast S4x64x128 v shapeCasts_S1x4x64x128_S4x64x128) shapeCasts_S4x64x128_S256x128)) shapeCasts_S256x128_S4x64x128) bitsLt_bf16_f32) shapeCasts_S4x64x128_S1x4x64x128

/-- The stores of the block of inverses, the last first. -/
def zPieces (z0 z1 z2 z3 : FVec F S64x256 .f32) : List (View.Piece (Elt F) S4x4x64x64 .f32) :=
  [⟨Rect.unit (s := S4x4x64x64) ![3, 3, 0, 0] S1x1x64x64.size inb_S4x4x64x64_S1x1x64x64_3_3_0_0, shapeCast S1x1x64x64 (extractStridedSlice S64x64 ![0, 192] z3 slices_S64x256_o0_192_S64x64) shapeCasts_S64x64_S1x1x64x64⟩,
    ⟨Rect.unit (s := S4x4x64x64) ![3, 2, 0, 0] S1x1x64x64.size inb_S4x4x64x64_S1x1x64x64_3_2_0_0, shapeCast S1x1x64x64 (extractStridedSlice S64x64 ![0, 128] z3 slices_S64x256_o0_128_S64x64) shapeCasts_S64x64_S1x1x64x64⟩,
    ⟨Rect.unit (s := S4x4x64x64) ![3, 1, 0, 0] S1x1x64x64.size inb_S4x4x64x64_S1x1x64x64_3_1_0_0, shapeCast S1x1x64x64 (extractStridedSlice S64x64 ![0, 64] z3 slices_S64x256_o0_64_S64x64) shapeCasts_S64x64_S1x1x64x64⟩,
    ⟨Rect.unit (s := S4x4x64x64) ![3, 0, 0, 0] S1x1x64x64.size inb_S4x4x64x64_S1x1x64x64_3_0_0_0, shapeCast S1x1x64x64 (extractStridedSlice S64x64 ![0, 0] z3 slices_S64x256_o0_0_S64x64) shapeCasts_S64x64_S1x1x64x64⟩,
    ⟨Rect.unit (s := S4x4x64x64) ![2, 3, 0, 0] S1x1x64x64.size inb_S4x4x64x64_S1x1x64x64_2_3_0_0, shapeCast S1x1x64x64 (extractStridedSlice S64x64 ![0, 192] z2 slices_S64x256_o0_192_S64x64) shapeCasts_S64x64_S1x1x64x64⟩,
    ⟨Rect.unit (s := S4x4x64x64) ![2, 2, 0, 0] S1x1x64x64.size inb_S4x4x64x64_S1x1x64x64_2_2_0_0, shapeCast S1x1x64x64 (extractStridedSlice S64x64 ![0, 128] z2 slices_S64x256_o0_128_S64x64) shapeCasts_S64x64_S1x1x64x64⟩,
    ⟨Rect.unit (s := S4x4x64x64) ![2, 1, 0, 0] S1x1x64x64.size inb_S4x4x64x64_S1x1x64x64_2_1_0_0, shapeCast S1x1x64x64 (extractStridedSlice S64x64 ![0, 64] z2 slices_S64x256_o0_64_S64x64) shapeCasts_S64x64_S1x1x64x64⟩,
    ⟨Rect.unit (s := S4x4x64x64) ![2, 0, 0, 0] S1x1x64x64.size inb_S4x4x64x64_S1x1x64x64_2_0_0_0, shapeCast S1x1x64x64 (extractStridedSlice S64x64 ![0, 0] z2 slices_S64x256_o0_0_S64x64) shapeCasts_S64x64_S1x1x64x64⟩,
    ⟨Rect.unit (s := S4x4x64x64) ![1, 3, 0, 0] S1x1x64x64.size inb_S4x4x64x64_S1x1x64x64_1_3_0_0, shapeCast S1x1x64x64 (extractStridedSlice S64x64 ![0, 192] z1 slices_S64x256_o0_192_S64x64) shapeCasts_S64x64_S1x1x64x64⟩,
    ⟨Rect.unit (s := S4x4x64x64) ![1, 2, 0, 0] S1x1x64x64.size inb_S4x4x64x64_S1x1x64x64_1_2_0_0, shapeCast S1x1x64x64 (extractStridedSlice S64x64 ![0, 128] z1 slices_S64x256_o0_128_S64x64) shapeCasts_S64x64_S1x1x64x64⟩,
    ⟨Rect.unit (s := S4x4x64x64) ![1, 1, 0, 0] S1x1x64x64.size inb_S4x4x64x64_S1x1x64x64_1_1_0_0, shapeCast S1x1x64x64 (extractStridedSlice S64x64 ![0, 64] z1 slices_S64x256_o0_64_S64x64) shapeCasts_S64x64_S1x1x64x64⟩,
    ⟨Rect.unit (s := S4x4x64x64) ![1, 0, 0, 0] S1x1x64x64.size inb_S4x4x64x64_S1x1x64x64_1_0_0_0, shapeCast S1x1x64x64 (extractStridedSlice S64x64 ![0, 0] z1 slices_S64x256_o0_0_S64x64) shapeCasts_S64x64_S1x1x64x64⟩,
    ⟨Rect.unit (s := S4x4x64x64) ![0, 3, 0, 0] S1x1x64x64.size inb_S4x4x64x64_S1x1x64x64_0_3_0_0, shapeCast S1x1x64x64 (extractStridedSlice S64x64 ![0, 192] z0 slices_S64x256_o0_192_S64x64) shapeCasts_S64x64_S1x1x64x64⟩,
    ⟨Rect.unit (s := S4x4x64x64) ![0, 2, 0, 0] S1x1x64x64.size inb_S4x4x64x64_S1x1x64x64_0_2_0_0, shapeCast S1x1x64x64 (extractStridedSlice S64x64 ![0, 128] z0 slices_S64x256_o0_128_S64x64) shapeCasts_S64x64_S1x1x64x64⟩,
    ⟨Rect.unit (s := S4x4x64x64) ![0, 1, 0, 0] S1x1x64x64.size inb_S4x4x64x64_S1x1x64x64_0_1_0_0, shapeCast S1x1x64x64 (extractStridedSlice S64x64 ![0, 64] z0 slices_S64x256_o0_64_S64x64) shapeCasts_S64x64_S1x1x64x64⟩,
    ⟨Rect.unit (s := S4x4x64x64) ![0, 0, 0, 0] S1x1x64x64.size inb_S4x4x64x64_S1x1x64x64_0_0_0_0, shapeCast S1x1x64x64 (extractStridedSlice S64x64 ![0, 0] z0 slices_S64x256_o0_0_S64x64) shapeCasts_S64x64_S1x1x64x64⟩]
/-- The stores of the block of products, the last first. -/
def bPieces (z0 z1 z2 z3 : FVec F S64x256 .f32) (x : Vec F S4x4x64x128 .f32) : List (View.Piece (Elt F) S4x4x64x128 .bf16) :=
  [⟨(Rect.unit (s := S4x4x64x128) ![3, 0, 0, 0] S1x4x64x128.size inb_S4x4x64x128_S1x4x64x128_3_0_0_0), outB z3 (View.ld x (Rect.unit (s := S4x4x64x128) ![3, 0, 0, 0] S1x4x64x128.size inb_S4x4x64x128_S1x4x64x128_3_0_0_0))⟩,
    ⟨(Rect.unit (s := S4x4x64x128) ![2, 0, 0, 0] S1x4x64x128.size inb_S4x4x64x128_S1x4x64x128_2_0_0_0), outB z2 (View.ld x (Rect.unit (s := S4x4x64x128) ![2, 0, 0, 0] S1x4x64x128.size inb_S4x4x64x128_S1x4x64x128_2_0_0_0))⟩,
    ⟨(Rect.unit (s := S4x4x64x128) ![1, 0, 0, 0] S1x4x64x128.size inb_S4x4x64x128_S1x4x64x128_1_0_0_0), outB z1 (View.ld x (Rect.unit (s := S4x4x64x128) ![1, 0, 0, 0] S1x4x64x128.size inb_S4x4x64x128_S1x4x64x128_1_0_0_0))⟩,
    ⟨(Rect.unit (s := S4x4x64x128) ![0, 0, 0, 0] S1x4x64x128.size inb_S4x4x64x128_S1x4x64x128_0_0_0_0), outB z0 (View.ld x (Rect.unit (s := S4x4x64x128) ![0, 0, 0, 0] S1x4x64x128.size inb_S4x4x64x128_S1x4x64x128_0_0_0_0))⟩]

/-- The block of inverses and the block of products. -/
def zBlock (x0 : Vec F S4x64x256 .f32) : Vec F S4x4x64x64 .f32 :=
  View.canon (zPieces (iterates x0).1 (iterates x0).2.1 (iterates x0).2.2.1 (iterates x0).2.2.2)
def bBlock (x0 : Vec F S4x64x256 .f32) (x1 : Vec F S4x4x64x128 .f32) : Vec F S4x4x64x128 .bf16 :=
  View.canon (bPieces (iterates x0).1 (iterates x0).2.1 (iterates x0).2.2.1 (iterates x0).2.2.2 x1)

theorem z_cover (z0 z1 z2 z3 : FVec F S64x256 .f32) (y : S4x4x64x64.Idx) : ∃ p ∈ zPieces z0 z1 z2 z3, y ∈ p.1.set :=
  View.cover_of_tiled (zPieces z0 z1 z2 z3) S1x1x64x64.size (by rfl) y
theorem b_cover (z0 z1 z2 z3 : FVec F S64x256 .f32) (x : Vec F S4x4x64x128 .f32) (y : S4x4x64x128.Idx) : ∃ p ∈ bPieces z0 z1 z2 z3 x, y ∈ p.1.set :=
  View.cover_of_tiled (bPieces z0 z1 z2 z3 x) S1x4x64x128.size (by rfl) y

end Cert.PinvIdeal.Invert

end
-- ==== Proof.Pinv.Heads.lean ====
/- The mathematics of one head over the extended reals: 64 by 64 matrices, the starting iterate, the iteration's step, and
   what keeps a product exact when its factors are split into a head and two remainders. -/
module

public import Idealize.ShloMosaic.PureOps.Ideal
public import Mathlib.Data.EReal.Operations
public import Mathlib.Data.EReal.Inv
public import Mathlib.Algebra.BigOperators.Fin
public import Mathlib.Algebra.Order.BigOperators.Group.Finset
public import Mathlib.Data.Finset.Fold
public import Mathlib.Tactic.Positivity

@[expose] public section

noncomputable section

namespace Cert.Inverse

open Idealize.ShloMosaic

/-- A head's matrix. -/
abbrev Mat := Fin 64 → Fin 64 → EReal

def mul (X Y : Mat) : Mat := fun i j => ∑ k, X i k * Y k j
/-- `w · 1 - Y`. -/
def less (w : ℝ) (Y : Mat) : Mat := fun i j => (w : EReal) * ((if i = j then 1 else 0 : ℝ) : EReal) - Y i j
/-- A quarter of a matrix. -/
def quarter (Z : Mat) : Mat := fun i j => ((1 / 4 : ℝ) : EReal) * Z i j
/-- One step of the iteration towards the inverse of `A`. -/
def newton (A Z : Mat) : Mat :=
  mul (quarter Z) (less 13 (mul (mul A Z) (less 15 (mul (mul A Z) (less 7 (mul A Z))))))

/-- The largest of 64 numbers. -/
def top (f : Fin 64 → EReal) : EReal := Finset.univ.fold max (⊥ : EReal) f

theorem le_top (f : Fin 64 → EReal) (i : Fin 64) : f i ≤ top f := (Finset.le_fold_max _).2 (Or.inr ⟨i, Finset.mem_univ _, le_rfl⟩)

/-- The maximum over a family whose members are at most the largest of `f`, and that has every member of `f`. -/
theorem fold_max_eq {n : ℕ} (g : Fin n → EReal) (f : Fin 64 → EReal) (hle : ∀ k, g k ≤ top f) (hge : ∀ i, ∃ k, g k = f i) :
    Finset.univ.fold max (⊥ : EReal) g = top f := by
  apply le_antisymm
  · exact (Finset.fold_max_le _).2 ⟨bot_le, fun k _ => hle k⟩
  · refine (Finset.fold_max_le _).2 ⟨bot_le, fun i _ => ?_⟩
    obtain ⟨k, hk⟩ := hge i
    exact (Finset.le_fold_max _).2 (Or.inr ⟨k, Finset.mem_univ _, hk.ge⟩)

def rowSum (M : Mat) (i : Fin 64) : EReal := ∑ j, M i j
def colSum (M : Mat) (j : Fin 64) : EReal := ∑ i, M i j
/-- The largest column sum times the largest row sum. -/
def scale (M : Mat) : EReal := top (colSum M) * top (rowSum M)
/-- The starting iterate. -/
def start (M : Mat) : Mat := fun i j => Ideal.div (M j i) (scale M)
/-- The sixth iterate. -/
def inverse (M : Mat) : Mat := (newton M)^[6] (start M)

/-- A sum of coerced reals is the coerced sum. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- Two numbers whose product survives the splitting: both below `+∞`, or one of them zero. -/
def Fit (x y : EReal) : Prop := (x ≠ ⊤ ∧ y ≠ ⊤) ∨ x = 0 ∨ y = 0

theorem mul_bot_twice (x : EReal) : x * ⊥ + x * ⊥ = x * ⊥ := by
  rcases lt_trichotomy 0 x with h | h | h
  · rw [EReal.mul_bot_of_pos h, EReal.add_bot]
  · rw [← h, zero_mul, add_zero]
  · rw [EReal.mul_bot_of_neg h]; rfl

theorem real_sub_self (r : ℝ) : (r : EReal) - (r : EReal) = 0 := by rw [← EReal.coe_sub, sub_self]; rfl
theorem bot_sub_bot : (⊥ : EReal) - ⊥ = ⊥ := rfl
theorem zero_sub_zero : (0 : EReal) - 0 = 0 := sub_zero _

/-- The six products of the parts add up to the product. -/
theorem six_parts {x y : EReal} (h : Fit x y) :
    ((x * ((y - y) - (y - y)) + (x - x) * (y - y)) + ((x - x) - (x - x)) * y) + (x * (y - y) + (x - x) * y) + x * y = x * y := by
  rcases h with ⟨hx, hy⟩ | rfl | rfl
  · induction x with
    | top => exact absurd rfl hx
    | bot =>
      induction y with
      | top => exact absurd rfl hy
      | bot => simp only [bot_sub_bot, EReal.bot_mul_bot]; rfl
      | coe y =>
        simp only [bot_sub_bot, real_sub_self, zero_sub_zero, mul_zero, zero_add]
        rw [mul_comm, mul_bot_twice, mul_bot_twice]
    | coe x =>
      induction y with
      | top => exact absurd rfl hy
      | bot =>
        simp only [bot_sub_bot, real_sub_self, zero_sub_zero, zero_mul, add_zero]
        rw [mul_bot_twice, mul_bot_twice]
      | coe y => simp only [real_sub_self, zero_sub_zero, zero_mul, mul_zero, add_zero, zero_add]
  · simp only [zero_sub_zero, zero_mul, add_zero]
  · simp only [zero_sub_zero, mul_zero, add_zero]

/-- A matrix of real numbers. -/
def IsReal (M : Mat) : Prop := ∃ R : Fin 64 → Fin 64 → ℝ, ∀ i j, M i j = ((R i j : ℝ) : EReal)

theorem IsReal.zero : IsReal (fun _ _ => 0) := ⟨fun _ _ => 0, fun _ _ => rfl⟩
theorem IsReal.mul {X Y : Mat} (hx : IsReal X) (hy : IsReal Y) : IsReal (mul X Y) := by
  obtain ⟨R, hR⟩ := hx
  obtain ⟨S, hS⟩ := hy
  refine ⟨fun i j => ∑ k, R i k * S k j, fun i j => ?_⟩
  unfold Inverse.mul
  rw [← coe_sum]
  exact Finset.sum_congr rfl fun k _ => by rw [hR, hS, EReal.coe_mul]
theorem IsReal.less {Y : Mat} (hy : IsReal Y) (w : ℝ) : IsReal (less w Y) := by
  obtain ⟨S, hS⟩ := hy
  exact ⟨fun i j => w * (if i = j then 1 else 0) - S i j, fun i j => by unfold Inverse.less; rw [hS, EReal.coe_sub, EReal.coe_mul]⟩
theorem IsReal.quarter {Y : Mat} (hy : IsReal Y) : IsReal (quarter Y) := by
  obtain ⟨S, hS⟩ := hy
  exact ⟨fun i j => 1 / 4 * S i j, fun i j => by unfold Inverse.quarter; rw [hS, EReal.coe_mul]⟩
theorem IsReal.ne_top {X : Mat} (hx : IsReal X) (i j : Fin 64) : X i j ≠ ⊤ := by
  obtain ⟨R, hR⟩ := hx
  rw [hR]; exact EReal.coe_ne_top _

/-- Every product of an entry of `X` by one of `Y` survives the splitting. -/
def Fits (X Y : Mat) : Prop := ∀ i k j, Fit (X i k) (Y k j)

theorem IsReal.fits {X Y : Mat} (hx : IsReal X) (hy : IsReal Y) : Fits X Y := fun i k j => Or.inl ⟨hx.ne_top i k, hy.ne_top k j⟩

theorem mul_zero_left (Y : Mat) : mul (fun _ _ => 0) Y = fun _ _ => 0 := by
  funext i j; unfold mul; simp only [zero_mul, Finset.sum_const_zero]
theorem mul_zero_right (X : Mat) : mul X (fun _ _ => 0) = fun _ _ => 0 := by
  funext i j; unfold mul; simp only [mul_zero, Finset.sum_const_zero]
theorem quarter_zero : quarter (fun _ _ => 0) = fun _ _ => 0 := by
  funext i j; unfold quarter; rw [mul_zero]
theorem quarter_bot : quarter (fun _ _ => ⊥) = fun _ _ => ⊥ := by
  funext i j; unfold quarter; exact EReal.mul_bot_of_pos (by exact_mod_cast (by norm_num : (0 : ℝ) < 1 / 4))

/-- Where the iteration stands: a real iterate of a real matrix, `-∞` for the zero matrix, zero for a matrix with an infinite entry. -/
inductive State (A Z : Mat) : Prop
  | real (ha : IsReal A) (hz : IsReal Z)
  | none (ha : A = fun _ _ => 0) (hz : Z = fun _ _ => ⊥)
  | zero (hz : Z = fun _ _ => 0)

section state
variable {A Z : Mat} (h : State A Z)
include h

theorem State.ne_top (i j : Fin 64) : Z i j ≠ ⊤ := by
  rcases h with ⟨ha, hz⟩ | ⟨ha, hz⟩ | ⟨hz⟩
  · exact hz.ne_top i j
  · rw [hz]; exact bot_ne_top
  · rw [hz]; exact EReal.zero_ne_top

theorem State.first_fits : Fits A Z := fun i k j => by
  rcases h with ⟨ha, hz⟩ | ⟨ha, hz⟩ | ⟨hz⟩
  · exact ha.fits hz i k j
  · rw [ha]; exact Or.inr (Or.inl rfl)
  · rw [hz]; exact Or.inr (Or.inr rfl)

theorem State.first_real : IsReal (mul A Z) := by
  rcases h with ⟨ha, hz⟩ | ⟨ha, hz⟩ | ⟨hz⟩
  · exact ha.mul hz
  · rw [ha, mul_zero_left]; exact IsReal.zero
  · rw [hz, mul_zero_right]; exact IsReal.zero

theorem State.quarter_ne_top (i j : Fin 64) : quarter Z i j ≠ ⊤ := by
  rcases h with ⟨ha, hz⟩ | ⟨ha, hz⟩ | ⟨hz⟩
  · exact hz.quarter.ne_top i j
  · rw [hz, quarter_bot]; exact bot_ne_top
  · rw [hz, quarter_zero]; exact EReal.zero_ne_top

theorem State.last_fits {W : Mat} (hw : IsReal W) : Fits (quarter Z) W := fun i k j => Or.inl ⟨h.quarter_ne_top i k, hw.ne_top k j⟩

theorem State.newton : State A (newton A Z) := by
  rcases h with ⟨ha, hz⟩ | ⟨ha, hz⟩ | ⟨hz⟩
  · have az := ha.mul hz
    exact .real ha (hz.quarter.mul ((az.mul ((az.mul (az.less 7)).less 15)).less 13))
  · refine .none ha ?_
    unfold Inverse.newton
    rw [ha, hz, mul_zero_left, mul_zero_left, quarter_bot]
    funext i j
    unfold mul
    rw [← Finset.add_sum_erase _ _ (Finset.mem_univ j)]
    have e : (⊥ : EReal) * less 13 (fun _ _ => 0) j j = ⊥ := by
      unfold less
      rw [if_pos rfl, sub_zero, ← EReal.coe_mul]
      exact EReal.bot_mul_of_pos (by exact_mod_cast (by norm_num : (0 : ℝ) < 13 * 1))
    rw [e, EReal.bot_add]
  · refine .zero ?_
    unfold Inverse.newton
    rw [hz, quarter_zero, mul_zero_left]

end state

theorem rowSum_zero : rowSum (fun _ _ => 0) = fun _ => 0 := by funext i; unfold rowSum; exact Finset.sum_const_zero
theorem colSum_zero : colSum (fun _ _ => 0) = fun _ => 0 := by funext i; unfold colSum; exact Finset.sum_const_zero
theorem top_zero : top (fun _ => 0) = 0 := by
  refine le_antisymm ((Finset.fold_max_le _).2 ⟨bot_le, fun _ _ => le_rfl⟩) (le_top (fun _ => 0) 0)

/-- The largest of 64 real numbers is one of them. -/
theorem exists_top (f : Fin 64 → EReal) : ∃ i, top f = f i := by
  obtain ⟨i, -, hi⟩ := Finset.exists_max_image Finset.univ f ⟨0, Finset.mem_univ _⟩
  exact ⟨i, le_antisymm ((Finset.fold_max_le _).2 ⟨bot_le, hi⟩) (le_top f i)⟩

section nonnegative
variable {A : Mat} (h0 : ∀ i j, 0 ≤ A i j)
include h0

theorem le_rowSum (i j : Fin 64) : A i j ≤ rowSum A i := Finset.single_le_sum (f := fun j => A i j) (fun j _ => h0 i j) (Finset.mem_univ j)
theorem le_colSum (i j : Fin 64) : A i j ≤ colSum A j := Finset.single_le_sum (f := fun i => A i j) (fun i _ => h0 i j) (Finset.mem_univ i)
theorem le_topRow (i j : Fin 64) : A i j ≤ top (rowSum A) := (le_rowSum h0 i j).trans (le_top _ i)
theorem le_topCol (i j : Fin 64) : A i j ≤ top (colSum A) := (le_colSum h0 i j).trans (le_top _ j)
theorem topCol_nonneg : 0 ≤ top (colSum A) := (h0 0 0).trans (le_topCol h0 0 0)

/-- The starting iterate of a matrix without negative entries. -/
theorem start_state : State A (start A) := by
  by_cases hi : ∃ i j, A i j = ⊤
  · obtain ⟨i, j, hij⟩ := hi
    have hr : top (rowSum A) = ⊤ := top_le_iff.1 (hij ▸ le_topRow h0 i j)
    have hc : top (colSum A) = ⊤ := top_le_iff.1 (hij ▸ le_topCol h0 i j)
    refine .zero ?_
    funext a b
    unfold start scale
    rw [hr, hc, EReal.top_mul_top, Ideal.div, if_neg EReal.top_ne_zero, EReal.inv_top, mul_zero]
  · by_cases hz : A = fun _ _ => 0
    · refine .none hz ?_
      funext a b
      unfold start scale
      rw [hz, colSum_zero, top_zero, zero_mul, Ideal.div, if_pos rfl, if_neg (lt_irrefl _)]
    · have hA : IsReal A := ⟨fun i j => (A i j).toReal, fun i j =>
        (EReal.coe_toReal (fun e => hi ⟨i, j, e⟩) (fun e => absurd (e ▸ h0 i j) (by simp))).symm⟩
      obtain ⟨i, j, hij⟩ : ∃ i j, 0 < A i j := by
        by_contra hn
        refine hz (funext fun i => funext fun j => le_antisymm ?_ (h0 i j))
        exact not_lt.1 fun h => hn ⟨i, j, h⟩
      obtain ⟨R, hR⟩ := hA
      obtain ⟨p, hp⟩ := exists_top (colSum A)
      obtain ⟨q, hq⟩ := exists_top (rowSum A)
      have ec : top (colSum A) = ((∑ i, R i p : ℝ) : EReal) := by
        rw [hp, ← coe_sum]; exact Finset.sum_congr rfl fun i _ => hR i p
      have er : top (rowSum A) = ((∑ j, R q j : ℝ) : EReal) := by
        rw [hq, ← coe_sum]; exact Finset.sum_congr rfl fun j _ => hR q j
      have pc : 0 < ∑ i, R i p := by exact_mod_cast ec ▸ hij.trans_le (le_topCol h0 i j)
      have pr : 0 < ∑ j, R q j := by exact_mod_cast er ▸ hij.trans_le (le_topRow h0 i j)
      refine .real ⟨R, hR⟩ ⟨fun a b => R b a * (1 / ((∑ i, R i p) * ∑ j, R q j)), fun a b => ?_⟩
      unfold start scale
      rw [ec, er, ← EReal.coe_mul, Ideal.div_coe (mul_pos pc pr).ne', hR, ← EReal.coe_mul]

end nonnegative

theorem iterate_state {A Z : Mat} (h : State A Z) (k : ℕ) : State A ((newton A)^[k] Z) := by
  induction k with
  | zero => exact h
  | succ k ih => rw [Function.iterate_succ_apply']; exact ih.newton

end Cert.Inverse

end
-- ==== Proof.Pinv.StepValue.lean ====
/- One trip over the extended reals: where the products survive the splitting it is the iteration's step, head by head. -/
module

public import proofs.«01_k».proof.Proof.Pinv.Start
public import proofs.«01_k».proof.Proof.Pinv.Heads
public import Idealize.ShloMosaic.Lib.Pointwise
public import Idealize.ShloMosaic.PureOps.IdealRules

@[expose] public section

set_option maxRecDepth 65536

noncomputable section

namespace Cert.PinvIdeal.Invert

open Cert.PinvIdeal Cert.PinvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Inverse (Mat)

/-- Lane `j` of head `n`. -/
abbrev lane (n : Fin 4) (j : Fin 64) : Fin 256 := ⟨n.val * 64 + j.val, by omega⟩

/-- A block holds four matrices side by side. -/
def Has (x : FVec Ideal S64x256 .f32) (M : Fin 4 → Mat) : Prop := ∀ n i j, x (ix2 i (lane n j)) = M n i j

theorem exists_lane (l : Fin 256) : ∃ n j, l = lane n j :=
  ⟨⟨l.val / 64, by omega⟩, ⟨l.val % 64, by omega⟩, Fin.ext (by show l.val = l.val / 64 * 64 + l.val % 64; omega)⟩

theorem word7 : Ideal.ofBits .f32 0x40E00000#32 = ((7 : ℝ) : EReal) := by
  simp [Ideal.ofBits, Ideal.ieee, -EReal.coe_mul]; norm_num
theorem word15 : Ideal.ofBits .f32 0x41700000#32 = ((15 : ℝ) : EReal) := by
  simp [Ideal.ofBits, Ideal.ieee, -EReal.coe_mul]; norm_num
theorem word13 : Ideal.ofBits .f32 0x41500000#32 = ((13 : ℝ) : EReal) := by
  simp [Ideal.ofBits, Ideal.ieee, -EReal.coe_mul]; norm_num
theorem quarter_word : Ideal.ofBits .f32 0x3E800000#32 = ((1 / 4 : ℝ) : EReal) := by
  simp [Ideal.ofBits, Ideal.ieee, -EReal.coe_mul]; norm_num

theorem mask_apply (q : Fin 4) (i : Fin 64) (l : Fin 256) :
    mask (BitVec.ofNat 32 q.val) (ix2 i l) = if l.val / 64 = q.val then 1#1 else 0#1 := by
  pointwise [mask, k0_pay176]
  revert q l
  decide +kernel

theorem on_apply (q : Fin 4) (i : Fin 64) (l : Fin 256) :
    on (BitVec.ofNat 32 q.val) (ix2 i l) = if l.val / 64 = q.val then 1#1 else 0#1 := by
  pointwise [on, k0_pay185]
  revert q l
  decide +kernel

theorem select_bit (p : Prop) [Decidable p] (a b : EReal) : Scalar.select (if p then 1#1 else 0#1) a b = if p then a else b := by
  split <;> rfl

theorem eyes_word (i : Fin 64) (l : Fin 256) : (IntOp.cmpi CmpIPredicate.eq (BitVec.ofNat 32 i.val)
        (Scalar.select
          (IntOp.andi
            (IntOp.xori
              (IntOp.cmpi CmpIPredicate.slt
                (IntOp.remsi ArithUnit.vector (BitVec.ofNat 32 l.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 l.val)
                (Scalar.select (Scalar.cmpi CmpIPredicate.eq 64#32 0#32) 1#32 64#32))
              0#32))
          (IntOp.addi
            (IntOp.remsi ArithUnit.vector (BitVec.ofNat 32 l.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 l.val)
            (Scalar.select (Scalar.cmpi CmpIPredicate.eq 64#32 0#32) 1#32 64#32)))) = if i.val = l.val % 64 then 1#1 else 0#1 := by
  revert i l
  decide +kernel

theorem eyes_apply (i : Fin 64) (n : Fin 4) (j : Fin 64) :
    eyes (F := Ideal) (ix2 i (lane n j)) = ((if i = j then 1 else 0 : ℝ) : EReal) := by
  pointwise [eyes, k0_pay184, k0_pay181, k0_pay182, k0_pay183]
  refine (congrArg (fun w => Scalar.select w (1 : EReal) 0) (eyes_word i (lane n j))).trans ?_
  rw [select_bit]
  have e : (i.val = (n.val * 64 + j.val) % 64) ↔ i = j := by rw [Fin.ext_iff]; omega
  simp only [e]
  split <;> simp

theorem hi_apply (x : FVec Ideal S64x256 .f32) (y : S64x256.Idx) : hi x y = x y := by pointwise [hi]
theorem rest_apply (x : FVec Ideal S64x256 .f32) (y : S64x256.Idx) : rest x y = x y - x y := by pointwise [rest, hi]

theorem rows_apply (p : FVec Ideal S64x256 .bf16) (q : Fin 4) (k : Fin 64) (l : Fin 256) :
    rows (mask 0#32) (mask 1#32) (mask 2#32) (mask 3#32) p (ix2 (lane q k) l) = if l.val / 64 = q.val then p (ix2 k l) else 0 := by
  have h0 := mask_apply 0 k l
  have h1 := mask_apply 1 k l
  have h2 := mask_apply 2 k l
  have h3 := mask_apply 3 k l
  fin_cases q
  · pointwise [rows]
    exact (congrArg (fun w => Scalar.select w (p (ix2 k l) : EReal) 0) h0).trans (select_bit _ _ _)
  · pointwise [rows]
    exact (congrArg (fun w => Scalar.select w (p (ix2 k l) : EReal) 0) h1).trans (select_bit _ _ _)
  · pointwise [rows]
    rw [dif_neg (by omega), dif_neg (by omega), dif_pos (by omega)]
    have e : (⟨128 + k.val - 64 - 64, by omega⟩ : Fin 64) = k := Fin.ext (by simp only; omega)
    simp only [e]
    exact (congrArg (fun w => Scalar.select w (p (ix2 k l) : EReal) 0) h2).trans (select_bit _ _ _)
  · pointwise [rows]
    rw [dif_neg (by omega), dif_neg (by omega), dif_neg (by omega)]
    have e : (⟨192 + k.val - 64 - 64 - 64, by omega⟩ : Fin 64) = k := Fin.ext (by simp only; omega)
    simp only [e]
    exact (congrArg (fun w => Scalar.select w (p (ix2 k l) : EReal) 0) h3).trans (select_bit _ _ _)

theorem dot_apply (x : FVec Ideal S64x256 .bf16) (y : FVec Ideal S256x256 .bf16) (i : Fin 64) (l : Fin 256) :
    dot x y (ix2 i l) = ∑ k : Fin 256, x (ix2 i k) * y (ix2 k l) := by
  pointwise [dot]

theorem sum_lanes (f : Fin 256 → EReal) : ∑ k, f k = ∑ q : Fin 4, ∑ k : Fin 64, f (lane q k) := by
  rw [← Fintype.sum_prod_type (f := fun p : Fin 4 × Fin 64 => f (lane p.1 p.2))]
  refine (Fintype.sum_equiv (finProdFinEquiv (m := 4) (n := 64)) _ _ fun p => ?_).symm
  refine congrArg f (Fin.ext ?_)
  show p.1.val * 64 + p.2.val = p.2.val + 64 * p.1.val
  omega

theorem dot_rows (x p : FVec Ideal S64x256 .bf16) (i : Fin 64) (n : Fin 4) (j : Fin 64) :
    dot x (rows (mask 0#32) (mask 1#32) (mask 2#32) (mask 3#32) p) (ix2 i (lane n j)) = ∑ k, x (ix2 i (lane n k)) * p (ix2 k (lane n j)) := by
  rw [dot_apply, sum_lanes, Finset.sum_eq_single n]
  · refine Finset.sum_congr rfl fun k _ => ?_
    rw [rows_apply, if_pos (by simp only; omega)]
  · intro q _ hq
    refine Finset.sum_eq_zero fun k _ => ?_
    rw [rows_apply, if_neg (fun h => hq (Fin.ext (by simp only at h; omega))), mul_zero]
  · intro h; exact absurd (Finset.mem_univ _) h

theorem six_apply (x0 x1 x2 : FVec Ideal S64x256 .bf16) (y0 y1 y2 : FVec Ideal S256x256 .bf16) (y : S64x256.Idx) :
    six x0 x1 x2 y0 y1 y2 y = ((dot x0 y2 y + dot x1 y1 y) + dot x2 y0 y) + (dot x0 y1 y + dot x1 y0 y) + dot x0 y0 y := by
  pointwise [six]

/-- The six sums of products of parts are the sum of the products. -/
theorem six_sums {n : ℕ} (f g : Fin n → EReal) (h : ∀ k, Cert.Inverse.Fit (f k) (g k)) :
    ((∑ k, f k * ((g k - g k) - (g k - g k)) + ∑ k, (f k - f k) * (g k - g k)) + ∑ k, ((f k - f k) - (f k - f k)) * g k)
      + (∑ k, f k * (g k - g k) + ∑ k, (f k - f k) * g k) + ∑ k, f k * g k = ∑ k, f k * g k := by
  simp only [← Finset.sum_add_distrib]
  exact Finset.sum_congr rfl fun k _ => Cert.Inverse.six_parts (h k)

/-- The product of two blocks. -/
theorem mm_heads {x y : FVec Ideal S64x256 .f32} {X Y : Fin 4 → Mat} (hx : Has x X) (hy : Has y Y) (hf : ∀ n, Cert.Inverse.Fits (X n) (Y n)) :
    Has (mm (mask 0#32) (mask 1#32) (mask 2#32) (mask 3#32) (hi x) (hi (rest x)) (hi (rest (rest x))) y) (fun n => Cert.Inverse.mul (X n) (Y n)) := by
  intro n i j
  unfold mm
  rw [six_apply]
  simp only [dot_rows, hi_apply, rest_apply, hx n, hy n]
  exact six_sums (fun k => X n i k) (fun k => Y n k j) fun k => hf n i k j

theorem less_heads {y : FVec Ideal S64x256 .f32} {Y : Fin 4 → Mat} (hy : Has y Y) (w : BitVec 32) (r : ℝ) (hw : Ideal.ofBits .f32 w = (r : EReal)) :
    Has (subf (mulf (broadcast S64x256 (Scalar.ofBits .f32 w)) eyes) y) (fun n => Cert.Inverse.less r (Y n)) := by
  intro n i j
  have e := eyes_apply i n j
  have h := hy n i j
  pointwise
  rw [e, h, hw]
  rfl

theorem quarter_heads {y : FVec Ideal S64x256 .f32} {Y : Fin 4 → Mat} (hy : Has y Y) :
    Has (mulf (broadcast S64x256 (Scalar.ofBits .f32 0x3E800000#32)) y) (fun n => Cert.Inverse.quarter (Y n)) := by
  intro n i j
  have h := hy n i j
  pointwise
  rw [h, quarter_word]
  rfl

/-- One step. -/
theorem newton_heads {a z : FVec Ideal S64x256 .f32} {A Z : Fin 4 → Mat} (ha : Has a A) (hz : Has z Z) (hs : ∀ n, Cert.Inverse.State (A n) (Z n)) :
    Has (newton (mask 0#32) (mask 1#32) (mask 2#32) (mask 3#32) eyes (hi a) (hi (rest a)) (hi (rest (rest a))) z) (fun n => Cert.Inverse.newton (A n) (Z n)) :=
  have az := mm_heads ha hz fun n => (hs n).first_fits
  have r n := (hs n).first_real
  have t := mm_heads az (less_heads az _ 7 word7) fun n => (r n).fits ((r n).less 7)
  have r1 n := ((r n).mul ((r n).less 7)).less 15
  have u := mm_heads az (less_heads t _ 15 word15) fun n => (r n).fits (r1 n)
  mm_heads (quarter_heads hz) (less_heads u _ 13 word13) fun n => (hs n).last_fits (((r n).mul (r1 n)).less 13)

/-- Any number of steps. -/
theorem iter_heads {a b c d z0 z1 z2 z3 : FVec Ideal S64x256 .f32} {A B C D Z0 Z1 Z2 Z3 : Fin 4 → Mat} (ha : Has a A) (hb : Has b B) (hc : Has c C) (hd : Has d D)
    (h0 : Has z0 Z0) (h1 : Has z1 Z1) (h2 : Has z2 Z2) (h3 : Has z3 Z3)
    (s0 : ∀ n, Cert.Inverse.State (A n) (Z0 n)) (s1 : ∀ n, Cert.Inverse.State (B n) (Z1 n)) (s2 : ∀ n, Cert.Inverse.State (C n) (Z2 n)) (s3 : ∀ n, Cert.Inverse.State (D n) (Z3 n)) (k : ℕ) :
    Has ((tripOf a b c d)^[k] (z0, z1, z2, z3)).1 (fun n => (Cert.Inverse.newton (A n))^[k] (Z0 n))
    ∧ Has ((tripOf a b c d)^[k] (z0, z1, z2, z3)).2.1 (fun n => (Cert.Inverse.newton (B n))^[k] (Z1 n))
    ∧ Has ((tripOf a b c d)^[k] (z0, z1, z2, z3)).2.2.1 (fun n => (Cert.Inverse.newton (C n))^[k] (Z2 n))
    ∧ Has ((tripOf a b c d)^[k] (z0, z1, z2, z3)).2.2.2 (fun n => (Cert.Inverse.newton (D n))^[k] (Z3 n)) := by
  induction k with
  | zero => exact ⟨h0, h1, h2, h3⟩
  | succ k ih =>
    obtain ⟨i0, i1, i2, i3⟩ := ih
    simp only [Function.iterate_succ_apply']
    exact ⟨newton_heads ha i0 fun n => Cert.Inverse.iterate_state (s0 n) k, newton_heads hb i1 fun n => Cert.Inverse.iterate_state (s1 n) k,
      newton_heads hc i2 fun n => Cert.Inverse.iterate_state (s2 n) k, newton_heads hd i3 fun n => Cert.Inverse.iterate_state (s3 n) k⟩

theorem trips6 : k0_t1_loop.trips = 6 := by decide +kernel

end Cert.PinvIdeal.Invert

end
-- ==== Proof.Pinv.StartValue.lean ====
/- The starting iterate over the extended reals: on blocks without negative entries it is the transpose over the scale, head by head. -/
module

public import proofs.«01_k».proof.Proof.Pinv.StepValue

@[expose] public section

set_option maxRecDepth 65536

noncomputable section

namespace Cert.PinvIdeal.Invert

open Cert.PinvIdeal Cert.PinvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Inverse (Mat)

section quads
variable (x : Vec Ideal S4x64x256 .f32) (i : Fin 64) (l : Fin 256)
theorem quad0_apply : quad0 x (ix2 i l) = x (ix3 0 i l) := by pointwise [quad0]
theorem quad1_apply : quad1 x (ix2 i l) = x (ix3 1 i l) := by pointwise [quad1]
theorem quad2_apply : quad2 x (ix2 i l) = x (ix3 2 i l) := by pointwise [quad2]
theorem quad3_apply : quad3 x (ix2 i l) = x (ix3 3 i l) := by pointwise [quad3]
end quads

theorem turned_apply (a : FVec Ideal S64x256 .f32) (n : Fin 4) (i j : Fin 64) : turned a (ix2 i (lane n j)) = a (ix2 j (lane n i)) := by
  fin_cases n
  · pointwise [turned]
    exact congrArg (fun p => a (ix2 j p)) (Fin.ext (by simp only [lane]; omega))
  · pointwise [turned]
    exact congrArg (fun p => a (ix2 j p)) (Fin.ext (by simp only [lane]; omega))
  · pointwise [turned]
    rw [dif_neg (by omega), dif_neg (by omega), dif_pos (by omega)]
    exact congrArg₂ (fun q p => a (ix2 q p)) (Fin.ext (by simp only; omega)) (Fin.ext (by simp only [lane]; omega))
  · pointwise [turned]
    rw [dif_neg (by omega), dif_neg (by omega), dif_neg (by omega)]
    exact congrArg₂ (fun q p => a (ix2 q p)) (Fin.ext (by simp only; omega)) (Fin.ext (by simp only [lane]; omega))

/-- The word of minus infinity is the least extended real. -/
theorem ofBits_negInf : Ideal.ofBits .f32 0xFF800000#32 = ⊥ := by
  simp [Ideal.ofBits, Ideal.ieee]

theorem on_lane (q n : Fin 4) (i j : Fin 64) (a b : EReal) :
    Scalar.select (on (BitVec.ofNat 32 q.val) (ix2 i (lane n j))) a b = if n = q then a else b := by
  rw [on_apply, select_bit]
  have e : ((n.val * 64 + j.val) / 64 = q.val) ↔ n = q := by rw [Fin.ext_iff]; omega
  simp only [e]

section scales
variable {a : FVec Ideal S64x256 .f32} {A : Fin 4 → Mat} (ha : Has a A)
include ha

theorem rowmax_head (q : Fin 4) : rowmax (BitVec.ofNat 32 q.val) a (ix2 0 0) = Cert.Inverse.top (Cert.Inverse.rowSum (A q)) := by
  pointwise [rowmax]
  rw [ofBits_negInf]
  refine congrArg (fun f => Finset.fold max (⊥ : EReal) f Finset.univ) (funext fun i => ?_)
  rw [sum_lanes, Finset.sum_eq_single q]
  · unfold Cert.Inverse.rowSum
    refine Finset.sum_congr rfl fun j _ => ?_
    exact (on_lane q q i j _ _).trans ((if_pos rfl).trans (ha q i j))
  · intro n _ hn
    refine Finset.sum_eq_zero fun j _ => ?_
    exact (on_lane q n i j _ _).trans (if_neg hn)
  · intro h; exact absurd (Finset.mem_univ _) h

variable (hp : ∀ n i j, 0 ≤ A n i j)
include hp

theorem colmax_head (q : Fin 4) : colmax (BitVec.ofNat 32 q.val) a (ix2 0 0) = Cert.Inverse.top (Cert.Inverse.colSum (A q)) := by
  pointwise [colmax, colsum]
  rw [ofBits_negInf]
  have hsum : ∀ n j, ∑ i : Fin 64, a (ix2 i (lane n j)) = Cert.Inverse.colSum (A n) j := fun n j =>
    Finset.sum_congr rfl fun i _ => ha n i j
  refine Cert.Inverse.fold_max_eq _ _ (fun l => ?_) (fun j => ⟨lane q j, ?_⟩)
  · obtain ⟨n, j, rfl⟩ := exists_lane l
    refine le_of_eq_of_le (on_lane q n 0 j _ _) ?_
    split
    · next h => rw [h, hsum]; exact Cert.Inverse.le_top _ j
    · exact Cert.Inverse.topCol_nonneg (hp q)
  · exact (on_lane q q 0 j _ _).trans ((if_pos rfl).trans (hsum q j))

theorem scaled_apply (q n : Fin 4) (prev : FVec Ideal S64x256 .f32) (i j : Fin 64) :
    scaled (BitVec.ofNat 32 q.val) a prev (ix2 i (lane n j)) = if n = q then Cert.Inverse.scale (A q) else prev (ix2 i (lane n j)) := by
  have hr := rowmax_head ha q
  have hc := colmax_head ha hp q
  pointwise [scaled]
  rw [hr, hc]
  exact on_lane q n i j _ _

theorem scale_head (n : Fin 4) (i j : Fin 64) : scale a (ix2 i (lane n j)) = Cert.Inverse.scale (A n) := by
  unfold scale
  refine (scaled_apply ha hp 3 n _ i j).trans ?_
  split
  · next h => rw [h]
  · refine (scaled_apply ha hp 2 n _ i j).trans ?_
    split
    · next h => rw [h]
    · refine (scaled_apply ha hp 1 n _ i j).trans ?_
      split
      · next h => rw [h]
      · refine (scaled_apply ha hp 0 n _ i j).trans ?_
        rw [if_pos (by omega), show n = 0 by omega]

/-- The starting iterate. -/
theorem start_heads : Has (start a) (fun n => Cert.Inverse.start (A n)) := by
  intro n i j
  have ht := turned_apply a n i j
  have hs := scale_head ha hp n i j
  pointwise [start]
  rw [ht, hs, ha n j i]
  rfl

end scales

/-- The four iterates after the loop. -/
theorem iterates_heads (x : Vec Ideal S4x64x256 .f32) (A : Fin 4 → Fin 4 → Mat) (hx : ∀ g n i j, x (ix3 g i (lane n j)) = A g n i j) (hp : ∀ g n i j, 0 ≤ A g n i j) :
    Has (iterates x).1 (fun n => Cert.Inverse.inverse (A 0 n)) ∧ Has (iterates x).2.1 (fun n => Cert.Inverse.inverse (A 1 n))
    ∧ Has (iterates x).2.2.1 (fun n => Cert.Inverse.inverse (A 2 n)) ∧ Has (iterates x).2.2.2 (fun n => Cert.Inverse.inverse (A 3 n)) := by
  have q0 : Has (quad0 x) (A 0) := fun n i j => (quad0_apply x i _).trans (hx 0 n i j)
  have q1 : Has (quad1 x) (A 1) := fun n i j => (quad1_apply x i _).trans (hx 1 n i j)
  have q2 : Has (quad2 x) (A 2) := fun n i j => (quad2_apply x i _).trans (hx 2 n i j)
  have q3 : Has (quad3 x) (A 3) := fun n i j => (quad3_apply x i _).trans (hx 3 n i j)
  unfold iterates iterOf Cert.Inverse.inverse
  rw [trips6]
  exact iter_heads q0 q1 q2 q3 (start_heads q0 (hp 0)) (start_heads q1 (hp 1)) (start_heads q2 (hp 2)) (start_heads q3 (hp 3))
    (fun n => Cert.Inverse.start_state (hp 0 n)) (fun n => Cert.Inverse.start_state (hp 1 n)) (fun n => Cert.Inverse.start_state (hp 2 n)) (fun n => Cert.Inverse.start_state (hp 3 n)) 6

end Cert.PinvIdeal.Invert

end
-- ==== Proof.Pinv.BlockValue.lean ====
/- The two output blocks over the extended reals, head by head: the sixth iterate of every head, and its product with the landmark values. -/
module

public import proofs.«01_k».proof.Proof.Pinv.StartValue
public import Idealize.ShloMosaic.Lib.Pipeline.ValueKit

@[expose] public section

set_option maxRecDepth 65536

noncomputable section

namespace Cert.PinvIdeal.Invert

open Cert.PinvIdeal Cert.PinvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Inverse (Mat)

/-- The block of inverses. -/
def zVal (B : Fin 4 → Fin 4 → Mat) (y : S4x4x64x64.Idx) : EReal := B (y 0) (y 1) (y 2) (y 3)

/-- The block of products. -/
def bVal (B : Fin 4 → Fin 4 → Mat) (V : Fin 4 → Fin 4 → Fin 64 → Fin 128 → EReal) (y : S4x4x64x128.Idx) : EReal :=
  ∑ k : Fin 64, B (y 0) (y 1) (y 2) k * V (y 0) (y 1) k (y 3)

theorem exists_ij (x : S1x1x64x64.Idx) : ∃ i j : Fin 64, x = ix4 0 0 i j :=
  ⟨x 2, x 3, by rw [eq_ix4 x]; congr 1 <;> exact Subsingleton.elim (α := Fin 1) _ _⟩
theorem exists_nid (x : S1x4x64x128.Idx) : ∃ (n : Fin 4) (i : Fin 64) (d : Fin 128), x = ix4 0 n i d :=
  ⟨x 1, x 2, x 3, by rw [eq_ix4 x]; congr 1; exact Subsingleton.elim (α := Fin 1) _ _⟩

section products

theorem hiB_apply (x : FVec Ideal S256x128 .f32) (y : S256x128.Idx) : hiB x y = x y := by pointwise [hiB]
theorem restB_apply (x : FVec Ideal S256x128 .f32) (y : S256x128.Idx) : restB x y = x y - x y := by pointwise [restB, hiB]

theorem dotB_apply (x : FVec Ideal S256x256 .bf16) (y : FVec Ideal S256x128 .bf16) (l : Fin 256) (d : Fin 128) :
    dotB x y (ix2 l d) = ∑ k : Fin 256, x (ix2 l k) * y (ix2 k d) := by
  pointwise [dotB]

theorem dotB_rows (p : FVec Ideal S64x256 .bf16) (y : FVec Ideal S256x128 .bf16) (n : Fin 4) (i : Fin 64) (d : Fin 128) :
    dotB (rows (mask 0#32) (mask 1#32) (mask 2#32) (mask 3#32) p) y (ix2 (lane n i) d) = ∑ k, p (ix2 i (lane n k)) * y (ix2 (lane n k) d) := by
  rw [dotB_apply, sum_lanes, Finset.sum_eq_single n]
  · refine Finset.sum_congr rfl fun k _ => ?_
    rw [rows_apply, if_pos (by simp only; omega)]
  · intro q _ hq
    refine Finset.sum_eq_zero fun k _ => ?_
    rw [rows_apply, if_neg (fun h => hq (Fin.ext (by simp only at h; omega))), zero_mul]
  · intro h; exact absurd (Finset.mem_univ _) h

theorem sixB_apply (x0 x1 x2 : FVec Ideal S256x256 .bf16) (y0 y1 y2 : FVec Ideal S256x128 .bf16) (y : S256x128.Idx) :
    sixB x0 x1 x2 y0 y1 y2 y = ((dotB x0 y2 y + dotB x1 y1 y) + dotB x2 y0 y) + (dotB x0 y1 y + dotB x1 y0 y) + dotB x0 y0 y := by
  pointwise [sixB]

theorem prodB_heads {z : FVec Ideal S64x256 .f32} {Z : Fin 4 → Mat} (hz : Has z Z) (v : FVec Ideal S256x128 .f32) (V : Fin 4 → Fin 64 → Fin 128 → EReal)
    (hv : ∀ n k d, v (ix2 (lane n k) d) = V n k d)
    (ht : ∀ n i k, Z n i k ≠ ⊤) (hl : ∀ n k d, V n k d ≠ ⊤) (n : Fin 4) (i : Fin 64) (d : Fin 128) :
    prodB z v (ix2 (lane n i) d) = ∑ k, Z n i k * V n k d := by
  unfold prodB
  rw [sixB_apply]
  simp only [dotB_rows, hi_apply, hiB_apply, rest_apply, restB_apply, hz n, hv n]
  exact six_sums (fun k => Z n i k) (fun k => V n k d) fun k => Or.inl ⟨ht n i k, hl n k d⟩

theorem flat_apply (v : Vec Ideal S1x4x64x128 .f32) (n : Fin 4) (i : Fin 64) (d : Fin 128) :
    (shapeCast S256x128 (shapeCast S4x64x128 v shapeCasts_S1x4x64x128_S4x64x128) shapeCasts_S4x64x128_S256x128 : FVec Ideal S256x128 .f32) (ix2 (lane n i) d) = v (ix4 0 n i d) := by
  pointwise
  exact congrArg₂ (fun p q => v (ix4 0 p q d)) (Fin.ext (by simp only; omega)) (Fin.ext (by simp only; omega))

theorem outB_heads {z : FVec Ideal S64x256 .f32} {Z : Fin 4 → Mat} (hz : Has z Z) (v : Vec Ideal S1x4x64x128 .f32) (V : Fin 4 → Fin 64 → Fin 128 → EReal)
    (hv : ∀ n k d, v (ix4 0 n k d) = V n k d)
    (ht : ∀ n i k, Z n i k ≠ ⊤) (hl : ∀ n k d, V n k d ≠ ⊤) (n : Fin 4) (i : Fin 64) (d : Fin 128) :
    outB z v (ix4 0 n i d) = ∑ k, Z n i k * V n k d := by
  have h := prodB_heads hz _ V (fun n k d => (flat_apply v n k d).trans (hv n k d)) ht hl n i d
  unfold outB
  generalize prodB z _ = P at h ⊢
  pointwise
  exact h

end products

section pieces
variable (B : Fin 4 → Fin 4 → Mat) (V : Fin 4 → Fin 4 → Fin 64 → Fin 128 → EReal)

theorem z_piece_00 (z : FVec Ideal S64x256 .f32) (h : Has z (B 0)) (x : S1x1x64x64.Idx) :
    (shapeCast S1x1x64x64 (extractStridedSlice S64x64 ![0, 0] z slices_S64x256_o0_0_S64x64) shapeCasts_S64x64_S1x1x64x64 : Vec Ideal S1x1x64x64 .f32) x
      = zVal B ((Rect.unit (s := S4x4x64x64) ![0, 0, 0, 0] S1x1x64x64.size inb_S4x4x64x64_S1x1x64x64_0_0_0_0).emb x) := by
  obtain ⟨i, j, rfl⟩ := exists_ij x
  have e : (Rect.unit (s := S4x4x64x64) ![0, 0, 0, 0] S1x1x64x64.size inb_S4x4x64x64_S1x1x64x64_0_0_0_0).emb (ix4 0 0 i j) = ix4 0 0 i j := by
    blk_ext
  rw [e]
  refine Eq.trans ?_ (h 0 i j)
  pointwise
  exact congrArg (fun p => z (ix2 i p)) (Fin.ext (by simp only [lane]; omega))
theorem z_piece_01 (z : FVec Ideal S64x256 .f32) (h : Has z (B 0)) (x : S1x1x64x64.Idx) :
    (shapeCast S1x1x64x64 (extractStridedSlice S64x64 ![0, 64] z slices_S64x256_o0_64_S64x64) shapeCasts_S64x64_S1x1x64x64 : Vec Ideal S1x1x64x64 .f32) x
      = zVal B ((Rect.unit (s := S4x4x64x64) ![0, 1, 0, 0] S1x1x64x64.size inb_S4x4x64x64_S1x1x64x64_0_1_0_0).emb x) := by
  obtain ⟨i, j, rfl⟩ := exists_ij x
  have e : (Rect.unit (s := S4x4x64x64) ![0, 1, 0, 0] S1x1x64x64.size inb_S4x4x64x64_S1x1x64x64_0_1_0_0).emb (ix4 0 0 i j) = ix4 0 1 i j := by
    blk_ext
  rw [e]
  refine Eq.trans ?_ (h 1 i j)
  pointwise
  exact congrArg (fun p => z (ix2 i p)) (Fin.ext (by simp only [lane]; omega))
theorem z_piece_02 (z : FVec Ideal S64x256 .f32) (h : Has z (B 0)) (x : S1x1x64x64.Idx) :
    (shapeCast S1x1x64x64 (extractStridedSlice S64x64 ![0, 128] z slices_S64x256_o0_128_S64x64) shapeCasts_S64x64_S1x1x64x64 : Vec Ideal S1x1x64x64 .f32) x
      = zVal B ((Rect.unit (s := S4x4x64x64) ![0, 2, 0, 0] S1x1x64x64.size inb_S4x4x64x64_S1x1x64x64_0_2_0_0).emb x) := by
  obtain ⟨i, j, rfl⟩ := exists_ij x
  have e : (Rect.unit (s := S4x4x64x64) ![0, 2, 0, 0] S1x1x64x64.size inb_S4x4x64x64_S1x1x64x64_0_2_0_0).emb (ix4 0 0 i j) = ix4 0 2 i j := by
    blk_ext
  rw [e]
  refine Eq.trans ?_ (h 2 i j)
  pointwise
  exact congrArg (fun p => z (ix2 i p)) (Fin.ext (by simp only [lane]; omega))
theorem z_piece_03 (z : FVec Ideal S64x256 .f32) (h : Has z (B 0)) (x : S1x1x64x64.Idx) :
    (shapeCast S1x1x64x64 (extractStridedSlice S64x64 ![0, 192] z slices_S64x256_o0_192_S64x64) shapeCasts_S64x64_S1x1x64x64 : Vec Ideal S1x1x64x64 .f32) x
      = zVal B ((Rect.unit (s := S4x4x64x64) ![0, 3, 0, 0] S1x1x64x64.size inb_S4x4x64x64_S1x1x64x64_0_3_0_0).emb x) := by
  obtain ⟨i, j, rfl⟩ := exists_ij x
  have e : (Rect.unit (s := S4x4x64x64) ![0, 3, 0, 0] S1x1x64x64.size inb_S4x4x64x64_S1x1x64x64_0_3_0_0).emb (ix4 0 0 i j) = ix4 0 3 i j := by
    blk_ext
  rw [e]
  refine Eq.trans ?_ (h 3 i j)
  pointwise
  exact congrArg (fun p => z (ix2 i p)) (Fin.ext (by simp only [lane]; omega))
theorem z_piece_10 (z : FVec Ideal S64x256 .f32) (h : Has z (B 1)) (x : S1x1x64x64.Idx) :
    (shapeCast S1x1x64x64 (extractStridedSlice S64x64 ![0, 0] z slices_S64x256_o0_0_S64x64) shapeCasts_S64x64_S1x1x64x64 : Vec Ideal S1x1x64x64 .f32) x
      = zVal B ((Rect.unit (s := S4x4x64x64) ![1, 0, 0, 0] S1x1x64x64.size inb_S4x4x64x64_S1x1x64x64_1_0_0_0).emb x) := by
  obtain ⟨i, j, rfl⟩ := exists_ij x
  have e : (Rect.unit (s := S4x4x64x64) ![1, 0, 0, 0] S1x1x64x64.size inb_S4x4x64x64_S1x1x64x64_1_0_0_0).emb (ix4 0 0 i j) = ix4 1 0 i j := by
    blk_ext
  rw [e]
  refine Eq.trans ?_ (h 0 i j)
  pointwise
  exact congrArg (fun p => z (ix2 i p)) (Fin.ext (by simp only [lane]; omega))
theorem z_piece_11 (z : FVec Ideal S64x256 .f32) (h : Has z (B 1)) (x : S1x1x64x64.Idx) :
    (shapeCast S1x1x64x64 (extractStridedSlice S64x64 ![0, 64] z slices_S64x256_o0_64_S64x64) shapeCasts_S64x64_S1x1x64x64 : Vec Ideal S1x1x64x64 .f32) x
      = zVal B ((Rect.unit (s := S4x4x64x64) ![1, 1, 0, 0] S1x1x64x64.size inb_S4x4x64x64_S1x1x64x64_1_1_0_0).emb x) := by
  obtain ⟨i, j, rfl⟩ := exists_ij x
  have e : (Rect.unit (s := S4x4x64x64) ![1, 1, 0, 0] S1x1x64x64.size inb_S4x4x64x64_S1x1x64x64_1_1_0_0).emb (ix4 0 0 i j) = ix4 1 1 i j := by
    blk_ext
  rw [e]
  refine Eq.trans ?_ (h 1 i j)
  pointwise
  exact congrArg (fun p => z (ix2 i p)) (Fin.ext (by simp only [lane]; omega))
theorem z_piece_12 (z : FVec Ideal S64x256 .f32) (h : Has z (B 1)) (x : S1x1x64x64.Idx) :
    (shapeCast S1x1x64x64 (extractStridedSlice S64x64 ![0, 128] z slices_S64x256_o0_128_S64x64) shapeCasts_S64x64_S1x1x64x64 : Vec Ideal S1x1x64x64 .f32) x
      = zVal B ((Rect.unit (s := S4x4x64x64) ![1, 2, 0, 0] S1x1x64x64.size inb_S4x4x64x64_S1x1x64x64_1_2_0_0).emb x) := by
  obtain ⟨i, j, rfl⟩ := exists_ij x
  have e : (Rect.unit (s := S4x4x64x64) ![1, 2, 0, 0] S1x1x64x64.size inb_S4x4x64x64_S1x1x64x64_1_2_0_0).emb (ix4 0 0 i j) = ix4 1 2 i j := by
    blk_ext
  rw [e]
  refine Eq.trans ?_ (h 2 i j)
  pointwise
  exact congrArg (fun p => z (ix2 i p)) (Fin.ext (by simp only [lane]; omega))
theorem z_piece_13 (z : FVec Ideal S64x256 .f32) (h : Has z (B 1)) (x : S1x1x64x64.Idx) :
    (shapeCast S1x1x64x64 (extractStridedSlice S64x64 ![0, 192] z slices_S64x256_o0_192_S64x64) shapeCasts_S64x64_S1x1x64x64 : Vec Ideal S1x1x64x64 .f32) x
      = zVal B ((Rect.unit (s := S4x4x64x64) ![1, 3, 0, 0] S1x1x64x64.size inb_S4x4x64x64_S1x1x64x64_1_3_0_0).emb x) := by
  obtain ⟨i, j, rfl⟩ := exists_ij x
  have e : (Rect.unit (s := S4x4x64x64) ![1, 3, 0, 0] S1x1x64x64.size inb_S4x4x64x64_S1x1x64x64_1_3_0_0).emb (ix4 0 0 i j) = ix4 1 3 i j := by
    blk_ext
  rw [e]
  refine Eq.trans ?_ (h 3 i j)
  pointwise
  exact congrArg (fun p => z (ix2 i p)) (Fin.ext (by simp only [lane]; omega))
theorem z_piece_20 (z : FVec Ideal S64x256 .f32) (h : Has z (B 2)) (x : S1x1x64x64.Idx) :
    (shapeCast S1x1x64x64 (extractStridedSlice S64x64 ![0, 0] z slices_S64x256_o0_0_S64x64) shapeCasts_S64x64_S1x1x64x64 : Vec Ideal S1x1x64x64 .f32) x
      = zVal B ((Rect.unit (s := S4x4x64x64) ![2, 0, 0, 0] S1x1x64x64.size inb_S4x4x64x64_S1x1x64x64_2_0_0_0).emb x) := by
  obtain ⟨i, j, rfl⟩ := exists_ij x
  have e : (Rect.unit (s := S4x4x64x64) ![2, 0, 0, 0] S1x1x64x64.size inb_S4x4x64x64_S1x1x64x64_2_0_0_0).emb (ix4 0 0 i j) = ix4 2 0 i j := by
    blk_ext
  rw [e]
  refine Eq.trans ?_ (h 0 i j)
  pointwise
  exact congrArg (fun p => z (ix2 i p)) (Fin.ext (by simp only [lane]; omega))
theorem z_piece_21 (z : FVec Ideal S64x256 .f32) (h : Has z (B 2)) (x : S1x1x64x64.Idx) :
    (shapeCast S1x1x64x64 (extractStridedSlice S64x64 ![0, 64] z slices_S64x256_o0_64_S64x64) shapeCasts_S64x64_S1x1x64x64 : Vec Ideal S1x1x64x64 .f32) x
      = zVal B ((Rect.unit (s := S4x4x64x64) ![2, 1, 0, 0] S1x1x64x64.size inb_S4x4x64x64_S1x1x64x64_2_1_0_0).emb x) := by
  obtain ⟨i, j, rfl⟩ := exists_ij x
  have e : (Rect.unit (s := S4x4x64x64) ![2, 1, 0, 0] S1x1x64x64.size inb_S4x4x64x64_S1x1x64x64_2_1_0_0).emb (ix4 0 0 i j) = ix4 2 1 i j := by
    blk_ext
  rw [e]
  refine Eq.trans ?_ (h 1 i j)
  pointwise
  exact congrArg (fun p => z (ix2 i p)) (Fin.ext (by simp only [lane]; omega))
theorem z_piece_22 (z : FVec Ideal S64x256 .f32) (h : Has z (B 2)) (x : S1x1x64x64.Idx) :
    (shapeCast S1x1x64x64 (extractStridedSlice S64x64 ![0, 128] z slices_S64x256_o0_128_S64x64) shapeCasts_S64x64_S1x1x64x64 : Vec Ideal S1x1x64x64 .f32) x
      = zVal B ((Rect.unit (s := S4x4x64x64) ![2, 2, 0, 0] S1x1x64x64.size inb_S4x4x64x64_S1x1x64x64_2_2_0_0).emb x) := by
  obtain ⟨i, j, rfl⟩ := exists_ij x
  have e : (Rect.unit (s := S4x4x64x64) ![2, 2, 0, 0] S1x1x64x64.size inb_S4x4x64x64_S1x1x64x64_2_2_0_0).emb (ix4 0 0 i j) = ix4 2 2 i j := by
    blk_ext
  rw [e]
  refine Eq.trans ?_ (h 2 i j)
  pointwise
  exact congrArg (fun p => z (ix2 i p)) (Fin.ext (by simp only [lane]; omega))
theorem z_piece_23 (z : FVec Ideal S64x256 .f32) (h : Has z (B 2)) (x : S1x1x64x64.Idx) :
    (shapeCast S1x1x64x64 (extractStridedSlice S64x64 ![0, 192] z slices_S64x256_o0_192_S64x64) shapeCasts_S64x64_S1x1x64x64 : Vec Ideal S1x1x64x64 .f32) x
      = zVal B ((Rect.unit (s := S4x4x64x64) ![2, 3, 0, 0] S1x1x64x64.size inb_S4x4x64x64_S1x1x64x64_2_3_0_0).emb x) := by
  obtain ⟨i, j, rfl⟩ := exists_ij x
  have e : (Rect.unit (s := S4x4x64x64) ![2, 3, 0, 0] S1x1x64x64.size inb_S4x4x64x64_S1x1x64x64_2_3_0_0).emb (ix4 0 0 i j) = ix4 2 3 i j := by
    blk_ext
  rw [e]
  refine Eq.trans ?_ (h 3 i j)
  pointwise
  exact congrArg (fun p => z (ix2 i p)) (Fin.ext (by simp only [lane]; omega))
theorem z_piece_30 (z : FVec Ideal S64x256 .f32) (h : Has z (B 3)) (x : S1x1x64x64.Idx) :
    (shapeCast S1x1x64x64 (extractStridedSlice S64x64 ![0, 0] z slices_S64x256_o0_0_S64x64) shapeCasts_S64x64_S1x1x64x64 : Vec Ideal S1x1x64x64 .f32) x
      = zVal B ((Rect.unit (s := S4x4x64x64) ![3, 0, 0, 0] S1x1x64x64.size inb_S4x4x64x64_S1x1x64x64_3_0_0_0).emb x) := by
  obtain ⟨i, j, rfl⟩ := exists_ij x
  have e : (Rect.unit (s := S4x4x64x64) ![3, 0, 0, 0] S1x1x64x64.size inb_S4x4x64x64_S1x1x64x64_3_0_0_0).emb (ix4 0 0 i j) = ix4 3 0 i j := by
    blk_ext
  rw [e]
  refine Eq.trans ?_ (h 0 i j)
  pointwise
  exact congrArg (fun p => z (ix2 i p)) (Fin.ext (by simp only [lane]; omega))
theorem z_piece_31 (z : FVec Ideal S64x256 .f32) (h : Has z (B 3)) (x : S1x1x64x64.Idx) :
    (shapeCast S1x1x64x64 (extractStridedSlice S64x64 ![0, 64] z slices_S64x256_o0_64_S64x64) shapeCasts_S64x64_S1x1x64x64 : Vec Ideal S1x1x64x64 .f32) x
      = zVal B ((Rect.unit (s := S4x4x64x64) ![3, 1, 0, 0] S1x1x64x64.size inb_S4x4x64x64_S1x1x64x64_3_1_0_0).emb x) := by
  obtain ⟨i, j, rfl⟩ := exists_ij x
  have e : (Rect.unit (s := S4x4x64x64) ![3, 1, 0, 0] S1x1x64x64.size inb_S4x4x64x64_S1x1x64x64_3_1_0_0).emb (ix4 0 0 i j) = ix4 3 1 i j := by
    blk_ext
  rw [e]
  refine Eq.trans ?_ (h 1 i j)
  pointwise
  exact congrArg (fun p => z (ix2 i p)) (Fin.ext (by simp only [lane]; omega))
theorem z_piece_32 (z : FVec Ideal S64x256 .f32) (h : Has z (B 3)) (x : S1x1x64x64.Idx) :
    (shapeCast S1x1x64x64 (extractStridedSlice S64x64 ![0, 128] z slices_S64x256_o0_128_S64x64) shapeCasts_S64x64_S1x1x64x64 : Vec Ideal S1x1x64x64 .f32) x
      = zVal B ((Rect.unit (s := S4x4x64x64) ![3, 2, 0, 0] S1x1x64x64.size inb_S4x4x64x64_S1x1x64x64_3_2_0_0).emb x) := by
  obtain ⟨i, j, rfl⟩ := exists_ij x
  have e : (Rect.unit (s := S4x4x64x64) ![3, 2, 0, 0] S1x1x64x64.size inb_S4x4x64x64_S1x1x64x64_3_2_0_0).emb (ix4 0 0 i j) = ix4 3 2 i j := by
    blk_ext
  rw [e]
  refine Eq.trans ?_ (h 2 i j)
  pointwise
  exact congrArg (fun p => z (ix2 i p)) (Fin.ext (by simp only [lane]; omega))
theorem z_piece_33 (z : FVec Ideal S64x256 .f32) (h : Has z (B 3)) (x : S1x1x64x64.Idx) :
    (shapeCast S1x1x64x64 (extractStridedSlice S64x64 ![0, 192] z slices_S64x256_o0_192_S64x64) shapeCasts_S64x64_S1x1x64x64 : Vec Ideal S1x1x64x64 .f32) x
      = zVal B ((Rect.unit (s := S4x4x64x64) ![3, 3, 0, 0] S1x1x64x64.size inb_S4x4x64x64_S1x1x64x64_3_3_0_0).emb x) := by
  obtain ⟨i, j, rfl⟩ := exists_ij x
  have e : (Rect.unit (s := S4x4x64x64) ![3, 3, 0, 0] S1x1x64x64.size inb_S4x4x64x64_S1x1x64x64_3_3_0_0).emb (ix4 0 0 i j) = ix4 3 3 i j := by
    blk_ext
  rw [e]
  refine Eq.trans ?_ (h 3 i j)
  pointwise
  exact congrArg (fun p => z (ix2 i p)) (Fin.ext (by simp only [lane]; omega))

theorem zBlock_heads (x0 : Vec Ideal S4x64x256 .f32) (h0 : Has (iterates x0).1 (B 0)) (h1 : Has (iterates x0).2.1 (B 1))
    (h2 : Has (iterates x0).2.2.1 (B 2)) (h3 : Has (iterates x0).2.2.2 (B 3)) (y : S4x4x64x64.Idx) : zBlock x0 y = zVal B y := by
  unfold zBlock
  refine View.canon_apply_of_pieces (Val := Elt Ideal) (zVal B) _ ?_ y (z_cover _ _ _ _ y)
  unfold zPieces
  simp only [List.forall_mem_cons, List.not_mem_nil, false_imp_iff, implies_true, and_true]
  exact ⟨z_piece_33 B _ h3, z_piece_32 B _ h3, z_piece_31 B _ h3, z_piece_30 B _ h3, z_piece_23 B _ h2, z_piece_22 B _ h2, z_piece_21 B _ h2, z_piece_20 B _ h2, z_piece_13 B _ h1, z_piece_12 B _ h1, z_piece_11 B _ h1, z_piece_10 B _ h1, z_piece_03 B _ h0, z_piece_02 B _ h0, z_piece_01 B _ h0, z_piece_00 B _ h0⟩

variable (x1 : Vec Ideal S4x4x64x128 .f32) (hv : ∀ g n k d, x1 (ix4 g n k d) = V g n k d)
  (ht : ∀ g n i k, B g n i k ≠ ⊤) (hl : ∀ g n k d, V g n k d ≠ ⊤)
include hv ht hl

theorem b_piece_0 (z : FVec Ideal S64x256 .f32) (h : Has z (B 0)) (x : S1x4x64x128.Idx) :
    outB z (View.ld x1 (Rect.unit (s := S4x4x64x128) ![0, 0, 0, 0] S1x4x64x128.size inb_S4x4x64x128_S1x4x64x128_0_0_0_0)) x
      = bVal B V ((Rect.unit (s := S4x4x64x128) ![0, 0, 0, 0] S1x4x64x128.size inb_S4x4x64x128_S1x4x64x128_0_0_0_0).emb x) := by
  obtain ⟨n, i, d, rfl⟩ := exists_nid x
  have e : ∀ n i d, (Rect.unit (s := S4x4x64x128) ![0, 0, 0, 0] S1x4x64x128.size inb_S4x4x64x128_S1x4x64x128_0_0_0_0).emb (ix4 0 n i d) = ix4 0 n i d := by
    intro n i d
    blk_ext
  rw [e]
  refine outB_heads h _ (V 0) (fun n k d => ?_) (ht 0) (hl 0) n i d
  exact (congrArg x1 (e n k d)).trans (hv 0 n k d)
theorem b_piece_1 (z : FVec Ideal S64x256 .f32) (h : Has z (B 1)) (x : S1x4x64x128.Idx) :
    outB z (View.ld x1 (Rect.unit (s := S4x4x64x128) ![1, 0, 0, 0] S1x4x64x128.size inb_S4x4x64x128_S1x4x64x128_1_0_0_0)) x
      = bVal B V ((Rect.unit (s := S4x4x64x128) ![1, 0, 0, 0] S1x4x64x128.size inb_S4x4x64x128_S1x4x64x128_1_0_0_0).emb x) := by
  obtain ⟨n, i, d, rfl⟩ := exists_nid x
  have e : ∀ n i d, (Rect.unit (s := S4x4x64x128) ![1, 0, 0, 0] S1x4x64x128.size inb_S4x4x64x128_S1x4x64x128_1_0_0_0).emb (ix4 0 n i d) = ix4 1 n i d := by
    intro n i d
    blk_ext
  rw [e]
  refine outB_heads h _ (V 1) (fun n k d => ?_) (ht 1) (hl 1) n i d
  exact (congrArg x1 (e n k d)).trans (hv 1 n k d)
theorem b_piece_2 (z : FVec Ideal S64x256 .f32) (h : Has z (B 2)) (x : S1x4x64x128.Idx) :
    outB z (View.ld x1 (Rect.unit (s := S4x4x64x128) ![2, 0, 0, 0] S1x4x64x128.size inb_S4x4x64x128_S1x4x64x128_2_0_0_0)) x
      = bVal B V ((Rect.unit (s := S4x4x64x128) ![2, 0, 0, 0] S1x4x64x128.size inb_S4x4x64x128_S1x4x64x128_2_0_0_0).emb x) := by
  obtain ⟨n, i, d, rfl⟩ := exists_nid x
  have e : ∀ n i d, (Rect.unit (s := S4x4x64x128) ![2, 0, 0, 0] S1x4x64x128.size inb_S4x4x64x128_S1x4x64x128_2_0_0_0).emb (ix4 0 n i d) = ix4 2 n i d := by
    intro n i d
    blk_ext
  rw [e]
  refine outB_heads h _ (V 2) (fun n k d => ?_) (ht 2) (hl 2) n i d
  exact (congrArg x1 (e n k d)).trans (hv 2 n k d)
theorem b_piece_3 (z : FVec Ideal S64x256 .f32) (h : Has z (B 3)) (x : S1x4x64x128.Idx) :
    outB z (View.ld x1 (Rect.unit (s := S4x4x64x128) ![3, 0, 0, 0] S1x4x64x128.size inb_S4x4x64x128_S1x4x64x128_3_0_0_0)) x
      = bVal B V ((Rect.unit (s := S4x4x64x128) ![3, 0, 0, 0] S1x4x64x128.size inb_S4x4x64x128_S1x4x64x128_3_0_0_0).emb x) := by
  obtain ⟨n, i, d, rfl⟩ := exists_nid x
  have e : ∀ n i d, (Rect.unit (s := S4x4x64x128) ![3, 0, 0, 0] S1x4x64x128.size inb_S4x4x64x128_S1x4x64x128_3_0_0_0).emb (ix4 0 n i d) = ix4 3 n i d := by
    intro n i d
    blk_ext
  rw [e]
  refine outB_heads h _ (V 3) (fun n k d => ?_) (ht 3) (hl 3) n i d
  exact (congrArg x1 (e n k d)).trans (hv 3 n k d)

theorem bBlock_heads (x0 : Vec Ideal S4x64x256 .f32) (h0 : Has (iterates x0).1 (B 0)) (h1 : Has (iterates x0).2.1 (B 1))
    (h2 : Has (iterates x0).2.2.1 (B 2)) (h3 : Has (iterates x0).2.2.2 (B 3)) (y : S4x4x64x128.Idx) : bBlock x0 x1 y = bVal B V y := by
  unfold bBlock
  refine View.canon_apply_of_pieces (Val := Elt Ideal) (bVal B V) _ ?_ y (b_cover _ _ _ _ x1 y)
  unfold bPieces
  simp only [List.forall_mem_cons, List.not_mem_nil, false_imp_iff, implies_true, and_true]
  exact ⟨b_piece_3 B V x1 hv ht hl _ h3, b_piece_2 B V x1 hv ht hl _ h2, b_piece_1 B V x1 hv ht hl _ h1, b_piece_0 B V x1 hv ht hl _ h0⟩

end pieces

end Cert.PinvIdeal.Invert

end
-- ==== Proof.Pinv.Run.lean ====
/- The body's run: from the input blocks it ends with the two output blocks, whatever these held. -/
module

public import proofs.«01_k».proof.Proof.Pinv.Start
public import Idealize.ShloMosaic.Lib.WholeRead

@[expose] public section

set_option maxRecDepth 65536

noncomputable section

namespace Cert.PinvIdeal.Invert

open Cert.PinvIdeal Cert.PinvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load from a staging buffer that holds `x` is that part of `x`. -/
theorem ld_eq {e : EltTy} {s : Shape} (arg : Memref sig .tc .vmem s e) (h : arg.IsWhole) (x : Vec F s e) (r : Rect s) :
    View.readAt (Elt F) arg.view r.toLoadRect (h.unread x) = View.ld x r :=
  funext fun y => h.readAt_unread x _ y

section run

variable (c : Dev nD) (i : grid0.Coords) (arg1 : Memref sig .tc .vmem S4x64x256 .f32) (harg1 : arg1.IsWhole) (arg2 : Memref sig .tc .vmem S4x4x64x128 .f32) (harg2 : arg2.IsWhole) (arg3 : Memref sig .tc .vmem S4x4x64x64 .f32) (harg3 : arg3.IsWhole) (arg4 : Memref sig .tc .vmem S4x4x64x128 .bf16) (harg4 : arg4.IsWhole)

set_option warn.classDefReducibility false in
/-- Before trip `k` the carried iterates are `k` steps from the starting ones. -/
@[sl_loop] def newtonInv (E : Set ℕ) (v26 : IVec S64x256 1) (v28 : IVec S64x256 1) (v30 : IVec S64x256 1) (v32 : IVec S64x256 1) (v54 : FVec F S64x256 .f32) (v78 : IVec S64x256 32) (v158 : FVec F S64x256 .f32) (v159 : FVec F S64x256 .bf16) (v162 : FVec F S64x256 .bf16) (v165 : FVec F S64x256 .bf16) (v245 : FVec F S64x256 .f32) (v246 : FVec F S64x256 .bf16) (v249 : FVec F S64x256 .bf16) (v252 : FVec F S64x256 .bf16) (v332 : FVec F S64x256 .f32) (v333 : FVec F S64x256 .bf16) (v336 : FVec F S64x256 .bf16) (v339 : FVec F S64x256 .bf16) (v341 : FVec F S64x256 .f32) (v347 : FVec F S64x256 .f32) (v349 : FVec F S1x256 .f32) (v401 : FVec F S64x256 .f32) (c3_i32_126 : BitVec 32) (init : FVec F S64x256 .f32 × FVec F S64x256 .f32 × FVec F S64x256 .f32 × FVec F S64x256 .f32) :
    LoopInvTy_k0_t1 (F := F) Unit ℕ (UR sig nD τ) ℕ Variants.none c none E i arg1 harg1 arg2 harg2 arg3 harg3 arg4 harg4 v26 v28 v30 v32 v54 v78 v158 v159 v162 v165 v245 v246 v249 v252 v332 v333 v336 v339 v341 v347 v349 v401 c3_i32_126 init where
  inv k acc := iprop(⌜acc = (step v26 v28 v30 v32 v54 v159 v162 v165 v246 v249 v252 v333 v336 v339 (hi v341) (hi (rest v341)) (hi (rest (rest v341))))^[k] init⌝)
  step k acc := by
    rw [trip_eq]
    iintro %h
    sl_step
    ipureintro
    rw [Function.iterate_succ_apply', ← h]

set_option maxHeartbeats 8000000 in
theorem body_run (x0 : Vec F S4x64x256 .f32) (x1 : Vec F S4x4x64x128 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ owns (c : Thread nD τ) arg3 fullShare (zBlock x0) ∗ owns (c : Thread nD τ) arg4 fullShare (bBlock x0 x1)) -∗ K ⟨⟩))
          ⊢ wp frame (wpE (defs₀ (F := F)) Variants.none c none) E (cc0_pinv i arg1 harg1 arg2 harg2 arg3 harg3 arg4 harg4) K := by
  simp only [cc0_pinv_eq_skeleton]; unfold cc0_pinv_skel
  simp only [k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton]
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    have e : arg3.view.writes (Elt F) f2 _ = arg3.view.writes (Elt F) f2 (zPieces (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).1 (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.1 (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.2.1 (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.2.2) := rfl
    refine Eq.trans (congrArg _ e) ?_
    rw [ld_eq, ld_eq, ld_eq, ld_eq]
    exact View.read_writes_eq_canon _ _ _ (z_cover _ _ _ _)
  iexists _; isplitr; swap; · iexact H3
  ipureintro
  have e : arg4.view.writes (Elt F) f3 _ = arg4.view.writes (Elt F) f3
      [⟨(Rect.unit (s := S4x4x64x128) ![3, 0, 0, 0] S1x4x64x128.size inb_S4x4x64x128_S1x4x64x128_3_0_0_0), outB (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.2.2 (View.readAt (Elt F) arg2.view (Rect.unit (s := S4x4x64x128) ![3, 0, 0, 0] S1x4x64x128.size inb_S4x4x64x128_S1x4x64x128_3_0_0_0).toLoadRect (harg2.unread x1))⟩,
        ⟨(Rect.unit (s := S4x4x64x128) ![2, 0, 0, 0] S1x4x64x128.size inb_S4x4x64x128_S1x4x64x128_2_0_0_0), outB (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.2.1 (View.readAt (Elt F) arg2.view (Rect.unit (s := S4x4x64x128) ![2, 0, 0, 0] S1x4x64x128.size inb_S4x4x64x128_S1x4x64x128_2_0_0_0).toLoadRect (harg2.unread x1))⟩,
        ⟨(Rect.unit (s := S4x4x64x128) ![1, 0, 0, 0] S1x4x64x128.size inb_S4x4x64x128_S1x4x64x128_1_0_0_0), outB (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).2.1 (View.readAt (Elt F) arg2.view (Rect.unit (s := S4x4x64x128) ![1, 0, 0, 0] S1x4x64x128.size inb_S4x4x64x128_S1x4x64x128_1_0_0_0).toLoadRect (harg2.unread x1))⟩,
        ⟨(Rect.unit (s := S4x4x64x128) ![0, 0, 0, 0] S1x4x64x128.size inb_S4x4x64x128_S1x4x64x128_0_0_0_0), outB (iterOf (F := F) (shapeCast S64x256 (View.readAt (Elt F) arg1.view (Rect.unit (s := S4x64x256) ![0, 0, 0] S1x64x256.size inb_S4x64x256_S1x64x256_0_0_0).toLoadRect (harg1.unread x0)) shapeCasts_S1x64x256_S64x256) (shapeCast S64x256 (View.readAt (Elt F) arg1.view (Rect.unit (s := S4x64x256) ![1, 0, 0] S1x64x256.size inb_S4x64x256_S1x64x256_1_0_0).toLoadRect (harg1.unread x0)) shapeCasts_S1x64x256_S64x256) (shapeCast S64x256 (View.readAt (Elt F) arg1.view (Rect.unit (s := S4x64x256) ![2, 0, 0] S1x64x256.size inb_S4x64x256_S1x64x256_2_0_0).toLoadRect (harg1.unread x0)) shapeCasts_S1x64x256_S64x256) (shapeCast S64x256 (View.readAt (Elt F) arg1.view (Rect.unit (s := S4x64x256) ![3, 0, 0] S1x64x256.size inb_S4x64x256_S1x64x256_3_0_0).toLoadRect (harg1.unread x0)) shapeCasts_S1x64x256_S64x256)).1 (View.readAt (Elt F) arg2.view (Rect.unit (s := S4x4x64x128) ![0, 0, 0, 0] S1x4x64x128.size inb_S4x4x64x128_S1x4x64x128_0_0_0_0).toLoadRect (harg2.unread x1))⟩] := rfl
  refine Eq.trans (congrArg _ e) ?_
  rw [ld_eq, ld_eq, ld_eq, ld_eq, ld_eq, ld_eq, ld_eq, ld_eq]
  exact View.read_writes_eq_canon _ _ _ (b_cover _ _ _ _ x1)

end run

end Cert.PinvIdeal.Invert

end
-- ==== Proof.Pinv.Launch.lean ====
/- The launch: the pipeline's proof data with the two output blocks named by the point's input blocks, the frame, and the
   output arrays after the run, block by block. -/
module

public import proofs.«01_k».proof.Proof.Pinv.Run
public import proofs.«01_k».proof.Proof.Gen.PinvIdeal.Frame
public import Idealize.ShloMosaic.Lib.Pipeline.Value
public import Idealize.ShloMosaic.Lib.Claim

@[expose] public section

set_option maxRecDepth 65536

noncomputable section

namespace Cert.PinvIdeal.Invert

open Cert.PinvIdeal Cert.PinvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the region finds them; after the body at a point each
    input's buffer at its block and each output's at the block the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => zBlock (iblk m c 0 t)
    | ⟨3, _⟩ => bBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = zBlock (iblk m c 0 t) := by dsimp only [dats]
theorem after0_3 (c : Dev nD) (t : Fin cfg0.N) : (dats m 0 c).after 3 t = bBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
/-- The body at any point: the inputs' memrefs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (body_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) (iblk m c 0 t) (iblk m c 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame, with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-- What point `t` writes back to window 2's array. -/
theorem flushed2 (c : Dev nD) (t : Fin cfg0.N) :
    (dats m 0 c).flushed 2 t = (cfg0.win 2).cut (grid0.coords t) (zBlock (iblk m c 0 t)) := by
  show (cfg0.win 2).cut (grid0.coords t) ((dats m 0 c).after 2 t) = _
  rw [after0_2]

theorem idx_inj2 : ∀ t t' : Fin cfg0.N, win0_2.index t = win0_2.index t' → t = t' :=
  (by decide +kernel : ∀ t t' : Fin grid0.N, win0_2.index t = win0_2.index t' → t = t')

theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- Block `t` of the final array is what point `t` wrote back. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- What point `t` writes back to window 3's array. -/
theorem flushed3 (c : Dev nD) (t : Fin cfg0.N) :
    (dats m 0 c).flushed 3 t = (cfg0.win 3).cut (grid0.coords t) (bBlock (iblk m c 0 t) (iblk m c 1 t)) := by
  show (cfg0.win 3).cut (grid0.coords t) ((dats m 0 c).after 3 t) = _
  rw [after0_3]

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Block `t` of the final array is what point `t` wrote back. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

end Cert.PinvIdeal.Invert

end
-- ==== Proof.Pinv.KernelValue.lean ====
/- The kernel's two results at an index: the sixth iterate of a head, and its product with the landmark values. -/
module

public import proofs.«01_k».proof.Proof.Pinv.BlockValue
public import proofs.«01_k».proof.Proof.Pinv.Launch

@[expose] public section

set_option maxRecDepth 65536

noncomputable section

namespace Cert.PinvIdeal.Invert

open Cert.PinvIdeal Cert.PinvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Inverse (Mat)

theorem index0 : ∀ t : Fin cfg0.N, win0_0.index t = ![(grid0.coords t 0).val, 0, 0] := (by decide +kernel : ∀ t : Fin grid0.N, _)
theorem index1 : ∀ t : Fin cfg0.N, win0_1.index t = ![(grid0.coords t 0).val, 0, 0, 0] := (by decide +kernel : ∀ t : Fin grid0.N, _)
theorem index2 : ∀ t : Fin cfg0.N, win0_2.index t = ![(grid0.coords t 0).val, 0, 0, 0] := (by decide +kernel : ∀ t : Fin grid0.N, _)
theorem index3 : ∀ t : Fin cfg0.N, win0_3.index t = ![(grid0.coords t 0).val, 0, 0, 0] := (by decide +kernel : ∀ t : Fin grid0.N, _)
theorem flushes2 : ∀ t : Fin cfg0.N, (cfg0.win 2).flush t = true := (by decide +kernel : ∀ t : Fin grid0.N, win0_2.flush t = true)
theorem flushes3 : ∀ t : Fin cfg0.N, (cfg0.win 3).flush t = true := (by decide +kernel : ∀ t : Fin grid0.N, win0_3.flush t = true)

/-- The grid point of four groups of heads. -/
theorem exists_point : ∀ (q : Fin 24), ∃ t : Fin cfg0.N, (grid0.coords t 0).val = q.val :=
  fun q => ⟨(⟨q.val, by have : grid0.N = 24 := by decide +kernel
                        omega⟩ : Fin grid0.N), by revert q; decide +kernel⟩

section blocks
variable (m : (ℓ : Loc nD τ sig) → Buf (Elt F) ℓ) (c : Dev nD) (t : Fin cfg0.N) (q : Fin 24) (hq : (grid0.coords t 0).val = q.val)
include hq

theorem blk0 (g : Fin 4) (i : Fin 64) (l : Fin 256) : iblk m c 0 t (ix3 g i l) = V m c main_arg0 (ix3 (⟨q.val * 4 + g.val, by omega⟩ : Fin 96) i l) := by
  blk_simp [iblk]; blk_ext [index0, hq]

theorem blk1 (g n : Fin 4) (i : Fin 64) (d : Fin 128) :
    iblk m c 1 t (ix4 g n i d) = V m c main_arg1 (ix4 (⟨q.val * 4 + g.val, by omega⟩ : Fin 96) n i d) := by
  blk_simp [iblk]; blk_ext [index1, hq]

theorem z_at (g n : Fin 4) (i j : Fin 64) :
    (dats m 0 c).arrAt 2 cfg0.N (ix4 (⟨q.val * 4 + g.val, by omega⟩ : Fin 96) n i j) = zBlock (iblk m c 0 t) (ix4 g n i j) := by
  have h := (dats m 0 c).arrAt_emb_eq_flushed 2 disjoint2 t (flushes2 t) (ix4 g n i j)
  have e : ((cfg0.win 2).blk t).view.emb (ix4 g n i j) = ix4 (⟨q.val * 4 + g.val, by omega⟩ : Fin 96) n i j := by
    blk_ext [index2, hq]
  rw [e] at h
  rw [h]
  blk_simp
  rw [after0_2]

theorem b_at (g n : Fin 4) (i : Fin 64) (d : Fin 128) :
    (dats m 0 c).arrAt 3 cfg0.N (ix4 (⟨q.val * 4 + g.val, by omega⟩ : Fin 96) n i d) = bBlock (iblk m c 0 t) (iblk m c 1 t) (ix4 g n i d) := by
  have h := (dats m 0 c).arrAt_emb_eq_flushed 3 disjoint3 t (flushes3 t) (ix4 g n i d)
  have e : ((cfg0.win 3).blk t).view.emb (ix4 g n i d) = ix4 (⟨q.val * 4 + g.val, by omega⟩ : Fin 96) n i d := by
    blk_ext [index3, hq]
  rw [e] at h
  rw [h]
  blk_simp
  rw [after0_3]

end blocks

section value
variable (m : (ℓ : Loc nD τ sig) → Buf (Elt Ideal) ℓ) (c : Dev nD) (M : Fin 96 → Fin 4 → Mat) (U : Fin 96 → Fin 4 → Fin 64 → Fin 128 → EReal)
  (ha : ∀ b n i j, m ((c : Thread nD τ).loc main_arg0) (ix3 b i (lane n j)) = M b n i j) (hp : ∀ b n i j, 0 ≤ M b n i j)
  (hu : ∀ b n k d, m ((c : Thread nD τ).loc main_arg1) (ix4 b n k d) = U b n k d) (hl : ∀ b n k d, U b n k d ≠ ⊤)
include ha hp

theorem z_apply (b : Fin 96) (n : Fin 4) (i j : Fin 64) :
    (dats m 0 c).arrAt 2 cfg0.N (ix4 b n i j) = Cert.Inverse.inverse (M b n) i j := by
  obtain ⟨q, g, rfl⟩ : ∃ (q : Fin 24) (g : Fin 4), b = (⟨q.val * 4 + g.val, by omega⟩ : Fin 96) :=
    ⟨⟨b.val / 4, by omega⟩, ⟨b.val % 4, by omega⟩, Fin.ext (by show b.val = b.val / 4 * 4 + b.val % 4; omega)⟩
  obtain ⟨t, hq⟩ := exists_point q
  refine (z_at m c t q hq g n i j).trans ?_
  obtain ⟨h0, h1, h2, h3⟩ := iterates_heads (iblk m c 0 t) (fun g => M (⟨q.val * 4 + g.val, by omega⟩ : Fin 96))
    (fun g n i j => (blk0 m c t q hq g i _).trans (ha _ n i j)) (fun g n i j => hp _ n i j)
  exact zBlock_heads (fun g n => Cert.Inverse.inverse (M (⟨q.val * 4 + g.val, by omega⟩ : Fin 96) n)) _ h0 h1 h2 h3 _

include hu hl

theorem b_apply (b : Fin 96) (n : Fin 4) (i : Fin 64) (d : Fin 128) :
    (dats m 0 c).arrAt 3 cfg0.N (ix4 b n i d) = ∑ k, Cert.Inverse.inverse (M b n) i k * U b n k d := by
  obtain ⟨q, g, rfl⟩ : ∃ (q : Fin 24) (g : Fin 4), b = (⟨q.val * 4 + g.val, by omega⟩ : Fin 96) :=
    ⟨⟨b.val / 4, by omega⟩, ⟨b.val % 4, by omega⟩, Fin.ext (by show b.val = b.val / 4 * 4 + b.val % 4; omega)⟩
  obtain ⟨t, hq⟩ := exists_point q
  refine (b_at m c t q hq g n i d).trans ?_
  obtain ⟨h0, h1, h2, h3⟩ := iterates_heads (iblk m c 0 t) (fun g => M (⟨q.val * 4 + g.val, by omega⟩ : Fin 96))
    (fun g n i j => (blk0 m c t q hq g i _).trans (ha _ n i j)) (fun g n i j => hp _ n i j)
  exact bBlock_heads (fun g n => Cert.Inverse.inverse (M (⟨q.val * 4 + g.val, by omega⟩ : Fin 96) n)) (fun g => U (⟨q.val * 4 + g.val, by omega⟩ : Fin 96)) _
    (fun g n k d => (blk1 m c t q hq g n k d).trans (hu _ n k d))
    (fun g n i k => (Cert.Inverse.iterate_state (Cert.Inverse.start_state (hp _ n)) 6).ne_top i k) (fun g n k d => hl _ n k d) _ h0 h1 h2 h3 _

end value

end Cert.PinvIdeal.Invert

end
-- ==== Proof.Pinv.RefValue.lean ====
/- The reference's two results at an index: the same iterates of the same heads. -/
module

public import proofs.«01_k».proof.Proof.Gen.PinvReferenceIdeal.Run
public import proofs.«01_k».proof.Proof.Pinv.StartValue

@[expose] public section

set_option maxRecDepth 65536

noncomputable section

namespace Cert.PinvReferenceIdeal.Value

open Cert.PinvReferenceIdeal Cert.PinvReferenceIdeal.Gen Idealize.ShloMosaic.StableHlo

open Idealize.ShloMosaic Idealize.ShloMosaic.TcCoe Idealize.ShloMosaic.Tactic
open Idealize.SL.Sem

variable {F : FTy → Type} [FloatOps F]

open Cert.Inverse (Mat)
open Cert.PinvIdeal.Invert (lane ofBits_negInf word7 word13 word15 quarter_word select_bit)

/-- The heads' product. -/
def times (x y : FVec F S96x4x64x64 .f32) : FVec F S96x4x64x64 .f32 :=
  Host.dotGeneral dot_S96x4x64x64_S96x4x64x64_S96x4x64x64_3_2_2_3_01_01 (some .fp32) x y
/-- The identity matrix. -/
def eye : FVec F S64x64 .f32 :=
  uitofp .f32 (cmpi .eq (addi (iotaInDim S64x64 32 0) (broadcastInDim S64x64 ![] bcast_S_S64x64 (constantI S_ 32 0#32))) (iotaInDim S64x64 32 1))
/-- `w · 1 - y`. -/
def minus (w : BitVec 32) (y : FVec F S96x4x64x64 .f32) : FVec F S96x4x64x64 .f32 :=
  subf (broadcastInDim S96x4x64x64 ![0, 1, 2, 3] bcast_S1x1x64x64_S96x4x64x64_0_1_2_3 (broadcastInDim S1x1x64x64 ![2, 3] bcast_S64x64_S1x1x64x64_2_3 (mulf (broadcastInDim S64x64 ![] bcast_S_S64x64 (constant S_ .f32 w)) eye))) y
/-- A quarter. -/
def fourth (z : FVec F S96x4x64x64 .f32) : FVec F S96x4x64x64 .f32 :=
  mulf (broadcastInDim S96x4x64x64 ![] bcast_S_S96x4x64x64 (constant S_ .f32 0x3E800000#32)) z
/-- One step. -/
def next (a z : FVec F S96x4x64x64 .f32) : FVec F S96x4x64x64 .f32 :=
  times (fourth z) (minus 0x41500000#32 (times (times a z) (minus 0x41700000#32 (times (times a z) (minus 0x40E00000#32 (times a z))))))
/-- The heads. -/
def heads (x : FVec F S96x64x256 .f32) : FVec F S96x4x64x64 .f32 :=
  transpose S96x4x64x64 [0, 2, 1, 3] (shapeCast _ x shapeCasts_S96x64x256_S96x64x4x64) transposes_S96x64x4x64_S96x4x64x64_0_2_1_3
def colTops (a : FVec F S96x4x64x64 .f32) : FVec F S96x4 .f32 :=
  Host.reduce FloatOps.maximumf (Host.reduceAdd a (constant S_ .f32 0x00000000#32) reducesTo_S96x4x64x64_S96x4x64_d2 h_S_) (constant S_ .f32 0xFF800000#32) reducesTo_S96x4x64_S96x4_d2 h_S_
def rowTops (a : FVec F S96x4x64x64 .f32) : FVec F S96x4 .f32 :=
  Host.reduce FloatOps.maximumf (Host.reduceAdd a (constant S_ .f32 0x00000000#32) reducesTo_S96x4x64x64_S96x4x64_d3 h_S_) (constant S_ .f32 0xFF800000#32) reducesTo_S96x4x64_S96x4_d2 h_S_
/-- The starting iterate. -/
def first (a : FVec F S96x4x64x64 .f32) : FVec F S96x4x64x64 .f32 :=
  Host.divf (transpose S96x4x64x64 [0, 1, 3, 2] a transposes_S96x4x64x64_S96x4x64x64_0_1_3_2) (broadcastInDim S96x4x64x64 ![0, 1, 2, 3] bcast_S96x4x1x1_S96x4x64x64_0_1_2_3 (broadcastInDim S96x4x1x1 ![0, 1] bcast_S96x4_S96x4x1x1_0_1 (mulf (colTops a) (rowTops a))))
/-- The sixth iterate. -/
def sixth (a : FVec F S96x4x64x64 .f32) : FVec F S96x4x64x64 .f32 := next a (next a (next a (next a (next a (next a (first a))))))
/-- Its product with the landmark values. -/
def applied (z : FVec F S96x4x64x64 .f32) (u : FVec F S96x4x64x128 .f32) : FVec F S96x4x64x128 .bf16 :=
  truncf .bf16 (Host.dotGeneral dot_S96x4x64x64_S96x4x64x128_S96x4x64x128_3_2_2_3_01_01 (some .fp32) z u) bitsLt_bf16_f32

theorem v1_eq (V0 : Valuation τ sig (Elt F)) : res_main_v1 V0 = heads (V0 (Proc.devRef .tc main_arg0)) := rfl
theorem v16_eq (V0 : Valuation τ sig (Elt F)) : res_main_v16 V0 = first (res_main_v1 V0) := rfl
theorem v37_eq (V0 : Valuation τ sig (Elt F)) : res_main_v37 V0 = next (res_main_v1 V0) (res_main_v16 V0) := rfl
theorem v58_eq (V0 : Valuation τ sig (Elt F)) : res_main_v58 V0 = next (res_main_v1 V0) (res_main_v37 V0) := rfl
theorem v79_eq (V0 : Valuation τ sig (Elt F)) : res_main_v79 V0 = next (res_main_v1 V0) (res_main_v58 V0) := rfl
theorem v100_eq (V0 : Valuation τ sig (Elt F)) : res_main_v100 V0 = next (res_main_v1 V0) (res_main_v79 V0) := rfl
theorem v121_eq (V0 : Valuation τ sig (Elt F)) : res_main_v121 V0 = next (res_main_v1 V0) (res_main_v100 V0) := rfl

/-- The run, with the two results as functions of the arguments. -/
theorem run_sixth (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v142) = sixth (heads (m ((c.tc : Thread nD τ).loc main_arg0)))
      ∧ r.2.mem ((c.tc : Thread nD τ).loc main_v144) = applied (sixth (heads (m ((c.tc : Thread nD τ).loc main_arg0)))) (m ((c.tc : Thread nD τ).loc main_arg1)) := by
  refine (θ_run defs _ _).mono (fun r h c => ?_) (run m ρ)
  obtain ⟨h1, h2, -, -⟩ := h c
  have e : next (res_main_v1 (launchContents m c)) (res_main_v121 (launchContents m c)) = sixth (heads (m ((c.tc : Thread nD τ).loc main_arg0))) := by
    rw [v121_eq, v100_eq, v79_eq, v58_eq, v37_eq, v16_eq, v1_eq]; rfl
  constructor
  · rw [← e]; exact h1
  · rw [← e]; exact h2

/-- The array of heads. -/
def Has (x : FVec Ideal S96x4x64x64 .f32) (M : Fin 96 → Fin 4 → Mat) : Prop := ∀ b n i j, x (ix4 b n i j) = M b n i j

theorem times_heads {x y : FVec Ideal S96x4x64x64 .f32} {X Y : Fin 96 → Fin 4 → Mat} (hx : Has x X) (hy : Has y Y) :
    Has (times x y) (fun b n => Cert.Inverse.mul (X b n) (Y b n)) := by
  intro b n i j
  pointwise [times]
  exact Finset.sum_congr rfl fun k _ => by rw [hx b n i k, hy b n k j]

theorem eye_word (i j : Fin 64) : IntOp.cmpi CmpIPredicate.eq (IntOp.addi (BitVec.ofNat 32 i.val) 0#32) (BitVec.ofNat 32 j.val) = if i = j then 1#1 else 0#1 := by
  revert i j
  decide +kernel

theorem bit_real (p : Prop) [Decidable p] : (FloatOps.uitofp FTy.f32 (if p then 1#1 else 0#1) : Ideal .f32) = ((if p then 1 else 0 : ℝ) : EReal) := by
  split <;> simp [FloatOps.uitofp]

theorem eye_apply (i j : Fin 64) : eye (F := Ideal) (ix2 i j) = ((if i = j then 1 else 0 : ℝ) : EReal) := by
  pointwise [eye]
  refine (congrArg (fun w => (FloatOps.uitofp FTy.f32 w : Ideal .f32)) (eye_word i j)).trans ?_
  exact bit_real _

theorem minus_heads {y : FVec Ideal S96x4x64x64 .f32} {Y : Fin 96 → Fin 4 → Mat} (hy : Has y Y) (w : BitVec 32) (r : ℝ) (hw : Ideal.ofBits .f32 w = (r : EReal)) :
    Has (minus w y) (fun b n => Cert.Inverse.less r (Y b n)) := by
  intro b n i j
  have e := eye_apply i j
  have h := hy b n i j
  pointwise [minus]
  rw [e, h, hw]
  rfl

theorem fourth_heads {y : FVec Ideal S96x4x64x64 .f32} {Y : Fin 96 → Fin 4 → Mat} (hy : Has y Y) :
    Has (fourth y) (fun b n => Cert.Inverse.quarter (Y b n)) := by
  intro b n i j
  have h := hy b n i j
  pointwise [fourth]
  rw [h, quarter_word]
  rfl

theorem next_heads {a z : FVec Ideal S96x4x64x64 .f32} {A Z : Fin 96 → Fin 4 → Mat} (ha : Has a A) (hz : Has z Z) :
    Has (next a z) (fun b n => Cert.Inverse.newton (A b n) (Z b n)) :=
  have az := times_heads ha hz
  times_heads (fourth_heads hz) (minus_heads (times_heads az (minus_heads (times_heads az (minus_heads az _ 7 word7)) _ 15 word15)) _ 13 word13)

section scales
variable {a : FVec Ideal S96x4x64x64 .f32} {A : Fin 96 → Fin 4 → Mat} (ha : Has a A)
include ha

theorem colTops_heads (b : Fin 96) (n : Fin 4) : colTops a (ix2 b n) = Cert.Inverse.top (Cert.Inverse.colSum (A b n)) := by
  pointwise [colTops]
  rw [ofBits_negInf]
  refine congrArg (fun f => Finset.fold max (⊥ : EReal) f Finset.univ) (funext fun j => ?_)
  exact Finset.sum_congr rfl fun i _ => ha b n i j

theorem rowTops_heads (b : Fin 96) (n : Fin 4) : rowTops a (ix2 b n) = Cert.Inverse.top (Cert.Inverse.rowSum (A b n)) := by
  pointwise [rowTops]
  rw [ofBits_negInf]
  refine congrArg (fun f => Finset.fold max (⊥ : EReal) f Finset.univ) (funext fun i => ?_)
  exact Finset.sum_congr rfl fun j _ => ha b n i j

theorem first_heads : Has (first a) (fun b n => Cert.Inverse.start (A b n)) := by
  intro b n i j
  have hc := colTops_heads ha b n
  have hr := rowTops_heads ha b n
  have h := ha b n j i
  pointwise [first]
  rw [hc, hr, h]
  rfl

theorem sixth_heads : Has (sixth a) (fun b n => Cert.Inverse.inverse (A b n)) :=
  next_heads ha (next_heads ha (next_heads ha (next_heads ha (next_heads ha (next_heads ha (first_heads ha))))))

end scales

theorem heads_apply (x : FVec Ideal S96x64x256 .f32) (b : Fin 96) (n : Fin 4) (i j : Fin 64) : heads x (ix4 b n i j) = x (ix3 b i (lane n j)) := by
  pointwise [heads]

theorem applied_heads {z : FVec Ideal S96x4x64x64 .f32} {Z : Fin 96 → Fin 4 → Mat} (hz : Has z Z) (u : FVec Ideal S96x4x64x128 .f32) (U : Fin 96 → Fin 4 → Fin 64 → Fin 128 → EReal)
    (hu : ∀ b n k d, u (ix4 b n k d) = U b n k d) (b : Fin 96) (n : Fin 4) (i : Fin 64) (d : Fin 128) :
    applied z u (ix4 b n i d) = ∑ k, Z b n i k * U b n k d := by
  pointwise [applied]
  exact Finset.sum_congr rfl fun k _ => by rw [hz b n i k, hu b n k d]

end Cert.PinvReferenceIdeal.Value

end
-- ==== Proof.Pinv.Equal.lean ====
/- The kernel's two results and the reference's are the same arrays: the sixth iterate of every head, and its product with
   the landmark values. -/
module

public import proofs.«01_k».proof.Defs
public import proofs.«01_k».proof.Proof.Pinv.Nonnegative
public import proofs.«01_k».proof.Proof.Pinv.KernelValue
public import proofs.«01_k».proof.Proof.Pinv.RefValue
public import Idealize.ShloMosaic.Lib.Quiescent

@[expose] public section

set_option maxRecDepth 16384

noncomputable section

namespace Cert.Inverse

open Idealize.ShloMosaic Idealize.ShloMosaic.TcCoe Idealize.SL.Sem
open Cert.PinvIdeal.Invert (lane)

/-- The heads' matrices in the argument. -/
def parts (x : FVec Ideal Cert.PinvIdeal.S96x64x256 .f32) (b : Fin 96) (n : Fin 4) : Mat := fun i j => x (ix3 b i (lane n j))

section equal
variable (m : (ℓ : Loc Cert.PinvIdeal.nD Cert.PinvIdeal.τ Cert.PinvIdeal.sig) → Buf (Elt Ideal) ℓ)
    (hPre : Cert.Pre_nonnegative.Facts) (hm : Cert.Pre_PinvIdeal_nonnegative m) (c : Dev Cert.PinvIdeal.nD)
    (x : FVec Ideal Cert.PinvReferenceIdeal.S96x64x256 .f32) (u : FVec Ideal Cert.PinvReferenceIdeal.S96x4x64x128 .f32)
    (h0 : x = m ((c : Thread Cert.PinvIdeal.nD Cert.PinvIdeal.τ).loc Cert.PinvIdeal.main_arg0))
    (h1 : u = m ((c : Thread Cert.PinvIdeal.nD Cert.PinvIdeal.τ).loc Cert.PinvIdeal.main_arg1))
include hm h0

theorem z_eq : (Cert.PinvReferenceIdeal.Value.sixth (Cert.PinvReferenceIdeal.Value.heads x) : Vec Ideal Cert.PinvReferenceIdeal.S96x4x64x64 .f32)
    = (Cert.PinvIdeal.Invert.dats m 0 c).arrAt 2 Cert.PinvIdeal.cfg0.N := by
  obtain ⟨hp, hl⟩ := Cert.Pre_nonnegative.bounds _ _ (hm c)
  funext y
  obtain ⟨b, n, i, j, rfl⟩ : ∃ (b : Fin 96) (n : Fin 4) (i j : Fin 64), y = ix4 b n i j := ⟨y 0, y 1, y 2, y 3, eq_ix4 y⟩
  have hx : Cert.PinvReferenceIdeal.Value.Has (Cert.PinvReferenceIdeal.Value.heads x) (parts x) := fun b n i j =>
    Cert.PinvReferenceIdeal.Value.heads_apply x b n i j
  exact (Cert.PinvReferenceIdeal.Value.sixth_heads hx b n i j).trans (Cert.PinvIdeal.Invert.z_apply m c (parts x) (fun b n i j => (congrFun h0 _).symm) (fun b n i j => (hp _).trans_eq (congrFun h0 _).symm) b n i j).symm

include h1

theorem b_eq : (Cert.PinvReferenceIdeal.Value.applied (Cert.PinvReferenceIdeal.Value.sixth (Cert.PinvReferenceIdeal.Value.heads x)) u : Vec Ideal Cert.PinvReferenceIdeal.S96x4x64x128 .bf16)
    = (Cert.PinvIdeal.Invert.dats m 0 c).arrAt 3 Cert.PinvIdeal.cfg0.N := by
  obtain ⟨hp, hl⟩ := Cert.Pre_nonnegative.bounds _ _ (hm c)
  funext y
  obtain ⟨b, n, i, d, rfl⟩ : ∃ (b : Fin 96) (n : Fin 4) (i : Fin 64) (d : Fin 128), y = ix4 b n i d := ⟨y 0, y 1, y 2, y 3, eq_ix4 y⟩
  have hx : Cert.PinvReferenceIdeal.Value.Has (Cert.PinvReferenceIdeal.Value.heads x) (parts x) := fun b n i j =>
    Cert.PinvReferenceIdeal.Value.heads_apply x b n i j
  exact (Cert.PinvReferenceIdeal.Value.applied_heads (Cert.PinvReferenceIdeal.Value.sixth_heads hx) u (fun b n k d => u (ix4 b n k d))
    (fun b n k d => rfl) b n i d).trans (Cert.PinvIdeal.Invert.b_apply m c (parts x) (fun b n k d => u (ix4 b n k d))
      (fun b n i j => (congrFun h0 _).symm) (fun b n i j => (hp _).trans_eq (congrFun h0 _).symm) (fun b n k d => (congrFun h1 _).symm)
      (fun b n k d => by rw [h1]; exact hl _) b n i d).symm

end equal

/-- The two results of the kernel are the reference's, over the extended reals, on matrices without negative entries and landmark values below `+∞`. -/
theorem value (hPre : Cert.Pre_nonnegative.Facts) : Cert.algebraic_PinvIdeal_PinvReferenceIdeal_pre_nonnegative (hPinvIdeal := Cert.PinvIdeal.Gen.facts)
    (hPinvReferenceIdeal := Cert.PinvReferenceIdeal.Gen.facts) (hPre_nonnegative := hPre) := fun m g m' g' hm h =>
  ⟨fun c => (Cert.PinvIdeal.Invert.dats m 0 c).arrAt 2 Cert.PinvIdeal.cfg0.N, fun c => (Cert.PinvIdeal.Invert.dats m 0 c).arrAt 3 Cert.PinvIdeal.cfg0.N,
    (θ_run Cert.PinvIdeal.defs _ _).mono
      (fun r hr c => ⟨Cert.PinvIdeal.Invert.post2 m r hr.1 c, Cert.PinvIdeal.Invert.post3 m r hr.1 c, hr.2 c⟩)
      (θ_run_and (Cert.PinvIdeal.Invert.run_main m g) (Cert.PinvIdeal.Invert.unchanged m g)),
    (θ_run Cert.PinvReferenceIdeal.defs _ _).mono
      (fun r hr c => ⟨(hr.1 c).1.trans (z_eq m hPre hm c _ (h c).1), (hr.1 c).2.trans (b_eq m hPre hm c _ _ (h c).1 (h c).2), (hr.2 c).2.2⟩)
      (θ_run_and (Cert.PinvReferenceIdeal.Value.run_sixth m' g') (Cert.PinvReferenceIdeal.Value.run m' g'))⟩

/-- The reference's frame; it has no semaphore. -/
theorem reference_frame (m : (ℓ : Loc Cert.PinvReferenceIdeal.nD Cert.PinvReferenceIdeal.τ Cert.PinvReferenceIdeal.sig) → Buf (Elt Ideal) ℓ) (g : Dev Cert.PinvReferenceIdeal.nD → PrngReg) :
    θ_run (Cert.PinvReferenceIdeal.defs (F := Ideal)) (onTc (τ := Cert.PinvReferenceIdeal.τ) (Cert.PinvReferenceIdeal.main (F := Ideal))) ⟨m, fun _ => 0, g⟩ (fun r => (∀ c : Dev Cert.PinvReferenceIdeal.nD,
      r.2.mem ((c.tc : Thread Cert.PinvReferenceIdeal.nD Cert.PinvReferenceIdeal.τ).loc Cert.PinvReferenceIdeal.main_arg0) = m ((c.tc : Thread Cert.PinvReferenceIdeal.nD Cert.PinvReferenceIdeal.τ).loc Cert.PinvReferenceIdeal.main_arg0)
      ∧ r.2.mem ((c.tc : Thread Cert.PinvReferenceIdeal.nD Cert.PinvReferenceIdeal.τ).loc Cert.PinvReferenceIdeal.main_arg1) = m ((c.tc : Thread Cert.PinvReferenceIdeal.nD Cert.PinvReferenceIdeal.τ).loc Cert.PinvReferenceIdeal.main_arg1))
      ∧ r.2.sem = fun _ => 0) :=
  (θ_run Cert.PinvReferenceIdeal.defs _ _).mono (fun r h => ⟨fun c => (h c).2.2, Idealize.ShloMosaic.sem_eq_zero_of_no_sems (by decide) r.2⟩)
    (Cert.PinvReferenceIdeal.Value.run m g)

end Cert.Inverse

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Attend.BitsFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Attend.Equal
public import proofs.«01_k».proof.Proof.Gen.Pinv
public import proofs.«01_k».proof.Proof.Gen.Pinv.Skeleton
public import proofs.«01_k».proof.Proof.Gen.Pinv.Loops
public import proofs.«01_k».proof.Proof.Gen.Pinv.Launch
public import proofs.«01_k».proof.Proof.Gen.Pinv.Points
public import proofs.«01_k».proof.Proof.Gen.Pinv.Frame
public import proofs.«01_k».proof.Proof.Gen.PinvIdeal
public import proofs.«01_k».proof.Proof.Gen.PinvIdeal.Skeleton
public import proofs.«01_k».proof.Proof.Gen.PinvIdeal.Loops
public import proofs.«01_k».proof.Proof.Gen.PinvIdeal.Launch
public import proofs.«01_k».proof.Proof.Gen.PinvIdeal.Points
public import proofs.«01_k».proof.Proof.Gen.PinvIdeal.Frame
public import proofs.«01_k».proof.Proof.Gen.PinvReferenceIdeal
public import proofs.«01_k».proof.Proof.Gen.PinvReferenceIdeal.Run
public import proofs.«01_k».proof.Proof.Pinv.BitsLaunch
public import proofs.«01_k».proof.Proof.Pinv.Equal
public import Idealize.ShloMosaic.Adequacy
public import Idealize.ShloMosaic.Init

@[expose] public section

noncomputable section

namespace Cert.Proof

open Idealize.ShloMosaic Idealize.SL.Sem Cert.Kernel

/-- The kernel's `out` is the reference's, over the extended reals, on finite codes, scales and taps. -/
theorem value (hPre : Cert.Pre_finite.Facts) : Cert.algebraic_KernelIdeal_ReferenceIdeal_pre_finite (hKernelIdeal := Cert.KernelIdeal.Gen.facts)
    (hReferenceIdeal := Cert.ReferenceIdeal.Gen.facts) (hPre_finite := hPre) := fun m g m' g' hm h =>
  ⟨fun c => (Cert.KernelIdeal.Attend.dats m 0 c).arrAt 8 Cert.KernelIdeal.cfg0.N, Cert.KernelIdeal.Attend.run_blocks m g,
    (θ_run Cert.ReferenceIdeal.defs _ _).mono
      (fun _ r c => ⟨(r c).1.trans (Cert.Attend.result_eq hPre m m' hm c (h c).1 (h c).2.1 (h c).2.2.1 (h c).2.2.2.1 (h c).2.2.2.2.1 (h c).2.2.2.2.2.1 (h c).2.2.2.2.2.2), (r c).2⟩)
      (Cert.ReferenceIdeal.Value.run m' g')⟩

theorem claim : Cert.Claim := ⟨Cert.Kernel.Gen.facts, Cert.KernelIdeal.Gen.facts, Cert.ReferenceIdeal.Gen.facts,
  Cert.Pinv.Gen.facts, Cert.PinvIdeal.Gen.facts, Cert.PinvReferenceIdeal.Gen.facts, Cert.Pre_finite.facts, Cert.Pre_nonnegative.facts,
  fun m g _ => Cert.Kernel.Attend.frame m g,
  fun m g _ => Cert.KernelIdeal.Attend.frame m g,
  fun m g _ => Cert.KernelIdeal.Attend.frame m g,
  fun m g _ => Cert.ReferenceIdeal.Gen.frame m g,
  fun m g _ => Cert.ReferenceIdeal.Gen.frame m g,
  fun m g _ => Cert.Pinv.Invert.frame m g,
  fun m g _ => Cert.PinvIdeal.Invert.frame m g,
  fun m g _ => Cert.PinvIdeal.Invert.frame m g,
  fun m g _ => Cert.Inverse.reference_frame m g,
  fun m g _ => Cert.Inverse.reference_frame m g,
  IdealRules.named_const.statement _ "log2_e" .f32 _ _ rfl,
  value Cert.Pre_finite.facts,
  trivial,
  Cert.Inverse.value Cert.Pre_nonnegative.facts⟩

end Cert.Proof

end
